-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_context [hPre_finite_context : Cert.Pre_finite_context.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_context.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).1 = (fun _ => 1#1)
    ∧ (Cert.Pre_finite_context.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_context [hPre_finite_context : Cert.Pre_finite_context.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_context.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).1 = (fun _ => 1#1)
    ∧ (Cert.Pre_finite_context.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite_context [hKernel3Ideal : Cert.Kernel3Ideal.Facts] [hPre_finite_context : Cert.Pre_finite_context.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_context m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite_context [hReference3Ideal : Cert.Reference3Ideal.Facts] [hPre_finite_context : Cert.Pre_finite_context.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_context m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def preserves_Kernel_KernelIdeal : Prop :=
  True

def algebraic_KernelIdeal_ReferenceIdeal_on_real_rows_pre_finite_rows [hKernelIdeal : Cert.KernelIdeal.Facts] [hReferenceIdeal : Cert.ReferenceIdeal.Facts] [hPre_finite_rows : Cert.Pre_finite_rows.Facts] [hOn_real_rows : Cert.On_real_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24_1)) (v1 : (c : Dev Cert.KernelIdeal.nD) → Buf (Elt Ideal) ((c.tc : Thread Cert.KernelIdeal.nD Cert.KernelIdeal.τ).loc Cert.KernelIdeal.main_v24_2)) (v2 : (c : Dev Cert.KernelIdeal.nD) → Buf (Elt Ideal) ((c.tc : Thread Cert.KernelIdeal.nD Cert.KernelIdeal.τ).loc Cert.KernelIdeal.main_v24_0)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v23)) (v5 : (c : Dev Cert.KernelIdeal.nD) → Buf (Elt Ideal) ((c.tc : Thread Cert.KernelIdeal.nD Cert.KernelIdeal.τ).loc Cert.KernelIdeal.main_v24_4)) (v6 : (c : Dev Cert.KernelIdeal.nD) → Buf (Elt Ideal) ((c.tc : Thread Cert.KernelIdeal.nD Cert.KernelIdeal.τ).loc Cert.KernelIdeal.main_v24_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 1024, 8208]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.KernelIdeal.nD Cert.KernelIdeal.τ).loc Cert.KernelIdeal.main_v24_1) i = v0 c i)
          ∧ (∀ i : (⟨3, ![2, 1024, 8208]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.KernelIdeal.nD Cert.KernelIdeal.τ).loc Cert.KernelIdeal.main_v24_2) i = v1 c i)
          ∧ (∀ i : (⟨3, ![2, 8448, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 i = 1#1 → r.2.mem ((c.tc : Thread Cert.KernelIdeal.nD Cert.KernelIdeal.τ).loc Cert.KernelIdeal.main_v24_0) i = v2 c i)
          ∧ (∀ i : (⟨3, ![2, 8448, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 i = 1#1 → r.2.mem ((c.tc : Thread Cert.KernelIdeal.nD Cert.KernelIdeal.τ).loc Cert.KernelIdeal.main_v24_3) i = v3 c i)
          ∧ (∀ i : (⟨4, ![1, 2, 15, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 i = 1#1 → r.2.mem ((c.tc : Thread Cert.KernelIdeal.nD Cert.KernelIdeal.τ).loc Cert.KernelIdeal.main_v23) i = v4 c i)
          ∧ (∀ i : (⟨4, ![2, 33, 1024, 256]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 i = 1#1 → r.2.mem ((c.tc : Thread Cert.KernelIdeal.nD Cert.KernelIdeal.τ).loc Cert.KernelIdeal.main_v24_4) i = v5 c i)
          ∧ (∀ i : (⟨4, ![2, 33, 1024, 256]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 i = 1#1 → r.2.mem ((c.tc : Thread Cert.KernelIdeal.nD Cert.KernelIdeal.τ).loc Cert.KernelIdeal.main_v24_5) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 1024, 8208]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.ReferenceIdeal.nD Cert.ReferenceIdeal.τ).loc Cert.ReferenceIdeal.main_v224) i = v0 c i)
          ∧ (∀ i : (⟨3, ![2, 1024, 8208]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.ReferenceIdeal.nD Cert.ReferenceIdeal.τ).loc Cert.ReferenceIdeal.main_v226) i = v1 c i)
          ∧ (∀ i : (⟨3, ![2, 8448, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 i = 1#1 → r.2.mem ((c.tc : Thread Cert.ReferenceIdeal.nD Cert.ReferenceIdeal.τ).loc Cert.ReferenceIdeal.main_v234) i = v2 c i)
          ∧ (∀ i : (⟨3, ![2, 8448, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 i = 1#1 → r.2.mem ((c.tc : Thread Cert.ReferenceIdeal.nD Cert.ReferenceIdeal.τ).loc Cert.ReferenceIdeal.main_v236) i = v3 c i)
          ∧ (∀ i : (⟨4, ![1, 2, 15, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 i = 1#1 → r.2.mem ((c.tc : Thread Cert.ReferenceIdeal.nD Cert.ReferenceIdeal.τ).loc Cert.ReferenceIdeal.main_v238) i = v4 c i)
          ∧ (∀ i : (⟨4, ![2, 33, 1024, 256]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 i = 1#1 → r.2.mem ((c.tc : Thread Cert.ReferenceIdeal.nD Cert.ReferenceIdeal.τ).loc Cert.ReferenceIdeal.main_v242) i = v5 c i)
          ∧ (∀ i : (⟨4, ![2, 33, 1024, 256]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 i = 1#1 → r.2.mem ((c.tc : Thread Cert.ReferenceIdeal.nD Cert.ReferenceIdeal.τ).loc Cert.ReferenceIdeal.main_v246) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite_context [hKernel3Ideal : Cert.Kernel3Ideal.Facts] [hReference3Ideal : Cert.Reference3Ideal.Facts] [hPre_finite_context : Cert.Pre_finite_context.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_context m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v31_1)) (v1 : (c : Dev Cert.Kernel3Ideal.nD) → Buf (Elt Ideal) ((c.tc : Thread Cert.Kernel3Ideal.nD Cert.Kernel3Ideal.τ).loc Cert.Kernel3Ideal.main_v31_2)) (v2 : (c : Dev Cert.Kernel3Ideal.nD) → Buf (Elt Ideal) ((c.tc : Thread Cert.Kernel3Ideal.nD Cert.Kernel3Ideal.τ).loc Cert.Kernel3Ideal.main_v31_0)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_1) = v0 c
          ∧ r.2.mem ((c.tc : Thread Cert.Kernel3Ideal.nD Cert.Kernel3Ideal.τ).loc Cert.Kernel3Ideal.main_v31_2) = v1 c
          ∧ r.2.mem ((c.tc : Thread Cert.Kernel3Ideal.nD Cert.Kernel3Ideal.τ).loc Cert.Kernel3Ideal.main_v31_0) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v29) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v233) = v0 c
          ∧ r.2.mem ((c.tc : Thread Cert.Reference3Ideal.nD Cert.Reference3Ideal.τ).loc Cert.Reference3Ideal.main_v237) = v1 c
          ∧ r.2.mem ((c.tc : Thread Cert.Reference3Ideal.nD Cert.Reference3Ideal.τ).loc Cert.Reference3Ideal.main_v240) = v2 c
          ∧ r.2.mem ((c.tc : Thread Cert.Reference3Ideal.nD Cert.Reference3Ideal.τ).loc Cert.Reference3Ideal.main_v244) = v3 c
          ∧ r.2.mem ((c.tc : Thread Cert.Reference3Ideal.nD Cert.Reference3Ideal.τ).loc Cert.Reference3Ideal.main_v246) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite_rows : Cert.Pre_finite_rows.Facts) (hPre_finite_context : Cert.Pre_finite_context.Facts) (hOn_real_rows : Cert.On_real_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_context (hKernel3Ideal := hKernel3Ideal) (hPre_finite_context := hPre_finite_context)
    ∧ quiescent_Reference3Ideal (hReference3Ideal := hReference3Ideal)
    ∧ quiescent_Reference3Ideal_pre_finite_context (hReference3Ideal := hReference3Ideal) (hPre_finite_context := hPre_finite_context)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal_on_real_rows_pre_finite_rows (hKernelIdeal := hKernelIdeal) (hReferenceIdeal := hReferenceIdeal) (hPre_finite_rows := hPre_finite_rows) (hOn_real_rows := hOn_real_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_context (hKernel3Ideal := hKernel3Ideal) (hReference3Ideal := hReference3Ideal) (hPre_finite_context := hPre_finite_context)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== On_real_rows.lean ====
abbrev S2x8192x1024 : Shape := ⟨3, ![2, 8192, 1024]⟩
abbrev S16x1024 : Shape := ⟨2, ![16, 1024]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1024x2048 : Shape := ⟨2, ![1024, 2048]⟩
abbrev S1x1024x1024 : Shape := ⟨3, ![1, 1024, 1024]⟩
abbrev S2x8448x1024 : Shape := ⟨3, ![2, 8448, 1024]⟩
abbrev S_ : Shape := ⟨0, ![]⟩
abbrev S2x33x1024x256 : Shape := ⟨4, ![2, 33, 1024, 256]⟩
abbrev S2x1024x8208 : Shape := ⟨3, ![2, 1024, 8208]⟩
abbrev S1x2x15x1024 : Shape := ⟨4, ![1, 2, 15, 1024]⟩

class Facts : Prop where
  bcast_S_S2x8448x1024 : S_.BroadcastsInDim S2x8448x1024 (![] : Fin 0 → Fin S2x8448x1024.rank)
  bcast_S_S2x33x1024x256 : S_.BroadcastsInDim S2x33x1024x256 (![] : Fin 0 → Fin S2x33x1024x256.rank)
  bcast_S_S2x1024x8208 : S_.BroadcastsInDim S2x1024x8208 (![] : Fin 0 → Fin S2x1024x8208.rank)
  bcast_S_S1x2x15x1024 : S_.BroadcastsInDim S1x2x15x1024 (![] : Fin 0 → Fin S1x2x15x1024.rank)

variable [Facts]

def fn {F : FTy → Type} [FloatOps F] (main_arg0 : FVec F S2x8192x1024 .f32) (main_arg1 : FVec F S16x1024 .f32) (main_arg2 : FVec F S2x2x1024 .f32) (main_arg3 : FVec F S2x2x1024 .f32) (main_arg4 : FVec F S1x4x256x256 .f32) (main_arg5 : FVec F S1x1024 .f32) (main_arg6 : FVec F S1x1024 .f32) (main_arg7 : FVec F S2x1024x4096 .f32) (main_arg8 : FVec F S2x4096 .f32) (main_arg9 : FVec F S2x4096x1024 .f32) (main_arg10 : FVec F S2x1024 .f32) (main_arg11 : FVec F S1024x2048 .f32) (main_arg12 : FVec F S1x1024x1024 .f32) : IVec S2x1024x8208 1 × IVec S2x1024x8208 1 × IVec S2x8448x1024 1 × IVec S2x8448x1024 1 × IVec S1x2x15x1024 1 × IVec S2x33x1024x256 1 × IVec S2x33x1024x256 1 :=
  let main_v0 : IVec S2x8448x1024 32 := iotaInDim S2x8448x1024 32 1
  let main_c : IVec S_ 32 := constantI S_ 32 8208#32
  let main_v1 : IVec S2x8448x1024 32 := broadcastInDim S2x8448x1024 ![] bcast_S_S2x8448x1024 main_c
  let main_v2 : IVec S2x8448x1024 1 := cmpi .slt main_v0 main_v1
  let main_v3 : IVec S2x33x1024x256 32 := iotaInDim S2x33x1024x256 32 1
  let main_c_0 : IVec S_ 32 := constantI S_ 32 256#32
  let main_v4 : IVec S2x33x1024x256 32 := broadcastInDim S2x33x1024x256 ![] bcast_S_S2x33x1024x256 main_c_0
  let main_v5 : IVec S2x33x1024x256 32 := muli main_v3 main_v4
  let main_v6 : IVec S2x33x1024x256 32 := iotaInDim S2x33x1024x256 32 3
  let main_v7 : IVec S2x33x1024x256 32 := addi main_v5 main_v6
  let main_c_1 : IVec S_ 32 := constantI S_ 32 8208#32
  let main_v8 : IVec S2x33x1024x256 32 := broadcastInDim S2x33x1024x256 ![] bcast_S_S2x33x1024x256 main_c_1
  let main_v9 : IVec S2x33x1024x256 1 := cmpi .slt main_v7 main_v8
  let main_c_2 : IVec S_ 1 := constantI S_ 1 1#1
  let main_v10 : IVec S2x1024x8208 1 := broadcastInDim S2x1024x8208 ![] bcast_S_S2x1024x8208 main_c_2
  let main_c_3 : IVec S_ 1 := constantI S_ 1 1#1
  let main_v11 : IVec S2x1024x8208 1 := broadcastInDim S2x1024x8208 ![] bcast_S_S2x1024x8208 main_c_3
  let main_c_4 : IVec S_ 1 := constantI S_ 1 1#1
  let main_v12 : IVec S1x2x15x1024 1 := broadcastInDim S1x2x15x1024 ![] bcast_S_S1x2x15x1024 main_c_4
  (main_v10, main_v11, main_v2, main_v2, main_v12, main_v9, main_v9)
-- ==== Pre_finite_context.lean ====
abbrev S32x4x1024 : Shape := ⟨3, ![32, 4, 1024]⟩
abbrev S1x32x15x1024 : Shape := ⟨4, ![1, 32, 15, 1024]⟩
abbrev S16x1024 : Shape := ⟨2, ![16, 1024]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1024x2048 : Shape := ⟨2, ![1024, 2048]⟩
abbrev S1x1024x1024 : Shape := ⟨3, ![1, 1024, 1024]⟩
abbrev S_ : Shape := ⟨0, ![]⟩

class Facts : Prop where
  bcast_S_S32x4x1024 : S_.BroadcastsInDim S32x4x1024 (![] : Fin 0 → Fin S32x4x1024.rank)
  bcast_S_S1x32x15x1024 : S_.BroadcastsInDim S1x32x15x1024 (![] : Fin 0 → Fin S1x32x15x1024.rank)

variable [Facts]

def fn {F : FTy → Type} [FloatOps F] (main_arg0 : FVec F S32x4x1024 .f32) (main_arg1 : FVec F S1x32x15x1024 .f32) (main_arg2 : FVec F S16x1024 .f32) (main_arg3 : FVec F S2x2x1024 .f32) (main_arg4 : FVec F S2x2x1024 .f32) (main_arg5 : FVec F S1x4x256x256 .f32) (main_arg6 : FVec F S1x1024 .f32) (main_arg7 : FVec F S1x1024 .f32) (main_arg8 : FVec F S2x1024x4096 .f32) (main_arg9 : FVec F S2x4096 .f32) (main_arg10 : FVec F S2x4096x1024 .f32) (main_arg11 : FVec F S2x1024 .f32) (main_arg12 : FVec F S1024x2048 .f32) (main_arg13 : FVec F S1x1024x1024 .f32) : IVec S32x4x1024 1 × IVec S1x32x15x1024 1 :=
  let main_v0 : FVec F S32x4x1024 .f32 := Host.absf main_arg0
  let main_cst : FVec F S_ .f32 := constant S_ .f32 0x7F800000#32
  let main_v1 : FVec F S32x4x1024 .f32 := broadcastInDim S32x4x1024 ![] bcast_S_S32x4x1024 main_cst
  let main_v2 : IVec S32x4x1024 1 := cmpf .olt main_v0 main_v1
  let main_v3 : FVec F S1x32x15x1024 .f32 := Host.absf main_arg1
  let main_cst_0 : FVec F S_ .f32 := constant S_ .f32 0x7F800000#32
  let main_v4 : FVec F S1x32x15x1024 .f32 := broadcastInDim S1x32x15x1024 ![] bcast_S_S1x32x15x1024 main_cst_0
  let main_v5 : IVec S1x32x15x1024 1 := cmpf .olt main_v3 main_v4
  (main_v2, main_v5)
-- ==== Pre_finite_rows.lean ====
abbrev S2x8192x1024 : Shape := ⟨3, ![2, 8192, 1024]⟩
abbrev S16x1024 : Shape := ⟨2, ![16, 1024]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1024x2048 : Shape := ⟨2, ![1024, 2048]⟩
abbrev S1x1024x1024 : Shape := ⟨3, ![1, 1024, 1024]⟩
abbrev S_ : Shape := ⟨0, ![]⟩

class Facts : Prop where
  bcast_S_S2x8192x1024 : S_.BroadcastsInDim S2x8192x1024 (![] : Fin 0 → Fin S2x8192x1024.rank)
  bcast_S_S16x1024 : S_.BroadcastsInDim S16x1024 (![] : Fin 0 → Fin S16x1024.rank)

variable [Facts]

def fn {F : FTy → Type} [FloatOps F] (main_arg0 : FVec F S2x8192x1024 .f32) (main_arg1 : FVec F S16x1024 .f32) (main_arg2 : FVec F S2x2x1024 .f32) (main_arg3 : FVec F S2x2x1024 .f32) (main_arg4 : FVec F S1x4x256x256 .f32) (main_arg5 : FVec F S1x1024 .f32) (main_arg6 : FVec F S1x1024 .f32) (main_arg7 : FVec F S2x1024x4096 .f32) (main_arg8 : FVec F S2x4096 .f32) (main_arg9 : FVec F S2x4096x1024 .f32) (main_arg10 : FVec F S2x1024 .f32) (main_arg11 : FVec F S1024x2048 .f32) (main_arg12 : FVec F S1x1024x1024 .f32) : IVec S2x8192x1024 1 × IVec S16x1024 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  (main_v2, main_v5)
-- ==== Kernel.lean ====
abbrev S2x8192x1024 : Shape := ⟨3, ![2, 8192, 1024]⟩
abbrev S16x1024 : Shape := ⟨2, ![16, 1024]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1024x2048 : Shape := ⟨2, ![1024, 2048]⟩
abbrev S1x1024x1024 : Shape := ⟨3, ![1, 1024, 1024]⟩
abbrev S4x256x256 : Shape := ⟨3, ![4, 256, 256]⟩
abbrev S1x2x1024 : Shape := ⟨3, ![1, 2, 1024]⟩
abbrev S1x1024x4096 : Shape := ⟨3, ![1, 1024, 4096]⟩
abbrev S1024x4096 : Shape := ⟨2, ![1024, 4096]⟩
abbrev S1x4096 : Shape := ⟨2, ![1, 4096]⟩
abbrev S1x4096x1024 : Shape := ⟨3, ![1, 4096, 1024]⟩
abbrev S4096x1024 : Shape := ⟨2, ![4096, 1024]⟩
abbrev S1024x1024 : Shape := ⟨2, ![1024, 1024]⟩
abbrev S2x15x1024 : Shape := ⟨3, ![2, 15, 1024]⟩
abbrev S1x2x15x1024 : Shape := ⟨4, ![1, 2, 15, 1024]⟩
abbrev S2x8448x1024 : Shape := ⟨3, ![2, 8448, 1024]⟩
abbrev S2x1024x8208 : Shape := ⟨3, ![2, 1024, 8208]⟩
abbrev S2x33x1024x256 : Shape := ⟨4, ![2, 33, 1024, 256]⟩
abbrev S1x16x1024 : Shape := ⟨3, ![1, 16, 1024]⟩
abbrev S1x256x1024 : Shape := ⟨3, ![1, 256, 1024]⟩
abbrev S1x1024x256 : Shape := ⟨3, ![1, 1024, 256]⟩
abbrev S1x1x1024x256 : Shape := ⟨4, ![1, 1, 1024, 256]⟩
abbrev S272x1024 : Shape := ⟨2, ![272, 1024]⟩
abbrev S256x1024 : Shape := ⟨2, ![256, 1024]⟩
abbrev S240x1024 : Shape := ⟨2, ![240, 1024]⟩
abbrev S256x1 : Shape := ⟨2, ![256, 1]⟩
abbrev S256x256 : Shape := ⟨2, ![256, 256]⟩
abbrev S1x256x256 : Shape := ⟨3, ![1, 256, 256]⟩
abbrev S256 : Shape := ⟨1, ![256]⟩
abbrev S1024x256 : Shape := ⟨2, ![1024, 256]⟩

abbrev nBuf : Space → Nat
  | .hbm => 43
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S2x2x1024, .f32⟩
  | .hbm, ⟨3, _⟩ => ⟨S2x2x1024, .f32⟩
  | .hbm, ⟨4, _⟩ => ⟨S1x4x256x256, .f32⟩
  | .hbm, ⟨5, _⟩ => ⟨S1x1024, .f32⟩
  | .hbm, ⟨6, _⟩ => ⟨S1x1024, .f32⟩
  | .hbm, ⟨7, _⟩ => ⟨S2x1024x4096, .f32⟩
  | .hbm, ⟨8, _⟩ => ⟨S2x4096, .f32⟩
  | .hbm, ⟨9, _⟩ => ⟨S2x4096x1024, .f32⟩
  | .hbm, ⟨10, _⟩ => ⟨S2x1024, .f32⟩
  | .hbm, ⟨11, _⟩ => ⟨S1024x2048, .f32⟩
  | .hbm, ⟨12, _⟩ => ⟨S1x1024x1024, .f32⟩
  | .hbm, ⟨13, _⟩ => ⟨S4x256x256, .f32⟩
  | .hbm, ⟨14, _⟩ => ⟨S4x256x256, .bf16⟩
  | .hbm, ⟨15, _⟩ => ⟨S1x2x1024, .f32⟩
  | .hbm, ⟨16, _⟩ => ⟨S2x1024, .f32⟩
  | .hbm, ⟨17, _⟩ => ⟨S1x2x1024, .f32⟩
  | .hbm, ⟨18, _⟩ => ⟨S2x1024, .f32⟩
  | .hbm, ⟨19, _⟩ => ⟨S1x1024x4096, .f32⟩
  | .hbm, ⟨20, _⟩ => ⟨S1024x4096, .f32⟩
  | .hbm, ⟨21, _⟩ => ⟨S1024x4096, .bf16⟩
  | .hbm, ⟨22, _⟩ => ⟨S1x4096, .f32⟩
  | .hbm, ⟨23, _⟩ => ⟨S1x4096x1024, .f32⟩
  | .hbm, ⟨24, _⟩ => ⟨S4096x1024, .f32⟩
  | .hbm, ⟨25, _⟩ => ⟨S4096x1024, .bf16⟩
  | .hbm, ⟨26, _⟩ => ⟨S1x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S2x15x1024, .f32⟩
  | .hbm, ⟨36, _⟩ => ⟨S1x2x15x1024, .f32⟩
  | .hbm, ⟨37, _⟩ => ⟨S2x8448x1024, .f32⟩
  | .hbm, ⟨38, _⟩ => ⟨S2x1024x8208, .f32⟩
  | .hbm, ⟨39, _⟩ => ⟨S2x1024x8208, .f32⟩
  | .hbm, ⟨40, _⟩ => ⟨S2x8448x1024, .bf16⟩
  | .hbm, ⟨41, _⟩ => ⟨S2x33x1024x256, .bf16⟩
  | .hbm, ⟨42, _⟩ => ⟨S2x33x1024x256, .bf16⟩
  | .local _ .vmem, ⟨0, _⟩ => ⟨S1x16x1024, .f32⟩
  | .local _ .vmem, ⟨1, _⟩ => ⟨S1x16x1024, .f32⟩
  | .local _ .vmem, ⟨2, _⟩ => ⟨S1x256x1024, .f32⟩
  | .local _ .vmem, ⟨3, _⟩ => ⟨S1x256x1024, .f32⟩
  | .local _ .vmem, ⟨4, _⟩ => ⟨S16x1024, .f32⟩
  | .local _ .vmem, ⟨5, _⟩ => ⟨S4x256x256, .bf16⟩
  | .local _ .vmem, ⟨6, _⟩ => ⟨S1x1024, .f32⟩
  | .local _ .vmem, ⟨7, _⟩ => ⟨S1x1024, .f32⟩
  | .local _ .vmem, ⟨8, _⟩ => ⟨S2x1024, .f32⟩
  | .local _ .vmem, ⟨9, _⟩ => ⟨S2x1024, .f32⟩
  | .local _ .vmem, ⟨10, _⟩ => ⟨S1024x4096, .bf16⟩
  | .local _ .vmem, ⟨11, _⟩ => ⟨S1x4096, .f32⟩
  | .local _ .vmem, ⟨12, _⟩ => ⟨S4096x1024, .bf16⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | .local _ .vmem, ⟨19, _⟩ => ⟨S1x1024x256, .f32⟩
  | .local _ .vmem, ⟨20, _⟩ => ⟨S1x1024x256, .f32⟩
  | .local _ .vmem, ⟨21, _⟩ => ⟨S1x1024x256, .f32⟩
  | .local _ .vmem, ⟨22, _⟩ => ⟨S1x1024x256, .f32⟩
  | .local _ .vmem, ⟨23, _⟩ => ⟨S1x256x1024, .bf16⟩
  | .local _ .vmem, ⟨24, _⟩ => ⟨S1x256x1024, .bf16⟩
  | .local _ .vmem, ⟨25, _⟩ => ⟨S1x1x1024x256, .bf16⟩
  | .local _ .vmem, ⟨26, _⟩ => ⟨S1x1x1024x256, .bf16⟩
  | .local _ .vmem, ⟨27, _⟩ => ⟨S1x1x1024x256, .bf16⟩
  | .local _ .vmem, ⟨28, _⟩ => ⟨S1x1x1024x256, .bf16⟩
  | .local _ .vmem, ⟨29, _⟩ => ⟨S272x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨2, ![2, 33], ![false, false]⟩

def k0_mult1 (i : grid0.Coords) : BitVec 32 :=
  let c8176_i32 : BitVec 32 := 8176#32
  let c0_i32 : BitVec 32 := 0#32
  let arg1 : BitVec 32 := BitVec.ofNat 32 (i 1).val
  let c256_i32 : BitVec 32 := 256#32
  let v0 : BitVec 32 := Scalar.muli arg1 c256_i32
  let c32_i32 : BitVec 32 := 32#32
  let v1 : BitVec 32 := Scalar.subi v0 c32_i32
  let v2 : BitVec 32 := Scalar.maxsi c0_i32 v1
  let v3 : BitVec 32 := Scalar.minsi c8176_i32 v2
  v3
def k0_mult2 (i : grid0.Coords) : BitVec 32 :=
  let c7936_i32 : BitVec 32 := 7936#32
  let c0_i32 : BitVec 32 := 0#32
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.subi v0 c16_i32
  let v2 : BitVec 32 := Scalar.maxsi c0_i32 v1
  let v3 : BitVec 32 := Scalar.minsi c7936_i32 v2
  v3
def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c32_i32 : BitVec 32 := 32#32
  let v1 : BitVec 32 := Scalar.subi v0 c32_i32
  let c0_i32 : BitVec 32 := 0#32
  let c8176_i32 : BitVec 32 := 8176#32
  let v2 : BitVec 32 := Scalar.maxsi c0_i32 v1
  let v3 : BitVec 32 := Scalar.minsi c8176_i32 v2
  let v4 : BitVec 32 := v3
  let c0_i32_0 : BitVec 32 := 0#32
  let c0_i32_1 : BitVec 32 := 0#32
  ![arg0.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.subi v0 c16_i32
  let c0_i32 : BitVec 32 := 0#32
  let c7936_i32 : BitVec 32 := 7936#32
  let v2 : BitVec 32 := Scalar.maxsi c0_i32 v1
  let v3 : BitVec 32 := Scalar.minsi c7936_i32 v2
  let v4 : BitVec 32 := v3
  let c0_i32_0 : BitVec 32 := 0#32
  let c0_i32_1 : BitVec 32 := 0#32
  ![arg0.toNat, v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S2x8192x1024 : Shape := ⟨3, ![2, 8192, 1024]⟩
abbrev S16x1024 : Shape := ⟨2, ![16, 1024]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1024x2048 : Shape := ⟨2, ![1024, 2048]⟩
abbrev S1x1024x1024 : Shape := ⟨3, ![1, 1024, 1024]⟩
abbrev S1x16x1024 : Shape := ⟨3, ![1, 16, 1024]⟩
abbrev S2x16x1024 : Shape := ⟨3, ![2, 16, 1024]⟩
abbrev S2x8208x1024 : Shape := ⟨3, ![2, 8208, 1024]⟩
abbrev S4x256x256 : Shape := ⟨3, ![4, 256, 256]⟩
abbrev S1024 : Shape := ⟨1, ![1024]⟩
abbrev S_ : Shape := ⟨0, ![]⟩
abbrev S2x1x1024 : Shape := ⟨3, ![2, 1, 1024]⟩
abbrev S2x8209x1024 : Shape := ⟨3, ![2, 8209, 1024]⟩
abbrev S8208 : Shape := ⟨1, ![8208]⟩
abbrev S8208x1 : Shape := ⟨2, ![8208, 1]⟩
abbrev S8208x2 : Shape := ⟨2, ![8208, 2]⟩
abbrev S2x8208x256 : Shape := ⟨3, ![2, 8208, 256]⟩
abbrev S1x8208x1 : Shape := ⟨3, ![1, 8208, 1]⟩
abbrev S2x8208x1x256 : Shape := ⟨4, ![2, 8208, 1, 256]⟩
abbrev S2x8208x4x256 : Shape := ⟨4, ![2, 8208, 4, 256]⟩
abbrev S4x256x2x8208 : Shape := ⟨4, ![4, 256, 2, 8208]⟩
abbrev S1x1x1024 : Shape := ⟨3, ![1, 1, 1024]⟩
abbrev S2x8208 : Shape := ⟨2, ![2, 8208]⟩
abbrev S2x8208x1 : Shape := ⟨3, ![2, 8208, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S2x8208x4096 : Shape := ⟨3, ![2, 8208, 4096]⟩
abbrev S1x1x4096 : Shape := ⟨3, ![1, 1, 4096]⟩
abbrev S2x8208x2048 : Shape := ⟨3, ![2, 8208, 2048]⟩
abbrev S2x1024x8208 : Shape := ⟨3, ![2, 1024, 8208]⟩
abbrev S1024x1024 : Shape := ⟨2, ![1024, 1024]⟩
abbrev S2x8448x1024 : Shape := ⟨3, ![2, 8448, 1024]⟩
abbrev S2x15x1024 : Shape := ⟨3, ![2, 15, 1024]⟩
abbrev S1x2x15x1024 : Shape := ⟨4, ![1, 2, 15, 1024]⟩
abbrev S2x1024x8448 : Shape := ⟨3, ![2, 1024, 8448]⟩
abbrev S2x1024x33x256 : Shape := ⟨4, ![2, 1024, 33, 256]⟩
abbrev S2x33x1024x256 : Shape := ⟨4, ![2, 33, 1024, 256]⟩

abbrev nBuf : Space → Nat
  | .hbm => 319
  | .vmem => 0
  | .smem => 0
  | _ => 0

abbrev hbmTy0_0 (i : Nat) : BufTy := match i % 128 with
  | 0 => ⟨S2x8192x1024, .f32⟩
  | 1 => ⟨S16x1024, .f32⟩
  | 2 => ⟨S2x2x1024, .f32⟩
  | 3 => ⟨S2x2x1024, .f32⟩
  | 4 => ⟨S1x4x256x256, .f32⟩
  | 5 => ⟨S1x1024, .f32⟩
  | 6 => ⟨S1x1024, .f32⟩
  | 7 => ⟨S2x1024x4096, .f32⟩
  | 8 => ⟨S2x4096, .f32⟩
  | 9 => ⟨S2x4096x1024, .f32⟩
  | 10 => ⟨S2x1024, .f32⟩
  | 11 => ⟨S1024x2048, .f32⟩
  | 12 => ⟨S1x1024x1024, .f32⟩
  | 13 => ⟨S1x16x1024, .f32⟩
  | 14 => ⟨S2x16x1024, .f32⟩
  | 15 => ⟨S2x8208x1024, .f32⟩
  | 16 => ⟨S4x256x256, .f32⟩
  | 17 => ⟨S1024, .f32⟩
  | 18 => ⟨S1024, .f32⟩
  | 19 => ⟨S_, .f32⟩
  | 20 => ⟨S2x1x1024, .f32⟩
  | 21 => ⟨S_, .f32⟩
  | 22 => ⟨S_, .f32⟩
  | 23 => ⟨S2x8208x1024, .f32⟩
  | 24 => ⟨S2x8209x1024, .f32⟩
  | 25 => ⟨S8208, .i32⟩
  | 26 => ⟨S_, .i32⟩
  | 27 => ⟨S8208, .i32⟩
  | 28 => ⟨S8208, .i32⟩
  | 29 => ⟨S_, .i32⟩
  | 30 => ⟨S8208, .i32⟩
  | 31 => ⟨S8208, .i32⟩
  | 32 => ⟨S_, .i32⟩
  | 33 => ⟨S8208, .i32⟩
  | 34 => ⟨S8208, .i32⟩
  | 35 => ⟨S_, .i32⟩
  | 36 => ⟨S8208, .i32⟩
  | 37 => ⟨S8208, .i1⟩
  | 38 => ⟨S_, .i32⟩
  | 39 => ⟨S8208, .i32⟩
  | 40 => ⟨S8208, .i32⟩
  | 41 => ⟨S8208, .i32⟩
  | 42 => ⟨S8208x1, .i32⟩
  | 43 => ⟨S_, .i32⟩
  | 44 => ⟨S8208x1, .i32⟩
  | 45 => ⟨S8208x2, .i32⟩
  | 46 => ⟨S2x8208x256, .f32⟩
  | 47 => ⟨S_, .i32⟩
  | 48 => ⟨S8208, .i32⟩
  | 49 => ⟨S8208, .i1⟩
  | 50 => ⟨S_, .i32⟩
  | 51 => ⟨S8208, .i32⟩
  | 52 => ⟨S8208, .i32⟩
  | 53 => ⟨S8208, .i32⟩
  | 54 => ⟨S8208x1, .i32⟩
  | 55 => ⟨S_, .i32⟩
  | 56 => ⟨S8208x1, .i32⟩
  | 57 => ⟨S8208x2, .i32⟩
  | 58 => ⟨S2x8208x256, .f32⟩
  | 59 => ⟨S2x8208x256, .f32⟩
  | 60 => ⟨S8208, .i32⟩
  | 61 => ⟨S8208, .f32⟩
  | 62 => ⟨S1x8208x1, .f32⟩
  | 63 => ⟨S2x8208x256, .f32⟩
  | 64 => ⟨S2x8208x256, .f32⟩
  | 65 => ⟨S2x8208x256, .f32⟩
  | 66 => ⟨S2x8208x256, .f32⟩
  | 67 => ⟨S_, .i32⟩
  | 68 => ⟨S8208, .i32⟩
  | 69 => ⟨S8208, .i32⟩
  | 70 => ⟨S_, .i32⟩
  | 71 => ⟨S8208, .i32⟩
  | 72 => ⟨S8208, .i32⟩
  | 73 => ⟨S_, .i32⟩
  | 74 => ⟨S8208, .i32⟩
  | 75 => ⟨S8208, .i1⟩
  | 76 => ⟨S_, .i32⟩
  | 77 => ⟨S8208, .i32⟩
  | 78 => ⟨S8208, .i32⟩
  | 79 => ⟨S8208, .i32⟩
  | 80 => ⟨S8208x1, .i32⟩
  | 81 => ⟨S_, .i32⟩
  | 82 => ⟨S8208x1, .i32⟩
  | 83 => ⟨S8208x2, .i32⟩
  | 84 => ⟨S2x8208x256, .f32⟩
  | 85 => ⟨S_, .i32⟩
  | 86 => ⟨S8208, .i32⟩
  | 87 => ⟨S8208, .i1⟩
  | 88 => ⟨S_, .i32⟩
  | 89 => ⟨S8208, .i32⟩
  | 90 => ⟨S8208, .i32⟩
  | 91 => ⟨S8208, .i32⟩
  | 92 => ⟨S8208x1, .i32⟩
  | 93 => ⟨S_, .i32⟩
  | 94 => ⟨S8208x1, .i32⟩
  | 95 => ⟨S8208x2, .i32⟩
  | 96 => ⟨S2x8208x256, .f32⟩
  | 97 => ⟨S2x8208x256, .f32⟩
  | 98 => ⟨S8208, .i32⟩
  | 99 => ⟨S8208, .f32⟩
  | 100 => ⟨S1x8208x1, .f32⟩
  | 101 => ⟨S2x8208x256, .f32⟩
  | 102 => ⟨S2x8208x256, .f32⟩
  | 103 => ⟨S2x8208x256, .f32⟩
  | 104 => ⟨S2x8208x256, .f32⟩
  | 105 => ⟨S_, .i32⟩
  | 106 => ⟨S8208, .i32⟩
  | 107 => ⟨S8208, .i32⟩
  | 108 => ⟨S_, .i32⟩
  | 109 => ⟨S8208, .i32⟩
  | 110 => ⟨S8208, .i32⟩
  | 111 => ⟨S_, .i32⟩
  | 112 => ⟨S8208, .i32⟩
  | 113 => ⟨S8208, .i1⟩
  | 114 => ⟨S_, .i32⟩
  | 115 => ⟨S8208, .i32⟩
  | 116 => ⟨S8208, .i32⟩
  | 117 => ⟨S8208, .i32⟩
  | 118 => ⟨S8208x1, .i32⟩
  | 119 => ⟨S_, .i32⟩
  | 120 => ⟨S8208x1, .i32⟩
  | 121 => ⟨S8208x2, .i32⟩
  | 122 => ⟨S2x8208x256, .f32⟩
  | 123 => ⟨S_, .i32⟩
  | 124 => ⟨S8208, .i32⟩
  | 125 => ⟨S8208, .i1⟩
  | 126 => ⟨S_, .i32⟩
  | 127 => ⟨S8208, .i32⟩
  | _ => ⟨S2x8192x1024, .f32⟩

abbrev hbmTy0_1 (i : Nat) : BufTy := match i % 128 with
  | 0 => ⟨S8208, .i32⟩
  | 1 => ⟨S8208, .i32⟩
  | 2 => ⟨S8208x1, .i32⟩
  | 3 => ⟨S_, .i32⟩
  | 4 => ⟨S8208x1, .i32⟩
  | 5 => ⟨S8208x2, .i32⟩
  | 6 => ⟨S2x8208x256, .f32⟩
  | 7 => ⟨S2x8208x256, .f32⟩
  | 8 => ⟨S8208, .i32⟩
  | 9 => ⟨S8208, .f32⟩
  | 10 => ⟨S1x8208x1, .f32⟩
  | 11 => ⟨S2x8208x256, .f32⟩
  | 12 => ⟨S2x8208x256, .f32⟩
  | 13 => ⟨S2x8208x256, .f32⟩
  | 14 => ⟨S2x8208x256, .f32⟩
  | 15 => ⟨S_, .i32⟩
  | 16 => ⟨S8208, .i32⟩
  | 17 => ⟨S8208, .i32⟩
  | 18 => ⟨S_, .i32⟩
  | 19 => ⟨S8208, .i32⟩
  | 20 => ⟨S8208, .i32⟩
  | 21 => ⟨S_, .i32⟩
  | 22 => ⟨S8208, .i32⟩
  | 23 => ⟨S8208, .i1⟩
  | 24 => ⟨S_, .i32⟩
  | 25 => ⟨S8208, .i32⟩
  | 26 => ⟨S8208, .i32⟩
  | 27 => ⟨S8208, .i32⟩
  | 28 => ⟨S8208x1, .i32⟩
  | 29 => ⟨S_, .i32⟩
  | 30 => ⟨S8208x1, .i32⟩
  | 31 => ⟨S8208x2, .i32⟩
  | 32 => ⟨S2x8208x256, .f32⟩
  | 33 => ⟨S_, .i32⟩
  | 34 => ⟨S8208, .i32⟩
  | 35 => ⟨S8208, .i1⟩
  | 36 => ⟨S_, .i32⟩
  | 37 => ⟨S8208, .i32⟩
  | 38 => ⟨S8208, .i32⟩
  | 39 => ⟨S8208, .i32⟩
  | 40 => ⟨S8208x1, .i32⟩
  | 41 => ⟨S_, .i32⟩
  | 42 => ⟨S8208x1, .i32⟩
  | 43 => ⟨S8208x2, .i32⟩
  | 44 => ⟨S2x8208x256, .f32⟩
  | 45 => ⟨S2x8208x256, .f32⟩
  | 46 => ⟨S8208, .i32⟩
  | 47 => ⟨S8208, .f32⟩
  | 48 => ⟨S1x8208x1, .f32⟩
  | 49 => ⟨S2x8208x256, .f32⟩
  | 50 => ⟨S2x8208x256, .f32⟩
  | 51 => ⟨S2x8208x256, .f32⟩
  | 52 => ⟨S2x8208x256, .f32⟩
  | 53 => ⟨S2x8208x1x256, .f32⟩
  | 54 => ⟨S2x8208x1x256, .f32⟩
  | 55 => ⟨S2x8208x1x256, .f32⟩
  | 56 => ⟨S2x8208x1x256, .f32⟩
  | 57 => ⟨S2x8208x4x256, .f32⟩
  | 58 => ⟨S4x256x2x8208, .f32⟩
  | 59 => ⟨S2x8208x4x256, .f32⟩
  | 60 => ⟨S2x8208x1024, .f32⟩
  | 61 => ⟨S1x1x1024, .f32⟩
  | 62 => ⟨S2x8208x1024, .f32⟩
  | 63 => ⟨S2x8208x1024, .f32⟩
  | 64 => ⟨S1x1x1024, .f32⟩
  | 65 => ⟨S2x8208x1024, .f32⟩
  | 66 => ⟨S2x8208x1024, .f32⟩
  | 67 => ⟨S_, .f32⟩
  | 68 => ⟨S2x8208x1024, .f32⟩
  | 69 => ⟨S2x8208x1024, .f32⟩
  | 70 => ⟨S2x8208x1024, .f32⟩
  | 71 => ⟨S1x1x1024, .f32⟩
  | 72 => ⟨S1024, .f32⟩
  | 73 => ⟨S1x1x1024, .f32⟩
  | 74 => ⟨S1024, .f32⟩
  | 75 => ⟨S_, .f32⟩
  | 76 => ⟨S2x8208, .f32⟩
  | 77 => ⟨S2x8208x1, .f32⟩
  | 78 => ⟨S_, .f32⟩
  | 79 => ⟨S2x8208x1, .f32⟩
  | 80 => ⟨S2x8208x1, .f32⟩
  | 81 => ⟨S2x8208x1024, .f32⟩
  | 82 => ⟨S2x8208x1024, .f32⟩
  | 83 => ⟨S2x8208x1024, .f32⟩
  | 84 => ⟨S_, .f32⟩
  | 85 => ⟨S2x8208, .f32⟩
  | 86 => ⟨S2x8208x1, .f32⟩
  | 87 => ⟨S_, .f32⟩
  | 88 => ⟨S2x8208x1, .f32⟩
  | 89 => ⟨S2x8208x1, .f32⟩
  | 90 => ⟨S_, .f32⟩
  | 91 => ⟨S2x8208x1, .f32⟩
  | 92 => ⟨S2x8208x1, .f32⟩
  | 93 => ⟨S2x8208x1, .f32⟩
  | 94 => ⟨S2x8208x1024, .f32⟩
  | 95 => ⟨S2x8208x1024, .f32⟩
  | 96 => ⟨S1x1x1024, .f32⟩
  | 97 => ⟨S2x8208x1024, .f32⟩
  | 98 => ⟨S2x8208x1024, .f32⟩
  | 99 => ⟨S1x1x1024, .f32⟩
  | 100 => ⟨S2x8208x1024, .f32⟩
  | 101 => ⟨S2x8208x1024, .f32⟩
  | 102 => ⟨S_, .f32⟩
  | 103 => ⟨S2x8208x1024, .f32⟩
  | 104 => ⟨S2x8208x1024, .f32⟩
  | 105 => ⟨S1x1024x4096, .f32⟩
  | 106 => ⟨S1024x4096, .f32⟩
  | 107 => ⟨S1x4096, .f32⟩
  | 108 => ⟨S4096, .f32⟩
  | 109 => ⟨S1x4096x1024, .f32⟩
  | 110 => ⟨S4096x1024, .f32⟩
  | 111 => ⟨S1x1024, .f32⟩
  | 112 => ⟨S1024, .f32⟩
  | 113 => ⟨S2x8208x4096, .f32⟩
  | 114 => ⟨S1x1x4096, .f32⟩
  | 115 => ⟨S2x8208x4096, .f32⟩
  | 116 => ⟨S2x8208x4096, .f32⟩
  | 117 => ⟨S_, .f32⟩
  | 118 => ⟨S2x8208x4096, .f32⟩
  | 119 => ⟨S2x8208x4096, .f32⟩
  | 120 => ⟨S2x8208x4096, .f32⟩
  | 121 => ⟨S2x8208x1024, .f32⟩
  | 122 => ⟨S1x1x1024, .f32⟩
  | 123 => ⟨S2x8208x1024, .f32⟩
  | 124 => ⟨S2x8208x1024, .f32⟩
  | 125 => ⟨S2x8208x1024, .f32⟩
  | 126 => ⟨S1x1x1024, .f32⟩
  | 127 => ⟨S1024, .f32⟩
  | _ => ⟨S2x8192x1024, .f32⟩

abbrev hbmTy0_2 (i : Nat) : BufTy := match i % 128 with
  | 0 => ⟨S1x1x1024, .f32⟩
  | 1 => ⟨S1024, .f32⟩
  | 2 => ⟨S_, .f32⟩
  | 3 => ⟨S2x8208, .f32⟩
  | 4 => ⟨S2x8208x1, .f32⟩
  | 5 => ⟨S_, .f32⟩
  | 6 => ⟨S2x8208x1, .f32⟩
  | 7 => ⟨S2x8208x1, .f32⟩
  | 8 => ⟨S2x8208x1024, .f32⟩
  | 9 => ⟨S2x8208x1024, .f32⟩
  | 10 => ⟨S2x8208x1024, .f32⟩
  | 11 => ⟨S_, .f32⟩
  | 12 => ⟨S2x8208, .f32⟩
  | 13 => ⟨S2x8208x1, .f32⟩
  | 14 => ⟨S_, .f32⟩
  | 15 => ⟨S2x8208x1, .f32⟩
  | 16 => ⟨S2x8208x1, .f32⟩
  | 17 => ⟨S_, .f32⟩
  | 18 => ⟨S2x8208x1, .f32⟩
  | 19 => ⟨S2x8208x1, .f32⟩
  | 20 => ⟨S2x8208x1, .f32⟩
  | 21 => ⟨S2x8208x1024, .f32⟩
  | 22 => ⟨S2x8208x1024, .f32⟩
  | 23 => ⟨S1x1x1024, .f32⟩
  | 24 => ⟨S2x8208x1024, .f32⟩
  | 25 => ⟨S2x8208x1024, .f32⟩
  | 26 => ⟨S1x1x1024, .f32⟩
  | 27 => ⟨S2x8208x1024, .f32⟩
  | 28 => ⟨S2x8208x1024, .f32⟩
  | 29 => ⟨S2x8208x2048, .f32⟩
  | 30 => ⟨S2x8208x1024, .f32⟩
  | 31 => ⟨S2x1024x8208, .f32⟩
  | 32 => ⟨S2x8208x1024, .f32⟩
  | 33 => ⟨S2x1024x8208, .f32⟩
  | 34 => ⟨S1024x1024, .f32⟩
  | 35 => ⟨S2x8208x1024, .f32⟩
  | 36 => ⟨S_, .f32⟩
  | 37 => ⟨S2x8208x1024, .f32⟩
  | 38 => ⟨S2x8208x1024, .f32⟩
  | 39 => ⟨S1x16x1024, .f32⟩
  | 40 => ⟨S2x16x1024, .f32⟩
  | 41 => ⟨S2x8208x1024, .f32⟩
  | 42 => ⟨S_, .i32⟩
  | 43 => ⟨S_, .f32⟩
  | 44 => ⟨S2x8448x1024, .f32⟩
  | 45 => ⟨S_, .i32⟩
  | 46 => ⟨S_, .f32⟩
  | 47 => ⟨S2x8448x1024, .f32⟩
  | 48 => ⟨S2x8448x1024, .bf16⟩
  | 49 => ⟨S2x15x1024, .f32⟩
  | 50 => ⟨S1x2x15x1024, .f32⟩
  | 51 => ⟨S_, .i32⟩
  | 52 => ⟨S_, .f32⟩
  | 53 => ⟨S2x1024x8448, .f32⟩
  | 54 => ⟨S2x1024x33x256, .f32⟩
  | 55 => ⟨S2x33x1024x256, .f32⟩
  | 56 => ⟨S2x33x1024x256, .bf16⟩
  | 57 => ⟨S_, .i32⟩
  | 58 => ⟨S_, .f32⟩
  | 59 => ⟨S2x1024x8448, .f32⟩
  | 60 => ⟨S2x1024x33x256, .f32⟩
  | 61 => ⟨S2x33x1024x256, .f32⟩
  | 62 => ⟨S2x33x1024x256, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_call0_call0_cst : Ref sig .tc := ⟨.hbm, 21, rfl⟩
abbrev main_call0_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_15 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_c_17 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_20 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_21 : Ref sig .tc := ⟨.hbm, 123, rfl⟩
abbrev main_v85 : Ref sig .tc := ⟨.hbm, 124, rfl⟩
abbrev main_v86 : Ref sig .tc := ⟨.hbm, 125, rfl⟩
abbrev main_c_22 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_23 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_24 : Ref sig .tc := ⟨.hbm, 143, rfl⟩
abbrev main_v102 : Ref sig .tc := ⟨.hbm, 144, rfl⟩
abbrev main_v103 : Ref sig .tc := ⟨.hbm, 145, rfl⟩
abbrev main_c_25 : Ref sig .tc := ⟨.hbm, 146, rfl⟩
abbrev main_v104 : Ref sig .tc := ⟨.hbm, 147, rfl⟩
abbrev main_v105 : Ref sig .tc := ⟨.hbm, 148, rfl⟩
abbrev main_c_26 : Ref sig .tc := ⟨.hbm, 149, rfl⟩
abbrev main_v106 : Ref sig .tc := ⟨.hbm, 150, rfl⟩
abbrev main_v107 : Ref sig .tc := ⟨.hbm, 151, rfl⟩
abbrev main_c_27 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_28 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_29 : Ref sig .tc := ⟨.hbm, 161, rfl⟩
abbrev main_v115 : Ref sig .tc := ⟨.hbm, 162, rfl⟩
abbrev main_v116 : Ref sig .tc := ⟨.hbm, 163, rfl⟩
abbrev main_c_30 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_31 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_32 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_33 : Ref sig .tc := ⟨.hbm, 203, rfl⟩
abbrev main_v153 : Ref sig .tc := ⟨.hbm, 204, rfl⟩
abbrev main_v154 : Ref sig .tc := ⟨.hbm, 205, rfl⟩
abbrev main_cst_34 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_35 : Ref sig .tc := ⟨.hbm, 212, rfl⟩
abbrev main_v160 : Ref sig .tc := ⟨.hbm, 213, rfl⟩
abbrev main_v161 : Ref sig .tc := ⟨.hbm, 214, rfl⟩
abbrev main_cst_36 : Ref sig .tc := ⟨.hbm, 215, rfl⟩
abbrev main_v162 : Ref sig .tc := ⟨.hbm, 216, rfl⟩
abbrev main_v163 : Ref sig .tc := ⟨.hbm, 217, rfl⟩
abbrev main_cst_37 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_cst_38 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_call1_cst : Ref sig .tc := ⟨.hbm, 245, rfl⟩
abbrev main_call1_v0 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_39 : Ref sig .tc := ⟨.hbm, 258, rfl⟩
abbrev main_v200 : Ref sig .tc := ⟨.hbm, 259, rfl⟩
abbrev main_v201 : Ref sig .tc := ⟨.hbm, 260, rfl⟩
abbrev main_cst_40 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_cst_41 : Ref sig .tc := ⟨.hbm, 267, rfl⟩
abbrev main_v207 : Ref sig .tc := ⟨.hbm, 268, rfl⟩
abbrev main_v208 : Ref sig .tc := ⟨.hbm, 269, rfl⟩
abbrev main_cst_42 : Ref sig .tc := ⟨.hbm, 270, rfl⟩
abbrev main_v209 : Ref sig .tc := ⟨.hbm, 271, rfl⟩
abbrev main_v210 : Ref sig .tc := ⟨.hbm, 272, rfl⟩
abbrev main_cst_43 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_cst_44 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_c_45 : Ref sig .tc := ⟨.hbm, 298, rfl⟩
abbrev main_call2_v0 : Ref sig .tc := ⟨.hbm, 299, rfl⟩
abbrev main_v234 : Ref sig .tc := ⟨.hbm, 300, rfl⟩
abbrev main_c_46 : Ref sig .tc := ⟨.hbm, 301, rfl⟩
abbrev main_call3_v0 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_c_47 : Ref sig .tc := ⟨.hbm, 307, rfl⟩
abbrev main_call4_v0 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_c_48 : Ref sig .tc := ⟨.hbm, 313, rfl⟩
abbrev main_call5_v0 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩

abbrev nD : Nat := 1
abbrev τ : Topo := Topo.v7x

variable {F : FTy → Type} [FloatOps F]
-- ==== Kernel2.lean ====
abbrev S2x8448x1024 : Shape := ⟨3, ![2, 8448, 1024]⟩
abbrev S2x2x1024 : Shape := ⟨3, ![2, 2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1x1024x1024 : Shape := ⟨3, ![1, 1024, 1024]⟩
abbrev S1024x1024 : Shape := ⟨2, ![1024, 1024]⟩
abbrev S1x2x1024 : Shape := ⟨3, ![1, 2, 1024]⟩
abbrev S1x1024x4096 : Shape := ⟨3, ![1, 1024, 4096]⟩
abbrev S1024x4096 : Shape := ⟨2, ![1024, 4096]⟩
abbrev S1x4096 : Shape := ⟨2, ![1, 4096]⟩
abbrev S1x4096x1024 : Shape := ⟨3, ![1, 4096, 1024]⟩
abbrev S4096x1024 : Shape := ⟨2, ![4096, 1024]⟩
abbrev S1x1024 : Shape := ⟨2, ![1, 1024]⟩
abbrev S16896x1024 : Shape := ⟨2, ![16896, 1024]⟩
abbrev S16384x1024 : Shape := ⟨2, ![16384, 1024]⟩
abbrev S256x1024 : Shape := ⟨2, ![256, 1024]⟩
abbrev S256 : Shape := ⟨1, ![256]⟩
abbrev S256x1 : Shape := ⟨2, ![256, 1]⟩

abbrev nBuf : Space → Nat
  | .hbm => 26
  | .vmem => 13
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .f32⟩
  | .hbm, ⟨2, _⟩ => ⟨S2x2x1024, .f32⟩
  | .hbm, ⟨3, _⟩ => ⟨S2x2x1024, .f32⟩
  | .hbm, ⟨4, _⟩ => ⟨S2x1024x4096, .f32⟩
  | .hbm, ⟨5, _⟩ => ⟨S2x4096, .f32⟩
  | .hbm, ⟨6, _⟩ => ⟨S2x4096x1024, .f32⟩
  | .hbm, ⟨7, _⟩ => ⟨S2x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1x2x1024, .f32⟩
  | .hbm, ⟨12, _⟩ => ⟨S2x1024, .f32⟩
  | .hbm, ⟨13, _⟩ => ⟨S1x2x1024, .f32⟩
  | .hbm, ⟨14, _⟩ => ⟨S2x1024, .f32⟩
  | .hbm, ⟨15, _⟩ => ⟨S1x1024x4096, .f32⟩
  | .hbm, ⟨16, _⟩ => ⟨S1024x4096, .f32⟩
  | .hbm, ⟨17, _⟩ => ⟨S1024x4096, .bf16⟩
  | .hbm, ⟨18, _⟩ => ⟨S1x4096, .f32⟩
  | .hbm, ⟨19, _⟩ => ⟨S1x4096x1024, .f32⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S16896x1024, .bf16⟩
  | .hbm, ⟨24, _⟩ => ⟨S16896x1024, .f32⟩
  | .hbm, ⟨25, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S2x1024, .f32⟩
  | .local _ .vmem, ⟨6, _⟩ => ⟨S2x1024, .f32⟩
  | .local _ .vmem, ⟨7, _⟩ => ⟨S1024x4096, .bf16⟩
  | .local _ .vmem, ⟨8, _⟩ => ⟨S1x4096, .f32⟩
  | .local _ .vmem, ⟨9, _⟩ => ⟨S4096x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  v30
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  v30
def cc0_transform_0 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x8448x1024 : Shape := ⟨3, ![2, 8448, 1024]⟩
abbrev S2x2x1024 : Shape := ⟨3, ![2, 2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1x1024x1024 : Shape := ⟨3, ![1, 1024, 1024]⟩
abbrev S2x8208x1024 : Shape := ⟨3, ![2, 8208, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S2x8208 : Shape := ⟨2, ![2, 8208]⟩
abbrev S2x8208x1 : Shape := ⟨3, ![2, 8208, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S1x1024 : Shape := ⟨2, ![1, 1024]⟩
abbrev S2x8208x4096 : Shape := ⟨3, ![2, 8208, 4096]⟩
abbrev S1x1x4096 : Shape := ⟨3, ![1, 1, 4096]⟩
abbrev S2x8192x1024 : Shape := ⟨3, ![2, 8192, 1024]⟩
abbrev S16384x1024 : Shape := ⟨2, ![16384, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .f32⟩
  | .hbm, ⟨2, _⟩ => ⟨S2x2x1024, .f32⟩
  | .hbm, ⟨3, _⟩ => ⟨S2x2x1024, .f32⟩
  | .hbm, ⟨4, _⟩ => ⟨S2x1024x4096, .f32⟩
  | .hbm, ⟨5, _⟩ => ⟨S2x4096, .f32⟩
  | .hbm, ⟨6, _⟩ => ⟨S2x4096x1024, .f32⟩
  | .hbm, ⟨7, _⟩ => ⟨S2x1024, .f32⟩
  | .hbm, ⟨8, _⟩ => ⟨S1x1024x1024, .f32⟩
  | .hbm, ⟨9, _⟩ => ⟨S2x8208x1024, .bf16⟩
  | .hbm, ⟨10, _⟩ => ⟨S2x8208x1024, .f32⟩
  | .hbm, ⟨11, _⟩ => ⟨S2x8208x1024, .f32⟩
  | .hbm, ⟨12, _⟩ => ⟨S1024x1024, .f32⟩
  | .hbm, ⟨13, _⟩ => ⟨S2x8208x1024, .f32⟩
  | .hbm, ⟨14, _⟩ => ⟨S_, .f32⟩
  | .hbm, ⟨15, _⟩ => ⟨S2x8208x1024, .f32⟩
  | .hbm, ⟨16, _⟩ => ⟨S2x8208x1024, .f32⟩
  | .hbm, ⟨17, _⟩ => ⟨S2x8208x1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S_, .f32⟩
  | .hbm, ⟨23, _⟩ => ⟨S2x8208, .f32⟩
  | .hbm, ⟨24, _⟩ => ⟨S2x8208x1, .f32⟩
  | .hbm, ⟨25, _⟩ => ⟨S_, .f32⟩
  | .hbm, ⟨26, _⟩ => ⟨S2x8208x1, .f32⟩
  | .hbm, ⟨27, _⟩ => ⟨S2x8208x1, .f32⟩
  | .hbm, ⟨28, _⟩ => ⟨S2x8208x1024, .f32⟩
  | .hbm, ⟨29, _⟩ => ⟨S2x8208x1024, .f32⟩
  | .hbm, ⟨30, _⟩ => ⟨S2x8208x1024, .f32⟩
  | .hbm, ⟨31, _⟩ => ⟨S_, .f32⟩
  | .hbm, ⟨32, _⟩ => ⟨S2x8208, .f32⟩
  | .hbm, ⟨33, _⟩ => ⟨S2x8208x1, .f32⟩
  | .hbm, ⟨34, _⟩ => ⟨S_, .f32⟩
  | .hbm, ⟨35, _⟩ => ⟨S2x8208x1, .f32⟩
  | .hbm, ⟨36, _⟩ => ⟨S2x8208x1, .f32⟩
  | .hbm, ⟨37, _⟩ => ⟨S_, .f32⟩
  | .hbm, ⟨38, _⟩ => ⟨S2x8208x1, .f32⟩
  | .hbm, ⟨39, _⟩ => ⟨S2x8208x1, .f32⟩
  | .hbm, ⟨40, _⟩ => ⟨S2x8208x1, .f32⟩
  | .hbm, ⟨41, _⟩ => ⟨S2x8208x1024, .f32⟩
  | .hbm, ⟨42, _⟩ => ⟨S2x8208x1024, .f32⟩
  | .hbm, ⟨43, _⟩ => ⟨S1x1x1024, .f32⟩
  | .hbm, ⟨44, _⟩ => ⟨S2x8208x1024, .f32⟩
  | .hbm, ⟨45, _⟩ => ⟨S2x8208x1024, .f32⟩
  | .hbm, ⟨46, _⟩ => ⟨S1x1x1024, .f32⟩
  | .hbm, ⟨47, _⟩ => ⟨S2x8208x1024, .f32⟩
  | .hbm, ⟨48, _⟩ => ⟨S2x8208x1024, .f32⟩
  | .hbm, ⟨49, _⟩ => ⟨S_, .f32⟩
  | .hbm, ⟨50, _⟩ => ⟨S2x8208x1024, .f32⟩
  | .hbm, ⟨51, _⟩ => ⟨S2x8208x1024, .f32⟩
  | .hbm, ⟨52, _⟩ => ⟨S1x1024x4096, .f32⟩
  | .hbm, ⟨53, _⟩ => ⟨S1024x4096, .f32⟩
  | .hbm, ⟨54, _⟩ => ⟨S1x4096, .f32⟩
  | .hbm, ⟨55, _⟩ => ⟨S4096, .f32⟩
  | .hbm, ⟨56, _⟩ => ⟨S1x4096x1024, .f32⟩
  | .hbm, ⟨57, _⟩ => ⟨S4096x1024, .f32⟩
  | .hbm, ⟨58, _⟩ => ⟨S1x1024, .f32⟩
  | .hbm, ⟨59, _⟩ => ⟨S1024, .f32⟩
  | .hbm, ⟨60, _⟩ => ⟨S2x8208x4096, .f32⟩
  | .hbm, ⟨61, _⟩ => ⟨S1x1x4096, .f32⟩
  | .hbm, ⟨62, _⟩ => ⟨S2x8208x4096, .f32⟩
  | .hbm, ⟨63, _⟩ => ⟨S2x8208x4096, .f32⟩
  | .hbm, ⟨64, _⟩ => ⟨S_, .f32⟩
  | .hbm, ⟨65, _⟩ => ⟨S2x8208x4096, .f32⟩
  | .hbm, ⟨66, _⟩ => ⟨S2x8208x4096, .f32⟩
  | .hbm, ⟨67, _⟩ => ⟨S2x8208x4096, .f32⟩
  | .hbm, ⟨68, _⟩ => ⟨S2x8208x1024, .f32⟩
  | .hbm, ⟨69, _⟩ => ⟨S1x1x1024, .f32⟩
  | .hbm, ⟨70, _⟩ => ⟨S2x8208x1024, .f32⟩
  | .hbm, ⟨71, _⟩ => ⟨S2x8208x1024, .f32⟩
  | .hbm, ⟨72, _⟩ => ⟨S2x8208x1024, .f32⟩
  | .hbm, ⟨73, _⟩ => ⟨S1x1x1024, .f32⟩
  | .hbm, ⟨74, _⟩ => ⟨S1024, .f32⟩
  | .hbm, ⟨75, _⟩ => ⟨S1x1x1024, .f32⟩
  | .hbm, ⟨76, _⟩ => ⟨S1024, .f32⟩
  | .hbm, ⟨77, _⟩ => ⟨S_, .f32⟩
  | .hbm, ⟨78, _⟩ => ⟨S2x8208, .f32⟩
  | .hbm, ⟨79, _⟩ => ⟨S2x8208x1, .f32⟩
  | .hbm, ⟨80, _⟩ => ⟨S_, .f32⟩
  | .hbm, ⟨81, _⟩ => ⟨S2x8208x1, .f32⟩
  | .hbm, ⟨82, _⟩ => ⟨S2x8208x1, .f32⟩
  | .hbm, ⟨83, _⟩ => ⟨S2x8208x1024, .f32⟩
  | .hbm, ⟨84, _⟩ => ⟨S2x8208x1024, .f32⟩
  | .hbm, ⟨85, _⟩ => ⟨S2x8208x1024, .f32⟩
  | .hbm, ⟨86, _⟩ => ⟨S_, .f32⟩
  | .hbm, ⟨87, _⟩ => ⟨S2x8208, .f32⟩
  | .hbm, ⟨88, _⟩ => ⟨S2x8208x1, .f32⟩
  | .hbm, ⟨89, _⟩ => ⟨S_, .f32⟩
  | .hbm, ⟨90, _⟩ => ⟨S2x8208x1, .f32⟩
  | .hbm, ⟨91, _⟩ => ⟨S2x8208x1, .f32⟩
  | .hbm, ⟨92, _⟩ => ⟨S_, .f32⟩
  | .hbm, ⟨93, _⟩ => ⟨S2x8208x1, .f32⟩
  | .hbm, ⟨94, _⟩ => ⟨S2x8208x1, .f32⟩
  | .hbm, ⟨95, _⟩ => ⟨S2x8208x1, .f32⟩
  | .hbm, ⟨96, _⟩ => ⟨S2x8208x1024, .f32⟩
  | .hbm, ⟨97, _⟩ => ⟨S2x8208x1024, .f32⟩
  | .hbm, ⟨98, _⟩ => ⟨S1x1x1024, .f32⟩
  | .hbm, ⟨99, _⟩ => ⟨S2x8208x1024, .f32⟩
  | .hbm, ⟨100, _⟩ => ⟨S2x8208x1024, .f32⟩
  | .hbm, ⟨101, _⟩ => ⟨S1x1x1024, .f32⟩
  | .hbm, ⟨102, _⟩ => ⟨S2x8208x1024, .f32⟩
  | .hbm, ⟨103, _⟩ => ⟨S2x8208x1024, .f32⟩
  | .hbm, ⟨104, _⟩ => ⟨S2x8192x1024, .f32⟩
  | .hbm, ⟨105, _⟩ => ⟨S16384x1024, .f32⟩
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel3.lean ====
abbrev S32x4x1024 : Shape := ⟨3, ![32, 4, 1024]⟩
abbrev S1x32x15x1024 : Shape := ⟨4, ![1, 32, 15, 1024]⟩
abbrev S16x1024 : Shape := ⟨2, ![16, 1024]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1024x2048 : Shape := ⟨2, ![1024, 2048]⟩
abbrev S1x1024x1024 : Shape := ⟨3, ![1, 1024, 1024]⟩
abbrev S4x256x256 : Shape := ⟨3, ![4, 256, 256]⟩
abbrev S1x2x1024 : Shape := ⟨3, ![1, 2, 1024]⟩
abbrev S1x1024x4096 : Shape := ⟨3, ![1, 1024, 4096]⟩
abbrev S1024x4096 : Shape := ⟨2, ![1024, 4096]⟩
abbrev S1x4096 : Shape := ⟨2, ![1, 4096]⟩
abbrev S1x4096x1024 : Shape := ⟨3, ![1, 4096, 1024]⟩
abbrev S4096x1024 : Shape := ⟨2, ![4096, 1024]⟩
abbrev S1024x1024 : Shape := ⟨2, ![1024, 1024]⟩
abbrev S32x15x1024 : Shape := ⟨3, ![32, 15, 1024]⟩
abbrev S_ : Shape := ⟨0, ![]⟩
abbrev S1x32x1024 : Shape := ⟨3, ![1, 32, 1024]⟩
abbrev S15x32x1024 : Shape := ⟨3, ![15, 32, 1024]⟩
abbrev S4x32x1024 : Shape := ⟨3, ![4, 32, 1024]⟩
abbrev S20x32x1024 : Shape := ⟨3, ![20, 32, 1024]⟩
abbrev S32x19x1024 : Shape := ⟨3, ![32, 19, 1024]⟩
abbrev S1x640x1024 : Shape := ⟨3, ![1, 640, 1024]⟩
abbrev S1x128x1024 : Shape := ⟨3, ![1, 128, 1024]⟩
abbrev S1x1024x128 : Shape := ⟨3, ![1, 1024, 128]⟩
abbrev S1x1x1024x128 : Shape := ⟨4, ![1, 1, 1024, 128]⟩
abbrev S1x512x1024 : Shape := ⟨3, ![1, 512, 1024]⟩
abbrev S640x1024 : Shape := ⟨2, ![640, 1024]⟩
abbrev S128x1024 : Shape := ⟨2, ![128, 1024]⟩
abbrev S512x1024 : Shape := ⟨2, ![512, 1024]⟩
abbrev S128x256 : Shape := ⟨2, ![128, 256]⟩
abbrev S1x256x256 : Shape := ⟨3, ![1, 256, 256]⟩
abbrev S256x256 : Shape := ⟨2, ![256, 256]⟩
abbrev S128 : Shape := ⟨1, ![128]⟩
abbrev S128x1 : Shape := ⟨2, ![128, 1]⟩
abbrev S1024x128 : Shape := ⟨2, ![1024, 128]⟩

abbrev nBuf : Space → Nat
  | .hbm => 52
  | .vmem => 22
  | .smem => 0
  | _ => 0

abbrev bufTy : (tb : Table) → Fin (tcTables nBuf tb) → BufTy
  | .hbm, ⟨0, _⟩ => ⟨S32x4x1024, .f32⟩
  | .hbm, ⟨1, _⟩ => ⟨S1x32x15x1024, .f32⟩
  | .hbm, ⟨2, _⟩ => ⟨S16x1024, .f32⟩
  | .hbm, ⟨3, _⟩ => ⟨S2x2x1024, .f32⟩
  | .hbm, ⟨4, _⟩ => ⟨S2x2x1024, .f32⟩
  | .hbm, ⟨5, _⟩ => ⟨S1x4x256x256, .f32⟩
  | .hbm, ⟨6, _⟩ => ⟨S1x1024, .f32⟩
  | .hbm, ⟨7, _⟩ => ⟨S1x1024, .f32⟩
  | .hbm, ⟨8, _⟩ => ⟨S2x1024x4096, .f32⟩
  | .hbm, ⟨9, _⟩ => ⟨S2x4096, .f32⟩
  | .hbm, ⟨10, _⟩ => ⟨S2x4096x1024, .f32⟩
  | .hbm, ⟨11, _⟩ => ⟨S2x1024, .f32⟩
  | .hbm, ⟨12, _⟩ => ⟨S1024x2048, .f32⟩
  | .hbm, ⟨13, _⟩ => ⟨S1x1024x1024, .f32⟩
  | .hbm, ⟨14, _⟩ => ⟨S4x256x256, .f32⟩
  | .hbm, ⟨15, _⟩ => ⟨S4x256x256, .bf16⟩
  | .hbm, ⟨16, _⟩ => ⟨S1x2x1024, .f32⟩
  | .hbm, ⟨17, _⟩ => ⟨S2x1024, .f32⟩
  | .hbm, ⟨18, _⟩ => ⟨S1x2x1024, .f32⟩
  | .hbm, ⟨19, _⟩ => ⟨S2x1024, .f32⟩
  | .hbm, ⟨20, _⟩ => ⟨S1x1024x4096, .f32⟩
  | .hbm, ⟨21, _⟩ => ⟨S1024x4096, .f32⟩
  | .hbm, ⟨22, _⟩ => ⟨S1024x4096, .bf16⟩
  | .hbm, ⟨23, _⟩ => ⟨S1x4096, .f32⟩
  | .hbm, ⟨24, _⟩ => ⟨S1x4096x1024, .f32⟩
  | .hbm, ⟨25, _⟩ => ⟨S4096x1024, .f32⟩
  | .hbm, ⟨26, _⟩ => ⟨S4096x1024, .bf16⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S32x15x1024, .f32⟩
  | .hbm, ⟨37, _⟩ => ⟨S_, .f32⟩
  | .hbm, ⟨38, _⟩ => ⟨S1x32x1024, .f32⟩
  | .hbm, ⟨39, _⟩ => ⟨S15x32x1024, .f32⟩
  | .hbm, ⟨40, _⟩ => ⟨S4x32x1024, .f32⟩
  | .hbm, ⟨41, _⟩ => ⟨S20x32x1024, .f32⟩
  | .hbm, ⟨42, _⟩ => ⟨S32x19x1024, .f32⟩
  | .hbm, ⟨43, _⟩ => ⟨S32x15x1024, .f32⟩
  | .hbm, ⟨44, _⟩ => ⟨S1x32x15x1024, .f32⟩
  | .hbm, ⟨45, _⟩ => ⟨S1x640x1024, .f32⟩
  | .hbm, ⟨46, _⟩ => ⟨S1x128x1024, .f32⟩
  | .hbm, ⟨47, _⟩ => ⟨S1x1024x128, .f32⟩
  | .hbm, ⟨48, _⟩ => ⟨S1x1024x128, .f32⟩
  | .hbm, ⟨49, _⟩ => ⟨S1x128x1024, .bf16⟩
  | .hbm, ⟨50, _⟩ => ⟨S1x1x1024x128, .bf16⟩
  | .hbm, ⟨51, _⟩ => ⟨S1x1x1024x128, .bf16⟩
  | .local _ .vmem, ⟨0, _⟩ => ⟨S1x512x1024, .f32⟩
  | .local _ .vmem, ⟨1, _⟩ => ⟨S1x128x1024, .f32⟩
  | .local _ .vmem, ⟨2, _⟩ => ⟨S16x1024, .f32⟩
  | .local _ .vmem, ⟨3, _⟩ => ⟨S4x256x256, .bf16⟩
  | .local _ .vmem, ⟨4, _⟩ => ⟨S1x1024, .f32⟩
  | .local _ .vmem, ⟨5, _⟩ => ⟨S1x1024, .f32⟩
  | .local _ .vmem, ⟨6, _⟩ => ⟨S2x1024, .f32⟩
  | .local _ .vmem, ⟨7, _⟩ => ⟨S2x1024, .f32⟩
  | .local _ .vmem, ⟨8, _⟩ => ⟨S1024x4096, .bf16⟩
  | .local _ .vmem, ⟨9, _⟩ => ⟨S1x4096, .f32⟩
  | .local _ .vmem, ⟨10, _⟩ => ⟨S4096x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x128x1024, .f32⟩
  | .local _ .vmem, ⟨16, _⟩ => ⟨S1x1024x128, .f32⟩
  | .local _ .vmem, ⟨17, _⟩ => ⟨S1x1024x128, .f32⟩
  | .local _ .vmem, ⟨18, _⟩ => ⟨S1x128x1024, .bf16⟩
  | .local _ .vmem, ⟨19, _⟩ => ⟨S1x1x1024x128, .bf16⟩
  | .local _ .vmem, ⟨20, _⟩ => ⟨S1x1x1024x128, .bf16⟩
  | .local _ .vmem, ⟨21, _⟩ => ⟨S640x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev main_v31_4 : Ref sig .tc := ⟨.hbm, 50, rfl⟩
abbrev main_v31_5 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg0.toNat, c4_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x1024x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x1x1024x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x1x1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]
-- ==== Reference3Ideal.lean ====
abbrev S32x4x1024 : Shape := ⟨3, ![32, 4, 1024]⟩
abbrev S1x32x15x1024 : Shape := ⟨4, ![1, 32, 15, 1024]⟩
abbrev S16x1024 : Shape := ⟨2, ![16, 1024]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1024x2048 : Shape := ⟨2, ![1024, 2048]⟩
abbrev S1x1024x1024 : Shape := ⟨3, ![1, 1024, 1024]⟩
abbrev S32x15x1024 : Shape := ⟨3, ![32, 15, 1024]⟩
abbrev S32x19x1024 : Shape := ⟨3, ![32, 19, 1024]⟩
abbrev S4x256x256 : Shape := ⟨3, ![4, 256, 256]⟩
abbrev S1024 : Shape := ⟨1, ![1024]⟩
abbrev S_ : Shape := ⟨0, ![]⟩
abbrev S32x1x1024 : Shape := ⟨3, ![32, 1, 1024]⟩
abbrev S32x20x1024 : Shape := ⟨3, ![32, 20, 1024]⟩
abbrev S4 : Shape := ⟨1, ![4]⟩
abbrev S4x1 : Shape := ⟨2, ![4, 1]⟩
abbrev S4x2 : Shape := ⟨2, ![4, 2]⟩
abbrev S32x4x256 : Shape := ⟨3, ![32, 4, 256]⟩
abbrev S1x4x1 : Shape := ⟨3, ![1, 4, 1]⟩
abbrev S32x4x1x256 : Shape := ⟨4, ![32, 4, 1, 256]⟩
abbrev S32x4x4x256 : Shape := ⟨4, ![32, 4, 4, 256]⟩
abbrev S4x256x32x4 : Shape := ⟨4, ![4, 256, 32, 4]⟩
abbrev S1x1x1024 : Shape := ⟨3, ![1, 1, 1024]⟩
abbrev S32x4 : Shape := ⟨2, ![32, 4]⟩
abbrev S32x4x1 : Shape := ⟨3, ![32, 4, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S32x4x4096 : Shape := ⟨3, ![32, 4, 4096]⟩
abbrev S1x1x4096 : Shape := ⟨3, ![1, 1, 4096]⟩
abbrev S32x4x2048 : Shape := ⟨3, ![32, 4, 2048]⟩
abbrev S1024x1024 : Shape := ⟨2, ![1024, 1024]⟩
abbrev S4x32x1024 : Shape := ⟨3, ![4, 32, 1024]⟩
abbrev S128x1024 : Shape := ⟨2, ![128, 1024]⟩
abbrev S1024x128 : Shape := ⟨2, ![1024, 128]⟩
abbrev S1x1024x128 : Shape := ⟨3, ![1, 1024, 128]⟩
abbrev S1x128x1024 : Shape := ⟨3, ![1, 128, 1024]⟩

abbrev nBuf : Space → Nat
  | .hbm => 313
  | .vmem => 0
  | .smem => 0
  | _ => 0

abbrev hbmTy0_0 (i : Nat) : BufTy := match i % 128 with
  | 0 => ⟨S32x4x1024, .f32⟩
  | 1 => ⟨S1x32x15x1024, .f32⟩
  | 2 => ⟨S16x1024, .f32⟩
  | 3 => ⟨S2x2x1024, .f32⟩
  | 4 => ⟨S2x2x1024, .f32⟩
  | 5 => ⟨S1x4x256x256, .f32⟩
  | 6 => ⟨S1x1024, .f32⟩
  | 7 => ⟨S1x1024, .f32⟩
  | 8 => ⟨S2x1024x4096, .f32⟩
  | 9 => ⟨S2x4096, .f32⟩
  | 10 => ⟨S2x4096x1024, .f32⟩
  | 11 => ⟨S2x1024, .f32⟩
  | 12 => ⟨S1024x2048, .f32⟩
  | 13 => ⟨S1x1024x1024, .f32⟩
  | 14 => ⟨S32x15x1024, .f32⟩
  | 15 => ⟨S32x19x1024, .f32⟩
  | 16 => ⟨S4x256x256, .f32⟩
  | 17 => ⟨S1024, .f32⟩
  | 18 => ⟨S1024, .f32⟩
  | 19 => ⟨S_, .f32⟩
  | 20 => ⟨S32x1x1024, .f32⟩
  | 21 => ⟨S_, .f32⟩
  | 22 => ⟨S_, .f32⟩
  | 23 => ⟨S32x19x1024, .f32⟩
  | 24 => ⟨S32x20x1024, .f32⟩
  | 25 => ⟨S4, .i32⟩
  | 26 => ⟨S_, .i32⟩
  | 27 => ⟨S4, .i32⟩
  | 28 => ⟨S4, .i32⟩
  | 29 => ⟨S_, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S_, .i32⟩
  | 39 => ⟨S4, .i32⟩
  | 40 => ⟨S4, .i1⟩
  | 41 => ⟨S_, .i32⟩
  | 42 => ⟨S4, .i32⟩
  | 43 => ⟨S4, .i32⟩
  | 44 => ⟨S4, .i32⟩
  | 45 => ⟨S4x1, .i32⟩
  | 46 => ⟨S_, .i32⟩
  | 47 => ⟨S4x1, .i32⟩
  | 48 => ⟨S4x2, .i32⟩
  | 49 => ⟨S32x4x256, .f32⟩
  | 50 => ⟨S_, .i32⟩
  | 51 => ⟨S4, .i32⟩
  | 52 => ⟨S4, .i1⟩
  | 53 => ⟨S_, .i32⟩
  | 54 => ⟨S4, .i32⟩
  | 55 => ⟨S4, .i32⟩
  | 56 => ⟨S4, .i32⟩
  | 57 => ⟨S4x1, .i32⟩
  | 58 => ⟨S_, .i32⟩
  | 59 => ⟨S4x1, .i32⟩
  | 60 => ⟨S4x2, .i32⟩
  | 61 => ⟨S32x4x256, .f32⟩
  | 62 => ⟨S32x4x256, .f32⟩
  | 63 => ⟨S4, .i32⟩
  | 64 => ⟨S4, .f32⟩
  | 65 => ⟨S1x4x1, .f32⟩
  | 66 => ⟨S32x4x256, .f32⟩
  | 67 => ⟨S32x4x256, .f32⟩
  | 68 => ⟨S32x4x256, .f32⟩
  | 69 => ⟨S32x4x256, .f32⟩
  | 70 => ⟨S_, .i32⟩
  | 71 => ⟨S4, .i32⟩
  | 72 => ⟨S4, .i32⟩
  | 73 => ⟨S_, .i32⟩
  | 74 => ⟨S4, .i32⟩
  | 75 => ⟨S4, .i32⟩
  | 76 => ⟨S_, .i32⟩
  | 77 => ⟨S4, .i32⟩
  | 78 => ⟨S4, .i1⟩
  | 79 => ⟨S_, .i32⟩
  | 80 => ⟨S4, .i32⟩
  | 81 => ⟨S4, .i32⟩
  | 82 => ⟨S4, .i32⟩
  | 83 => ⟨S4x1, .i32⟩
  | 84 => ⟨S_, .i32⟩
  | 85 => ⟨S4x1, .i32⟩
  | 86 => ⟨S4x2, .i32⟩
  | 87 => ⟨S32x4x256, .f32⟩
  | 88 => ⟨S_, .i32⟩
  | 89 => ⟨S4, .i32⟩
  | 90 => ⟨S4, .i1⟩
  | 91 => ⟨S_, .i32⟩
  | 92 => ⟨S4, .i32⟩
  | 93 => ⟨S4, .i32⟩
  | 94 => ⟨S4, .i32⟩
  | 95 => ⟨S4x1, .i32⟩
  | 96 => ⟨S_, .i32⟩
  | 97 => ⟨S4x1, .i32⟩
  | 98 => ⟨S4x2, .i32⟩
  | 99 => ⟨S32x4x256, .f32⟩
  | 100 => ⟨S32x4x256, .f32⟩
  | 101 => ⟨S4, .i32⟩
  | 102 => ⟨S4, .f32⟩
  | 103 => ⟨S1x4x1, .f32⟩
  | 104 => ⟨S32x4x256, .f32⟩
  | 105 => ⟨S32x4x256, .f32⟩
  | 106 => ⟨S32x4x256, .f32⟩
  | 107 => ⟨S32x4x256, .f32⟩
  | 108 => ⟨S_, .i32⟩
  | 109 => ⟨S4, .i32⟩
  | 110 => ⟨S4, .i32⟩
  | 111 => ⟨S_, .i32⟩
  | 112 => ⟨S4, .i32⟩
  | 113 => ⟨S4, .i32⟩
  | 114 => ⟨S_, .i32⟩
  | 115 => ⟨S4, .i32⟩
  | 116 => ⟨S4, .i1⟩
  | 117 => ⟨S_, .i32⟩
  | 118 => ⟨S4, .i32⟩
  | 119 => ⟨S4, .i32⟩
  | 120 => ⟨S4, .i32⟩
  | 121 => ⟨S4x1, .i32⟩
  | 122 => ⟨S_, .i32⟩
  | 123 => ⟨S4x1, .i32⟩
  | 124 => ⟨S4x2, .i32⟩
  | 125 => ⟨S32x4x256, .f32⟩
  | 126 => ⟨S_, .i32⟩
  | 127 => ⟨S4, .i32⟩
  | _ => ⟨S32x4x1024, .f32⟩

abbrev hbmTy0_1 (i : Nat) : BufTy := match i % 128 with
  | 0 => ⟨S4, .i1⟩
  | 1 => ⟨S_, .i32⟩
  | 2 => ⟨S4, .i32⟩
  | 3 => ⟨S4, .i32⟩
  | 4 => ⟨S4, .i32⟩
  | 5 => ⟨S4x1, .i32⟩
  | 6 => ⟨S_, .i32⟩
  | 7 => ⟨S4x1, .i32⟩
  | 8 => ⟨S4x2, .i32⟩
  | 9 => ⟨S32x4x256, .f32⟩
  | 10 => ⟨S32x4x256, .f32⟩
  | 11 => ⟨S4, .i32⟩
  | 12 => ⟨S4, .f32⟩
  | 13 => ⟨S1x4x1, .f32⟩
  | 14 => ⟨S32x4x256, .f32⟩
  | 15 => ⟨S32x4x256, .f32⟩
  | 16 => ⟨S32x4x256, .f32⟩
  | 17 => ⟨S32x4x256, .f32⟩
  | 18 => ⟨S_, .i32⟩
  | 19 => ⟨S4, .i32⟩
  | 20 => ⟨S4, .i32⟩
  | 21 => ⟨S_, .i32⟩
  | 22 => ⟨S4, .i32⟩
  | 23 => ⟨S4, .i32⟩
  | 24 => ⟨S_, .i32⟩
  | 25 => ⟨S4, .i32⟩
  | 26 => ⟨S4, .i1⟩
  | 27 => ⟨S_, .i32⟩
  | 28 => ⟨S4, .i32⟩
  | 29 => ⟨S4, .i32⟩
  | 30 => ⟨S4, .i32⟩
  | 31 => ⟨S4x1, .i32⟩
  | 32 => ⟨S_, .i32⟩
  | 33 => ⟨S4x1, .i32⟩
  | 34 => ⟨S4x2, .i32⟩
  | 35 => ⟨S32x4x256, .f32⟩
  | 36 => ⟨S_, .i32⟩
  | 37 => ⟨S4, .i32⟩
  | 38 => ⟨S4, .i1⟩
  | 39 => ⟨S_, .i32⟩
  | 40 => ⟨S4, .i32⟩
  | 41 => ⟨S4, .i32⟩
  | 42 => ⟨S4, .i32⟩
  | 43 => ⟨S4x1, .i32⟩
  | 44 => ⟨S_, .i32⟩
  | 45 => ⟨S4x1, .i32⟩
  | 46 => ⟨S4x2, .i32⟩
  | 47 => ⟨S32x4x256, .f32⟩
  | 48 => ⟨S32x4x256, .f32⟩
  | 49 => ⟨S4, .i32⟩
  | 50 => ⟨S4, .f32⟩
  | 51 => ⟨S1x4x1, .f32⟩
  | 52 => ⟨S32x4x256, .f32⟩
  | 53 => ⟨S32x4x256, .f32⟩
  | 54 => ⟨S32x4x256, .f32⟩
  | 55 => ⟨S32x4x256, .f32⟩
  | 56 => ⟨S32x4x1x256, .f32⟩
  | 57 => ⟨S32x4x1x256, .f32⟩
  | 58 => ⟨S32x4x1x256, .f32⟩
  | 59 => ⟨S32x4x1x256, .f32⟩
  | 60 => ⟨S32x4x4x256, .f32⟩
  | 61 => ⟨S4x256x32x4, .f32⟩
  | 62 => ⟨S32x4x4x256, .f32⟩
  | 63 => ⟨S32x4x1024, .f32⟩
  | 64 => ⟨S1x1x1024, .f32⟩
  | 65 => ⟨S32x4x1024, .f32⟩
  | 66 => ⟨S32x4x1024, .f32⟩
  | 67 => ⟨S1x1x1024, .f32⟩
  | 68 => ⟨S32x4x1024, .f32⟩
  | 69 => ⟨S32x4x1024, .f32⟩
  | 70 => ⟨S_, .f32⟩
  | 71 => ⟨S32x4x1024, .f32⟩
  | 72 => ⟨S32x4x1024, .f32⟩
  | 73 => ⟨S32x4x1024, .f32⟩
  | 74 => ⟨S1x1x1024, .f32⟩
  | 75 => ⟨S1024, .f32⟩
  | 76 => ⟨S1x1x1024, .f32⟩
  | 77 => ⟨S1024, .f32⟩
  | 78 => ⟨S_, .f32⟩
  | 79 => ⟨S32x4, .f32⟩
  | 80 => ⟨S32x4x1, .f32⟩
  | 81 => ⟨S_, .f32⟩
  | 82 => ⟨S32x4x1, .f32⟩
  | 83 => ⟨S32x4x1, .f32⟩
  | 84 => ⟨S32x4x1024, .f32⟩
  | 85 => ⟨S32x4x1024, .f32⟩
  | 86 => ⟨S32x4x1024, .f32⟩
  | 87 => ⟨S_, .f32⟩
  | 88 => ⟨S32x4, .f32⟩
  | 89 => ⟨S32x4x1, .f32⟩
  | 90 => ⟨S_, .f32⟩
  | 91 => ⟨S32x4x1, .f32⟩
  | 92 => ⟨S32x4x1, .f32⟩
  | 93 => ⟨S_, .f32⟩
  | 94 => ⟨S32x4x1, .f32⟩
  | 95 => ⟨S32x4x1, .f32⟩
  | 96 => ⟨S32x4x1, .f32⟩
  | 97 => ⟨S32x4x1024, .f32⟩
  | 98 => ⟨S32x4x1024, .f32⟩
  | 99 => ⟨S1x1x1024, .f32⟩
  | 100 => ⟨S32x4x1024, .f32⟩
  | 101 => ⟨S32x4x1024, .f32⟩
  | 102 => ⟨S1x1x1024, .f32⟩
  | 103 => ⟨S32x4x1024, .f32⟩
  | 104 => ⟨S32x4x1024, .f32⟩
  | 105 => ⟨S_, .f32⟩
  | 106 => ⟨S32x4x1024, .f32⟩
  | 107 => ⟨S32x4x1024, .f32⟩
  | 108 => ⟨S1x1024x4096, .f32⟩
  | 109 => ⟨S1024x4096, .f32⟩
  | 110 => ⟨S1x4096, .f32⟩
  | 111 => ⟨S4096, .f32⟩
  | 112 => ⟨S1x4096x1024, .f32⟩
  | 113 => ⟨S4096x1024, .f32⟩
  | 114 => ⟨S1x1024, .f32⟩
  | 115 => ⟨S1024, .f32⟩
  | 116 => ⟨S32x4x4096, .f32⟩
  | 117 => ⟨S1x1x4096, .f32⟩
  | 118 => ⟨S32x4x4096, .f32⟩
  | 119 => ⟨S32x4x4096, .f32⟩
  | 120 => ⟨S_, .f32⟩
  | 121 => ⟨S32x4x4096, .f32⟩
  | 122 => ⟨S32x4x4096, .f32⟩
  | 123 => ⟨S32x4x4096, .f32⟩
  | 124 => ⟨S32x4x1024, .f32⟩
  | 125 => ⟨S1x1x1024, .f32⟩
  | 126 => ⟨S32x4x1024, .f32⟩
  | 127 => ⟨S32x4x1024, .f32⟩
  | _ => ⟨S32x4x1024, .f32⟩

abbrev hbmTy0_2 (i : Nat) : BufTy := match i % 128 with
  | 0 => ⟨S32x4x1024, .f32⟩
  | 1 => ⟨S1x1x1024, .f32⟩
  | 2 => ⟨S1024, .f32⟩
  | 3 => ⟨S1x1x1024, .f32⟩
  | 4 => ⟨S1024, .f32⟩
  | 5 => ⟨S_, .f32⟩
  | 6 => ⟨S32x4, .f32⟩
  | 7 => ⟨S32x4x1, .f32⟩
  | 8 => ⟨S_, .f32⟩
  | 9 => ⟨S32x4x1, .f32⟩
  | 10 => ⟨S32x4x1, .f32⟩
  | 11 => ⟨S32x4x1024, .f32⟩
  | 12 => ⟨S32x4x1024, .f32⟩
  | 13 => ⟨S32x4x1024, .f32⟩
  | 14 => ⟨S_, .f32⟩
  | 15 => ⟨S32x4, .f32⟩
  | 16 => ⟨S32x4x1, .f32⟩
  | 17 => ⟨S_, .f32⟩
  | 18 => ⟨S32x4x1, .f32⟩
  | 19 => ⟨S32x4x1, .f32⟩
  | 20 => ⟨S_, .f32⟩
  | 21 => ⟨S32x4x1, .f32⟩
  | 22 => ⟨S32x4x1, .f32⟩
  | 23 => ⟨S32x4x1, .f32⟩
  | 24 => ⟨S32x4x1024, .f32⟩
  | 25 => ⟨S32x4x1024, .f32⟩
  | 26 => ⟨S1x1x1024, .f32⟩
  | 27 => ⟨S32x4x1024, .f32⟩
  | 28 => ⟨S32x4x1024, .f32⟩
  | 29 => ⟨S1x1x1024, .f32⟩
  | 30 => ⟨S32x4x1024, .f32⟩
  | 31 => ⟨S32x4x1024, .f32⟩
  | 32 => ⟨S32x4x2048, .f32⟩
  | 33 => ⟨S32x4x1024, .f32⟩
  | 34 => ⟨S32x4x1024, .f32⟩
  | 35 => ⟨S1024x1024, .f32⟩
  | 36 => ⟨S32x4x1024, .f32⟩
  | 37 => ⟨S_, .f32⟩
  | 38 => ⟨S32x4x1024, .f32⟩
  | 39 => ⟨S32x4x1024, .f32⟩
  | 40 => ⟨S4x32x1024, .f32⟩
  | 41 => ⟨S128x1024, .f32⟩
  | 42 => ⟨S1024x128, .f32⟩
  | 43 => ⟨S1x1024x128, .f32⟩
  | 44 => ⟨S4x32x1024, .f32⟩
  | 45 => ⟨S128x1024, .f32⟩
  | 46 => ⟨S1024x128, .f32⟩
  | 47 => ⟨S1x1024x128, .f32⟩
  | 48 => ⟨S4x32x1024, .f32⟩
  | 49 => ⟨S128x1024, .f32⟩
  | 50 => ⟨S1x128x1024, .f32⟩
  | 51 => ⟨S4x32x1024, .f32⟩
  | 52 => ⟨S128x1024, .f32⟩
  | 53 => ⟨S1x128x1024, .f32⟩
  | 54 => ⟨S1x128x1024, .bf16⟩
  | 55 => ⟨S32x15x1024, .f32⟩
  | 56 => ⟨S1x32x15x1024, .f32⟩
  | _ => ⟨S32x4x1024, .f32⟩

abbrev hbmTy (i : Nat) : BufTy := match i / 128 with
  | 0 => hbmTy0_0 i
  | 1 => hbmTy0_1 i
  | 2 => hbmTy0_2 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_call0_call0_cst : Ref sig .tc := ⟨.hbm, 21, rfl⟩
abbrev main_call0_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_c_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_14 : Ref sig .tc := ⟨.hbm, 88, rfl⟩
abbrev main_v56 : Ref sig .tc := ⟨.hbm, 89, rfl⟩
abbrev main_v57 : Ref sig .tc := ⟨.hbm, 90, rfl⟩
abbrev main_c_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_17 : Ref sig .tc := ⟨.hbm, 108, rfl⟩
abbrev main_v73 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_c_19 : Ref sig .tc := ⟨.hbm, 114, rfl⟩
abbrev main_v77 : Ref sig .tc := ⟨.hbm, 115, rfl⟩
abbrev main_v78 : Ref sig .tc := ⟨.hbm, 116, rfl⟩
abbrev main_c_20 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_21 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_22 : Ref sig .tc := ⟨.hbm, 126, rfl⟩
abbrev main_v86 : Ref sig .tc := ⟨.hbm, 127, rfl⟩
abbrev main_v87 : Ref sig .tc := ⟨.hbm, 128, rfl⟩
abbrev main_c_23 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_24 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_25 : Ref sig .tc := ⟨.hbm, 146, rfl⟩
abbrev main_v103 : Ref sig .tc := ⟨.hbm, 147, rfl⟩
abbrev main_v104 : Ref sig .tc := ⟨.hbm, 148, rfl⟩
abbrev main_c_26 : Ref sig .tc := ⟨.hbm, 149, rfl⟩
abbrev main_v105 : Ref sig .tc := ⟨.hbm, 150, rfl⟩
abbrev main_v106 : Ref sig .tc := ⟨.hbm, 151, rfl⟩
abbrev main_c_27 : Ref sig .tc := ⟨.hbm, 152, rfl⟩
abbrev main_v107 : Ref sig .tc := ⟨.hbm, 153, rfl⟩
abbrev main_v108 : Ref sig .tc := ⟨.hbm, 154, rfl⟩
abbrev main_c_28 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_29 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_30 : Ref sig .tc := ⟨.hbm, 164, rfl⟩
abbrev main_v116 : Ref sig .tc := ⟨.hbm, 165, rfl⟩
abbrev main_v117 : Ref sig .tc := ⟨.hbm, 166, rfl⟩
abbrev main_c_31 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_32 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_33 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_34 : Ref sig .tc := ⟨.hbm, 206, rfl⟩
abbrev main_v154 : Ref sig .tc := ⟨.hbm, 207, rfl⟩
abbrev main_v155 : Ref sig .tc := ⟨.hbm, 208, rfl⟩
abbrev main_cst_35 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_36 : Ref sig .tc := ⟨.hbm, 215, rfl⟩
abbrev main_v161 : Ref sig .tc := ⟨.hbm, 216, rfl⟩
abbrev main_v162 : Ref sig .tc := ⟨.hbm, 217, rfl⟩
abbrev main_cst_37 : Ref sig .tc := ⟨.hbm, 218, rfl⟩
abbrev main_v163 : Ref sig .tc := ⟨.hbm, 219, rfl⟩
abbrev main_v164 : Ref sig .tc := ⟨.hbm, 220, rfl⟩
abbrev main_cst_38 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_39 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_call1_cst : Ref sig .tc := ⟨.hbm, 248, rfl⟩
abbrev main_call1_v0 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_cst_40 : Ref sig .tc := ⟨.hbm, 261, rfl⟩
abbrev main_v201 : Ref sig .tc := ⟨.hbm, 262, rfl⟩
abbrev main_v202 : Ref sig .tc := ⟨.hbm, 263, rfl⟩
abbrev main_cst_41 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_cst_42 : Ref sig .tc := ⟨.hbm, 270, rfl⟩
abbrev main_v208 : Ref sig .tc := ⟨.hbm, 271, rfl⟩
abbrev main_v209 : Ref sig .tc := ⟨.hbm, 272, rfl⟩
abbrev main_cst_43 : Ref sig .tc := ⟨.hbm, 273, rfl⟩
abbrev main_v210 : Ref sig .tc := ⟨.hbm, 274, rfl⟩
abbrev main_v211 : Ref sig .tc := ⟨.hbm, 275, rfl⟩
abbrev main_cst_44 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_45 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩

abbrev nD : Nat := 1
abbrev τ : Topo := Topo.v7x

variable {F : FTy → Type} [FloatOps F]
-- ==== Kernel4.lean ====
abbrev S32x4x1024 : Shape := ⟨3, ![32, 4, 1024]⟩
abbrev S1x128x1024 : Shape := ⟨3, ![1, 128, 1024]⟩
abbrev S2x2x1024 : Shape := ⟨3, ![2, 2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1x1024x1024 : Shape := ⟨3, ![1, 1024, 1024]⟩
abbrev S1024x1024 : Shape := ⟨2, ![1024, 1024]⟩
abbrev S1x2x1024 : Shape := ⟨3, ![1, 2, 1024]⟩
abbrev S1x1024x4096 : Shape := ⟨3, ![1, 1024, 4096]⟩
abbrev S1024x4096 : Shape := ⟨2, ![1024, 4096]⟩
abbrev S1x4096 : Shape := ⟨2, ![1, 4096]⟩
abbrev S1x4096x1024 : Shape := ⟨3, ![1, 4096, 1024]⟩
abbrev S4096x1024 : Shape := ⟨2, ![4096, 1024]⟩
abbrev S1x1024 : Shape := ⟨2, ![1, 1024]⟩
abbrev S128x1024 : Shape := ⟨2, ![128, 1024]⟩
abbrev S4x32x1024 : Shape := ⟨3, ![4, 32, 1024]⟩
abbrev S128 : Shape := ⟨1, ![128]⟩
abbrev S128x1 : Shape := ⟨2, ![128, 1]⟩

abbrev nBuf : Space → Nat
  | .hbm => 27
  | .vmem => 10
  | .smem => 0
  | _ => 0

abbrev bufTy : (tb : Table) → Fin (tcTables nBuf tb) → BufTy
  | .hbm, ⟨0, _⟩ => ⟨S32x4x1024, .bf16⟩
  | .hbm, ⟨1, _⟩ => ⟨S1x128x1024, .f32⟩
  | .hbm, ⟨2, _⟩ => ⟨S2x2x1024, .f32⟩
  | .hbm, ⟨3, _⟩ => ⟨S2x2x1024, .f32⟩
  | .hbm, ⟨4, _⟩ => ⟨S2x1024x4096, .f32⟩
  | .hbm, ⟨5, _⟩ => ⟨S2x4096, .f32⟩
  | .hbm, ⟨6, _⟩ => ⟨S2x4096x1024, .f32⟩
  | .hbm, ⟨7, _⟩ => ⟨S2x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1x2x1024, .f32⟩
  | .hbm, ⟨12, _⟩ => ⟨S2x1024, .f32⟩
  | .hbm, ⟨13, _⟩ => ⟨S1x2x1024, .f32⟩
  | .hbm, ⟨14, _⟩ => ⟨S2x1024, .f32⟩
  | .hbm, ⟨15, _⟩ => ⟨S1x1024x4096, .f32⟩
  | .hbm, ⟨16, _⟩ => ⟨S1024x4096, .f32⟩
  | .hbm, ⟨17, _⟩ => ⟨S1024x4096, .bf16⟩
  | .hbm, ⟨18, _⟩ => ⟨S1x4096, .f32⟩
  | .hbm, ⟨19, _⟩ => ⟨S1x4096x1024, .f32⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S128x1024, .f32⟩
  | .hbm, ⟨24, _⟩ => ⟨S4x32x1024, .bf16⟩
  | .hbm, ⟨25, _⟩ => ⟨S128x1024, .bf16⟩
  | .hbm, ⟨26, _⟩ => ⟨S128x1024, .f32⟩
  | .local _ .vmem, ⟨0, _⟩ => ⟨S128x1024, .bf16⟩
  | .local _ .vmem, ⟨1, _⟩ => ⟨S128x1024, .f32⟩
  | .local _ .vmem, ⟨2, _⟩ => ⟨S1024x1024, .bf16⟩
  | .local _ .vmem, ⟨3, _⟩ => ⟨S2x1024, .f32⟩
  | .local _ .vmem, ⟨4, _⟩ => ⟨S2x1024, .f32⟩
  | .local _ .vmem, ⟨5, _⟩ => ⟨S1024x4096, .bf16⟩
  | .local _ .vmem, ⟨6, _⟩ => ⟨S1x4096, .f32⟩
  | .local _ .vmem, ⟨7, _⟩ => ⟨S4096x1024, .bf16⟩
  | .local _ .vmem, ⟨8, _⟩ => ⟨S1x1024, .f32⟩
  | .local _ .vmem, ⟨9, _⟩ => ⟨S128x1024, .f32⟩
  | _, _ => ⟨S32x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference4Ideal.lean ====
abbrev S32x4x1024 : Shape := ⟨3, ![32, 4, 1024]⟩
abbrev S1x128x1024 : Shape := ⟨3, ![1, 128, 1024]⟩
abbrev S2x2x1024 : Shape := ⟨3, ![2, 2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S2x1024 : Shape := ⟨2, ![2, 1024]⟩
abbrev S1x1024x1024 : Shape := ⟨3, ![1, 1024, 1024]⟩
abbrev S4x32x1024 : Shape := ⟨3, ![4, 32, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S32x4 : Shape := ⟨2, ![32, 4]⟩
abbrev S32x4x1 : Shape := ⟨3, ![32, 4, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S1x1024 : Shape := ⟨2, ![1, 1024]⟩
abbrev S32x4x4096 : Shape := ⟨3, ![32, 4, 4096]⟩
abbrev S1x1x4096 : Shape := ⟨3, ![1, 1, 4096]⟩
abbrev S128x1024 : Shape := ⟨2, ![128, 1024]⟩

abbrev nBuf : Space → Nat
  | .hbm => 106
  | .vmem => 0
  | .smem => 0
  | _ => 0

abbrev bufTy : (tb : Table) → Fin (tcTables nBuf tb) → BufTy
  | .hbm, ⟨0, _⟩ => ⟨S32x4x1024, .bf16⟩
  | .hbm, ⟨1, _⟩ => ⟨S1x128x1024, .f32⟩
  | .hbm, ⟨2, _⟩ => ⟨S2x2x1024, .f32⟩
  | .hbm, ⟨3, _⟩ => ⟨S2x2x1024, .f32⟩
  | .hbm, ⟨4, _⟩ => ⟨S2x1024x4096, .f32⟩
  | .hbm, ⟨5, _⟩ => ⟨S2x4096, .f32⟩
  | .hbm, ⟨6, _⟩ => ⟨S2x4096x1024, .f32⟩
  | .hbm, ⟨7, _⟩ => ⟨S2x1024, .f32⟩
  | .hbm, ⟨8, _⟩ => ⟨S1x1024x1024, .f32⟩
  | .hbm, ⟨9, _⟩ => ⟨S32x4x1024, .f32⟩
  | .hbm, ⟨10, _⟩ => ⟨S4x32x1024, .f32⟩
  | .hbm, ⟨11, _⟩ => ⟨S32x4x1024, .f32⟩
  | .hbm, ⟨12, _⟩ => ⟨S1024x1024, .f32⟩
  | .hbm, ⟨13, _⟩ => ⟨S32x4x1024, .f32⟩
  | .hbm, ⟨14, _⟩ => ⟨S_, .f32⟩
  | .hbm, ⟨15, _⟩ => ⟨S32x4x1024, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S_, .f32⟩
  | .hbm, ⟨23, _⟩ => ⟨S32x4, .f32⟩
  | .hbm, ⟨24, _⟩ => ⟨S32x4x1, .f32⟩
  | .hbm, ⟨25, _⟩ => ⟨S_, .f32⟩
  | .hbm, ⟨26, _⟩ => ⟨S32x4x1, .f32⟩
  | .hbm, ⟨27, _⟩ => ⟨S32x4x1, .f32⟩
  | .hbm, ⟨28, _⟩ => ⟨S32x4x1024, .f32⟩
  | .hbm, ⟨29, _⟩ => ⟨S32x4x1024, .f32⟩
  | .hbm, ⟨30, _⟩ => ⟨S32x4x1024, .f32⟩
  | .hbm, ⟨31, _⟩ => ⟨S_, .f32⟩
  | .hbm, ⟨32, _⟩ => ⟨S32x4, .f32⟩
  | .hbm, ⟨33, _⟩ => ⟨S32x4x1, .f32⟩
  | .hbm, ⟨34, _⟩ => ⟨S_, .f32⟩
  | .hbm, ⟨35, _⟩ => ⟨S32x4x1, .f32⟩
  | .hbm, ⟨36, _⟩ => ⟨S32x4x1, .f32⟩
  | .hbm, ⟨37, _⟩ => ⟨S_, .f32⟩
  | .hbm, ⟨38, _⟩ => ⟨S32x4x1, .f32⟩
  | .hbm, ⟨39, _⟩ => ⟨S32x4x1, .f32⟩
  | .hbm, ⟨40, _⟩ => ⟨S32x4x1, .f32⟩
  | .hbm, ⟨41, _⟩ => ⟨S32x4x1024, .f32⟩
  | .hbm, ⟨42, _⟩ => ⟨S32x4x1024, .f32⟩
  | .hbm, ⟨43, _⟩ => ⟨S1x1x1024, .f32⟩
  | .hbm, ⟨44, _⟩ => ⟨S32x4x1024, .f32⟩
  | .hbm, ⟨45, _⟩ => ⟨S32x4x1024, .f32⟩
  | .hbm, ⟨46, _⟩ => ⟨S1x1x1024, .f32⟩
  | .hbm, ⟨47, _⟩ => ⟨S32x4x1024, .f32⟩
  | .hbm, ⟨48, _⟩ => ⟨S32x4x1024, .f32⟩
  | .hbm, ⟨49, _⟩ => ⟨S_, .f32⟩
  | .hbm, ⟨50, _⟩ => ⟨S32x4x1024, .f32⟩
  | .hbm, ⟨51, _⟩ => ⟨S32x4x1024, .f32⟩
  | .hbm, ⟨52, _⟩ => ⟨S1x1024x4096, .f32⟩
  | .hbm, ⟨53, _⟩ => ⟨S1024x4096, .f32⟩
  | .hbm, ⟨54, _⟩ => ⟨S1x4096, .f32⟩
  | .hbm, ⟨55, _⟩ => ⟨S4096, .f32⟩
  | .hbm, ⟨56, _⟩ => ⟨S1x4096x1024, .f32⟩
  | .hbm, ⟨57, _⟩ => ⟨S4096x1024, .f32⟩
  | .hbm, ⟨58, _⟩ => ⟨S1x1024, .f32⟩
  | .hbm, ⟨59, _⟩ => ⟨S1024, .f32⟩
  | .hbm, ⟨60, _⟩ => ⟨S32x4x4096, .f32⟩
  | .hbm, ⟨61, _⟩ => ⟨S1x1x4096, .f32⟩
  | .hbm, ⟨62, _⟩ => ⟨S32x4x4096, .f32⟩
  | .hbm, ⟨63, _⟩ => ⟨S32x4x4096, .f32⟩
  | .hbm, ⟨64, _⟩ => ⟨S_, .f32⟩
  | .hbm, ⟨65, _⟩ => ⟨S32x4x4096, .f32⟩
  | .hbm, ⟨66, _⟩ => ⟨S32x4x4096, .f32⟩
  | .hbm, ⟨67, _⟩ => ⟨S32x4x4096, .f32⟩
  | .hbm, ⟨68, _⟩ => ⟨S32x4x1024, .f32⟩
  | .hbm, ⟨69, _⟩ => ⟨S1x1x1024, .f32⟩
  | .hbm, ⟨70, _⟩ => ⟨S32x4x1024, .f32⟩
  | .hbm, ⟨71, _⟩ => ⟨S32x4x1024, .f32⟩
  | .hbm, ⟨72, _⟩ => ⟨S32x4x1024, .f32⟩
  | .hbm, ⟨73, _⟩ => ⟨S1x1x1024, .f32⟩
  | .hbm, ⟨74, _⟩ => ⟨S1024, .f32⟩
  | .hbm, ⟨75, _⟩ => ⟨S1x1x1024, .f32⟩
  | .hbm, ⟨76, _⟩ => ⟨S1024, .f32⟩
  | .hbm, ⟨77, _⟩ => ⟨S_, .f32⟩
  | .hbm, ⟨78, _⟩ => ⟨S32x4, .f32⟩
  | .hbm, ⟨79, _⟩ => ⟨S32x4x1, .f32⟩
  | .hbm, ⟨80, _⟩ => ⟨S_, .f32⟩
  | .hbm, ⟨81, _⟩ => ⟨S32x4x1, .f32⟩
  | .hbm, ⟨82, _⟩ => ⟨S32x4x1, .f32⟩
  | .hbm, ⟨83, _⟩ => ⟨S32x4x1024, .f32⟩
  | .hbm, ⟨84, _⟩ => ⟨S32x4x1024, .f32⟩
  | .hbm, ⟨85, _⟩ => ⟨S32x4x1024, .f32⟩
  | .hbm, ⟨86, _⟩ => ⟨S_, .f32⟩
  | .hbm, ⟨87, _⟩ => ⟨S32x4, .f32⟩
  | .hbm, ⟨88, _⟩ => ⟨S32x4x1, .f32⟩
  | .hbm, ⟨89, _⟩ => ⟨S_, .f32⟩
  | .hbm, ⟨90, _⟩ => ⟨S32x4x1, .f32⟩
  | .hbm, ⟨91, _⟩ => ⟨S32x4x1, .f32⟩
  | .hbm, ⟨92, _⟩ => ⟨S_, .f32⟩
  | .hbm, ⟨93, _⟩ => ⟨S32x4x1, .f32⟩
  | .hbm, ⟨94, _⟩ => ⟨S32x4x1, .f32⟩
  | .hbm, ⟨95, _⟩ => ⟨S32x4x1, .f32⟩
  | .hbm, ⟨96, _⟩ => ⟨S32x4x1024, .f32⟩
  | .hbm, ⟨97, _⟩ => ⟨S32x4x1024, .f32⟩
  | .hbm, ⟨98, _⟩ => ⟨S1x1x1024, .f32⟩
  | .hbm, ⟨99, _⟩ => ⟨S32x4x1024, .f32⟩
  | .hbm, ⟨100, _⟩ => ⟨S32x4x1024, .f32⟩
  | .hbm, ⟨101, _⟩ => ⟨S1x1x1024, .f32⟩
  | .hbm, ⟨102, _⟩ => ⟨S32x4x1024, .f32⟩
  | .hbm, ⟨103, _⟩ => ⟨S32x4x1024, .f32⟩
  | .hbm, ⟨104, _⟩ => ⟨S4x32x1024, .f32⟩
  | .hbm, ⟨105, _⟩ => ⟨S128x1024, .f32⟩
  | _, _ => ⟨S32x4x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel5.lean ====
abbrev S2x8448x1024 : Shape := ⟨3, ![2, 8448, 1024]⟩
abbrev S2x33x1024x256 : Shape := ⟨4, ![2, 33, 1024, 256]⟩
abbrev S1x16 : Shape := ⟨2, ![1, 16]⟩
abbrev S16 : Shape := ⟨1, ![16]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x1024 : Shape := ⟨3, ![1, 256, 1024]⟩
abbrev S1x33x1024x256 : Shape := ⟨4, ![1, 33, 1024, 256]⟩
abbrev S16x256x128 : Shape := ⟨3, ![16, 256, 128]⟩
abbrev S16x256x256 : Shape := ⟨3, ![16, 256, 256]⟩
abbrev S256x128 : Shape := ⟨2, ![256, 128]⟩
abbrev S1x256x128 : Shape := ⟨3, ![1, 256, 128]⟩
abbrev S1x1x128x256 : Shape := ⟨4, ![1, 1, 128, 256]⟩
abbrev S128x256 : Shape := ⟨2, ![128, 256]⟩
abbrev S1 : Shape := ⟨1, ![1]⟩
abbrev S1x256x256 : Shape := ⟨3, ![1, 256, 256]⟩

abbrev nBuf : Space → Nat
  | .hbm => 14
  | .vmem => 12
  | .smem => 1
  | _ => 0

abbrev bufTy : (tb : Table) → Fin (tcTables nBuf tb) → BufTy
  | .hbm, ⟨0, _⟩ => ⟨S2x8448x1024, .bf16⟩
  | .hbm, ⟨1, _⟩ => ⟨S2x33x1024x256, .bf16⟩
  | .hbm, ⟨2, _⟩ => ⟨S2x33x1024x256, .bf16⟩
  | .hbm, ⟨3, _⟩ => ⟨S1x16, .f32⟩
  | .hbm, ⟨4, _⟩ => ⟨S16, .f32⟩
  | .hbm, ⟨5, _⟩ => ⟨S256, .i32⟩
  | .hbm, ⟨6, _⟩ => ⟨S256x1, .i32⟩
  | .hbm, ⟨7, _⟩ => ⟨S256, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .bf16⟩
  | .hbm, ⟨13, _⟩ => ⟨S2x8448x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x33x1024x256, .bf16⟩
  | .local _ .vmem, ⟨3, _⟩ => ⟨S1x33x1024x256, .bf16⟩
  | .local _ .vmem, ⟨4, _⟩ => ⟨S256x256, .bf16⟩
  | .local _ .vmem, ⟨5, _⟩ => ⟨S1x256x1024, .bf16⟩
  | .local _ .vmem, ⟨6, _⟩ => ⟨S1x256x1024, .bf16⟩
  | .local _ .vmem, ⟨7, _⟩ => ⟨S16x256x128, .bf16⟩
  | .local _ .vmem, ⟨8, _⟩ => ⟨S16x256x256, .f32⟩
  | .local _ .vmem, ⟨9, _⟩ => ⟨S16x256x256, .bf16⟩
  | .local _ .vmem, ⟨10, _⟩ => ⟨S16x256x128, .f32⟩
  | .local _ .vmem, ⟨11, _⟩ => ⟨S16x256x128, .f32⟩
  | .local _ .smem, ⟨0, _⟩ => ⟨S16, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 1, 32], ![false, false, false]⟩

def k0_off1 (i : grid0.Coords) (c0_i32_222 : BitVec 32) : Fin 4 → Nat :=
  let c0_224 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v540 : Index := Scalar.indexCast v539
  let c0_225 : Index := 0#32
  let c0_226 : Index := 0#32
  ![0, v540.toNat, 0, 0]
def k0_off2 (i : grid0.Coords) (c0_i32_238 : BitVec 32) : Fin 1 → Nat :=
  let c16_i32 : BitVec 32 := 16#32
  let arg1 : BitVec 32 := BitVec.ofNat 32 (i 1).val
  let v552 : BitVec 32 := Scalar.muli c16_i32 arg1
  let v553 : BitVec 32 := Scalar.addi v552 c0_i32_238
  let v554 : Index := Scalar.indexCast v553
  ![v554.toNat]
def k0_off3 (i : grid0.Coords) (c0_i32_222 : BitVec 32) : Fin 4 → Nat :=
  let c0_242 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v561 : Index := Scalar.indexCast v539
  let c128_243 : Index := 128#32
  let c0_244 : Index := 0#32
  ![0, v561.toNat, 128, 0]
def k0_off4 (i : grid0.Coords) (c0_i32_222 : BitVec 32) : Fin 4 → Nat :=
  let c0_265 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v591 : Index := Scalar.indexCast v539
  let c256_266 : Index := 256#32
  let c0_267 : Index := 0#32
  ![0, v591.toNat, 256, 0]
def k0_off5 (i : grid0.Coords) (c0_i32_222 : BitVec 32) : Fin 4 → Nat :=
  let c0_287 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v621 : Index := Scalar.indexCast v539
  let c384_288 : Index := 384#32
  let c0_289 : Index := 0#32
  ![0, v621.toNat, 384, 0]
def k0_off6 (i : grid0.Coords) (c0_i32_222 : BitVec 32) : Fin 4 → Nat :=
  let c0_309 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v651 : Index := Scalar.indexCast v539
  let c512_310 : Index := 512#32
  let c0_311 : Index := 0#32
  ![0, v651.toNat, 512, 0]
def k0_off7 (i : grid0.Coords) (c0_i32_222 : BitVec 32) : Fin 4 → Nat :=
  let c0_331 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v681 : Index := Scalar.indexCast v539
  let c640_332 : Index := 640#32
  let c0_333 : Index := 0#32
  ![0, v681.toNat, 640, 0]
def k0_off8 (i : grid0.Coords) (c0_i32_222 : BitVec 32) : Fin 4 → Nat :=
  let c0_353 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v711 : Index := Scalar.indexCast v539
  let c768_354 : Index := 768#32
  let c0_355 : Index := 0#32
  ![0, v711.toNat, 768, 0]
def k0_off9 (i : grid0.Coords) (c0_i32_222 : BitVec 32) : Fin 4 → Nat :=
  let c0_375 : Index := 0#32
  let arg2 : BitVec 32 := BitVec.ofNat 32 (i 2).val
  let c0_i32 : BitVec 32 := 0#32
  let v0 : BitVec 32 := Scalar.addi arg2 c0_i32
  let v538 : BitVec 32 := Scalar.subi v0 c0_i32_222
  let c0_i32_223 : BitVec 32 := 0#32
  let v539 : BitVec 32 := Scalar.maxsi v538 c0_i32_223
  let v741 : Index := Scalar.indexCast v539
  let c896_376 : Index := 896#32
  let c0_377 : Index := 0#32
  ![0, v741.toNat, 896, 0]
@[reducible] def k0_t1_loop (i : grid0.Coords) : Scf.Loop 32 :=
  let c2_i32_870 : BitVec 32 := 2#32
  let arg2 : BitVec 32 := BitVec.ofNat 32 (i 2).val
  let c0_i32 : BitVec 32 := 0#32
  let v0 : BitVec 32 := Scalar.addi arg2 c0_i32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_873 : BitVec 32 := 1#32
  ⟨c2_i32_870, v1528, c1_i32_873⟩
def k0_off10 (i : grid0.Coords) (k0_t1 : Fin (k0_t1_loop i).trips) : Fin 4 → Nat :=
  let c0_1227 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2015 : Index := Scalar.indexCast v2014
  let c0_1228 : Index := 0#32
  let c0_1229 : Index := 0#32
  ![0, v2015.toNat, 0, 0]
def k0_off11 (i : grid0.Coords) (k0_t1 : Fin (k0_t1_loop i).trips) : Fin 4 → Nat :=
  let c0_1268 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2071 : Index := Scalar.indexCast v2012
  let c0_1269 : Index := 0#32
  let c0_1270 : Index := 0#32
  ![0, v2071.toNat, 0, 0]
def k0_off12 (i : grid0.Coords) (k0_t1 : Fin (k0_t1_loop i).trips) : Fin 4 → Nat :=
  let c0_1275 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2077 : Index := Scalar.indexCast v2014
  let c128_1276 : Index := 128#32
  let c0_1277 : Index := 0#32
  ![0, v2077.toNat, 128, 0]
def k0_off13 (i : grid0.Coords) (c0_i32_1311 : BitVec 32) : Fin 1 → Nat :=
  let c16_i32_1310 : BitVec 32 := 16#32
  let arg1 : BitVec 32 := BitVec.ofNat 32 (i 1).val
  let v2122 : BitVec 32 := Scalar.muli c16_i32_1310 arg1
  let v2123 : BitVec 32 := Scalar.addi v2122 c0_i32_1311
  let v2124 : Index := Scalar.indexCast v2123
  ![v2124.toNat]
def k0_off14 (i : grid0.Coords) (k0_t1 : Fin (k0_t1_loop i).trips) : Fin 4 → Nat :=
  let c0_1343 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2170 : Index := Scalar.indexCast v2012
  let c128_1344 : Index := 128#32
  let c0_1345 : Index := 0#32
  ![0, v2170.toNat, 128, 0]
def k0_off15 (i : grid0.Coords) (k0_t1 : Fin (k0_t1_loop i).trips) : Fin 4 → Nat :=
  let c0_1355 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2185 : Index := Scalar.indexCast v2014
  let c256_1356 : Index := 256#32
  let c0_1357 : Index := 0#32
  ![0, v2185.toNat, 256, 0]
def k0_off16 (i : grid0.Coords) (k0_t1 : Fin (k0_t1_loop i).trips) : Fin 4 → Nat :=
  let c0_1423 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2278 : Index := Scalar.indexCast v2012
  let c256_1424 : Index := 256#32
  let c0_1425 : Index := 0#32
  ![0, v2278.toNat, 256, 0]
def k0_off17 (i : grid0.Coords) (k0_t1 : Fin (k0_t1_loop i).trips) : Fin 4 → Nat :=
  let c0_1435 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2293 : Index := Scalar.indexCast v2014
  let c384_1436 : Index := 384#32
  let c0_1437 : Index := 0#32
  ![0, v2293.toNat, 384, 0]
def k0_off18 (i : grid0.Coords) (k0_t1 : Fin (k0_t1_loop i).trips) : Fin 4 → Nat :=
  let c0_1503 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2386 : Index := Scalar.indexCast v2012
  let c384_1504 : Index := 384#32
  let c0_1505 : Index := 0#32
  ![0, v2386.toNat, 384, 0]
def k0_off19 (i : grid0.Coords) (k0_t1 : Fin (k0_t1_loop i).trips) : Fin 4 → Nat :=
  let c0_1515 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2401 : Index := Scalar.indexCast v2014
  let c512_1516 : Index := 512#32
  let c0_1517 : Index := 0#32
  ![0, v2401.toNat, 512, 0]
def k0_off20 (i : grid0.Coords) (k0_t1 : Fin (k0_t1_loop i).trips) : Fin 4 → Nat :=
  let c0_1583 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2494 : Index := Scalar.indexCast v2012
  let c512_1584 : Index := 512#32
  let c0_1585 : Index := 0#32
  ![0, v2494.toNat, 512, 0]
def k0_off21 (i : grid0.Coords) (k0_t1 : Fin (k0_t1_loop i).trips) : Fin 4 → Nat :=
  let c0_1595 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2509 : Index := Scalar.indexCast v2014
  let c640_1596 : Index := 640#32
  let c0_1597 : Index := 0#32
  ![0, v2509.toNat, 640, 0]
def k0_off22 (i : grid0.Coords) (k0_t1 : Fin (k0_t1_loop i).trips) : Fin 4 → Nat :=
  let c0_1663 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2602 : Index := Scalar.indexCast v2012
  let c640_1664 : Index := 640#32
  let c0_1665 : Index := 0#32
  ![0, v2602.toNat, 640, 0]
def k0_off23 (i : grid0.Coords) (k0_t1 : Fin (k0_t1_loop i).trips) : Fin 4 → Nat :=
  let c0_1675 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2617 : Index := Scalar.indexCast v2014
  let c768_1676 : Index := 768#32
  let c0_1677 : Index := 0#32
  ![0, v2617.toNat, 768, 0]
def k0_off24 (i : grid0.Coords) (k0_t1 : Fin (k0_t1_loop i).trips) : Fin 4 → Nat :=
  let c0_1743 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2710 : Index := Scalar.indexCast v2012
  let c768_1744 : Index := 768#32
  let c0_1745 : Index := 0#32
  ![0, v2710.toNat, 768, 0]
def k0_off25 (i : grid0.Coords) (k0_t1 : Fin (k0_t1_loop i).trips) : Fin 4 → Nat :=
  let c0_1755 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2725 : Index := Scalar.indexCast v2014
  let c896_1756 : Index := 896#32
  let c0_1757 : Index := 0#32
  ![0, v2725.toNat, 896, 0]
def k0_off26 (i : grid0.Coords) (k0_t1 : Fin (k0_t1_loop i).trips) : Fin 4 → Nat :=
  let c0_1823 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_873 : BitVec 32 := 1#32
  let arg14 : BitVec 32 := Scf.iv c2_i32_870 c1_i32_873 k0_t1
  let v2011 : BitVec 32 := Scalar.subi v0 arg14
  let c0_i32_1225 : BitVec 32 := 0#32
  let v2012 : BitVec 32 := Scalar.maxsi v2011 c0_i32_1225
  let v2818 : Index := Scalar.indexCast v2012
  let c896_1824 : Index := 896#32
  let c0_1825 : Index := 0#32
  ![0, v2818.toNat, 896, 0]
@[reducible] def k0_t2_loop (i : grid0.Coords) : Scf.Loop 32 :=
  let c2_i32_870 : BitVec 32 := 2#32
  let arg2 : BitVec 32 := BitVec.ofNat 32 (i 2).val
  let c0_i32 : BitVec 32 := 0#32
  let v0 : BitVec 32 := Scalar.addi arg2 c0_i32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let v1525 : BitVec 32 := Scalar.addi c2_i32_870 v1524
  let c1_i32_874 : BitVec 32 := 1#32
  ⟨v1528, v1525, c1_i32_874⟩
def k0_off27 (i : grid0.Coords) (k0_t2 : Fin (k0_t2_loop i).trips) : Fin 4 → Nat :=
  let c0_1227 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2015 : Index := Scalar.indexCast v2014
  let c0_1228 : Index := 0#32
  let c0_1229 : Index := 0#32
  ![0, v2015.toNat, 0, 0]
def k0_off28 (i : grid0.Coords) (k0_t2 : Fin (k0_t2_loop i).trips) : Fin 4 → Nat :=
  let c0_1268 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2071 : Index := Scalar.indexCast v2012
  let c0_1269 : Index := 0#32
  let c0_1270 : Index := 0#32
  ![0, v2071.toNat, 0, 0]
def k0_off29 (i : grid0.Coords) (k0_t2 : Fin (k0_t2_loop i).trips) : Fin 4 → Nat :=
  let c0_1275 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2077 : Index := Scalar.indexCast v2014
  let c128_1276 : Index := 128#32
  let c0_1277 : Index := 0#32
  ![0, v2077.toNat, 128, 0]
def k0_off30 (i : grid0.Coords) (c0_i32_1311 : BitVec 32) : Fin 1 → Nat :=
  let c16_i32_1310 : BitVec 32 := 16#32
  let arg1 : BitVec 32 := BitVec.ofNat 32 (i 1).val
  let v2122 : BitVec 32 := Scalar.muli c16_i32_1310 arg1
  let v2123 : BitVec 32 := Scalar.addi v2122 c0_i32_1311
  let v2124 : Index := Scalar.indexCast v2123
  ![v2124.toNat]
def k0_off31 (i : grid0.Coords) (k0_t2 : Fin (k0_t2_loop i).trips) : Fin 4 → Nat :=
  let c0_1343 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2170 : Index := Scalar.indexCast v2012
  let c128_1344 : Index := 128#32
  let c0_1345 : Index := 0#32
  ![0, v2170.toNat, 128, 0]
def k0_off32 (i : grid0.Coords) (k0_t2 : Fin (k0_t2_loop i).trips) : Fin 4 → Nat :=
  let c0_1355 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2185 : Index := Scalar.indexCast v2014
  let c256_1356 : Index := 256#32
  let c0_1357 : Index := 0#32
  ![0, v2185.toNat, 256, 0]
def k0_off33 (i : grid0.Coords) (k0_t2 : Fin (k0_t2_loop i).trips) : Fin 4 → Nat :=
  let c0_1423 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2278 : Index := Scalar.indexCast v2012
  let c256_1424 : Index := 256#32
  let c0_1425 : Index := 0#32
  ![0, v2278.toNat, 256, 0]
def k0_off34 (i : grid0.Coords) (k0_t2 : Fin (k0_t2_loop i).trips) : Fin 4 → Nat :=
  let c0_1435 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2293 : Index := Scalar.indexCast v2014
  let c384_1436 : Index := 384#32
  let c0_1437 : Index := 0#32
  ![0, v2293.toNat, 384, 0]
def k0_off35 (i : grid0.Coords) (k0_t2 : Fin (k0_t2_loop i).trips) : Fin 4 → Nat :=
  let c0_1503 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2386 : Index := Scalar.indexCast v2012
  let c384_1504 : Index := 384#32
  let c0_1505 : Index := 0#32
  ![0, v2386.toNat, 384, 0]
def k0_off36 (i : grid0.Coords) (k0_t2 : Fin (k0_t2_loop i).trips) : Fin 4 → Nat :=
  let c0_1515 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2401 : Index := Scalar.indexCast v2014
  let c512_1516 : Index := 512#32
  let c0_1517 : Index := 0#32
  ![0, v2401.toNat, 512, 0]
def k0_off37 (i : grid0.Coords) (k0_t2 : Fin (k0_t2_loop i).trips) : Fin 4 → Nat :=
  let c0_1583 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2494 : Index := Scalar.indexCast v2012
  let c512_1584 : Index := 512#32
  let c0_1585 : Index := 0#32
  ![0, v2494.toNat, 512, 0]
def k0_off38 (i : grid0.Coords) (k0_t2 : Fin (k0_t2_loop i).trips) : Fin 4 → Nat :=
  let c0_1595 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2509 : Index := Scalar.indexCast v2014
  let c640_1596 : Index := 640#32
  let c0_1597 : Index := 0#32
  ![0, v2509.toNat, 640, 0]
def k0_off39 (i : grid0.Coords) (k0_t2 : Fin (k0_t2_loop i).trips) : Fin 4 → Nat :=
  let c0_1663 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2602 : Index := Scalar.indexCast v2012
  let c640_1664 : Index := 640#32
  let c0_1665 : Index := 0#32
  ![0, v2602.toNat, 640, 0]
def k0_off40 (i : grid0.Coords) (k0_t2 : Fin (k0_t2_loop i).trips) : Fin 4 → Nat :=
  let c0_1675 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2617 : Index := Scalar.indexCast v2014
  let c768_1676 : Index := 768#32
  let c0_1677 : Index := 0#32
  ![0, v2617.toNat, 768, 0]
def k0_off41 (i : grid0.Coords) (k0_t2 : Fin (k0_t2_loop i).trips) : Fin 4 → Nat :=
  let c0_1743 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2710 : Index := Scalar.indexCast v2012
  let c768_1744 : Index := 768#32
  let c0_1745 : Index := 0#32
  ![0, v2710.toNat, 768, 0]
def k0_off42 (i : grid0.Coords) (k0_t2 : Fin (k0_t2_loop i).trips) : Fin 4 → Nat :=
  let c0_1755 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let c2_i32_1222 : BitVec 32 := 2#32
  let v2008 : BitVec 32 := Scalar.subi arg14 c2_i32_1222
  let v2013 : BitVec 32 := Scalar.subi v0 v2008
  let c0_i32_1226 : BitVec 32 := 0#32
  let v2014 : BitVec 32 := Scalar.maxsi v2013 c0_i32_1226
  let v2725 : Index := Scalar.indexCast v2014
  let c896_1756 : Index := 896#32
  let c0_1757 : Index := 0#32
  ![0, v2725.toNat, 896, 0]
def k0_off43 (i : grid0.Coords) (k0_t2 : Fin (k0_t2_loop i).trips) : Fin 4 → Nat :=
  let c0_1823 : Index := 0#32
  let arg2 : BitVec 32 := BitVec.ofNat 32 (i 2).val
  let c0_i32 : BitVec 32 := 0#32
  let v0 : BitVec 32 := Scalar.addi arg2 c0_i32
  let c2_i32_870 : BitVec 32 := 2#32
  let c1_i32_869 : BitVec 32 := 1#32
  let v1523 : BitVec 32 := Scalar.addi v0 c1_i32_869
  let v1524 : BitVec 32 := Scalar.subi v1523 c2_i32_870
  let c1_i32_872 : BitVec 32 := 1#32
  let v1526 : BitVec 32 := Scalar.divsi v1524 c1_i32_872
  let v1527 : BitVec 32 := Scalar.muli v1526 c1_i32_872
  let v1528 : BitVec 32 := Scalar.addi c2_i32_870 v1527
  let c1_i32_874 : BitVec 32 := 1#32
  let arg14 : BitVec 32 := Scf.iv v1528 c1_i32_874 k0_t2
  let v2011 : BitVec 32 := Scalar.subi v0 arg14
  let c0_i32_1225 : BitVec 32 := 0#32
  let v2012 : BitVec 32 := Scalar.maxsi v2011 c0_i32_1225
  let v2818 : Index := Scalar.indexCast v2012
  let c896_1824 : Index := 896#32
  let c0_1825 : Index := 0#32
  ![0, v2818.toNat, 896, 0]
def k0_cond1 (i : grid0.Coords) : BitVec 1 :=
  let arg2 : BitVec 32 := BitVec.ofNat 32 (i 2).val
  let c0_i32 : BitVec 32 := 0#32
  let v0 : BitVec 32 := Scalar.addi arg2 c0_i32
  let c1_i32_875 : BitVec 32 := 1#32
  let v1531 : BitVec 1 := Scalar.cmpi .sge v0 c1_i32_875
  let v1532 : BitVec 32 := Scalar.extui v1531
  let c0_i32_876 : BitVec 32 := 0#32
  let v1533 : BitVec 1 := Scalar.cmpi .ne v1532 c0_i32_876
  v1533

def k0_off44 (i : grid0.Coords) : Fin 4 → Nat :=
  let c0_1226 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2013 : Index := Scalar.indexCast v2012
  let c0_1227 : Index := 0#32
  let c0_1228 : Index := 0#32
  ![0, v2013.toNat, 0, 0]
def k0_off45 (i : grid0.Coords) : Fin 4 → Nat :=
  let c0_1267 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2069 : Index := Scalar.indexCast v2012
  let c128_1268 : Index := 128#32
  let c0_1269 : Index := 0#32
  ![0, v2069.toNat, 128, 0]
def k0_off46 (i : grid0.Coords) : Fin 4 → Nat :=
  let c0_1323 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2147 : Index := Scalar.indexCast v2012
  let c256_1324 : Index := 256#32
  let c0_1325 : Index := 0#32
  ![0, v2147.toNat, 256, 0]
def k0_off47 (i : grid0.Coords) : Fin 4 → Nat :=
  let c0_1379 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2225 : Index := Scalar.indexCast v2012
  let c384_1380 : Index := 384#32
  let c0_1381 : Index := 0#32
  ![0, v2225.toNat, 384, 0]
def k0_off48 (i : grid0.Coords) : Fin 4 → Nat :=
  let c0_1435 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2303 : Index := Scalar.indexCast v2012
  let c512_1436 : Index := 512#32
  let c0_1437 : Index := 0#32
  ![0, v2303.toNat, 512, 0]
def k0_off49 (i : grid0.Coords) : Fin 4 → Nat :=
  let c0_1491 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2381 : Index := Scalar.indexCast v2012
  let c640_1492 : Index := 640#32
  let c0_1493 : Index := 0#32
  ![0, v2381.toNat, 640, 0]
def k0_off50 (i : grid0.Coords) : Fin 4 → Nat :=
  let c0_1547 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2459 : Index := Scalar.indexCast v2012
  let c768_1548 : Index := 768#32
  let c0_1549 : Index := 0#32
  ![0, v2459.toNat, 768, 0]
def k0_off51 (i : grid0.Coords) : Fin 4 → Nat :=
  let c0_1603 : Index := 0#32
  let arg2 : BitVec 32 := BitVec.ofNat 32 (i 2).val
  let c0_i32 : BitVec 32 := 0#32
  let v0 : BitVec 32 := Scalar.addi arg2 c0_i32
  let c1_i32_1222 : BitVec 32 := 1#32
  let v2008 : BitVec 32 := Scalar.subi v0 c1_i32_1222
  let v2011 : BitVec 32 := Scalar.subi v0 v2008
  let c0_i32_1225 : BitVec 32 := 0#32
  let v2012 : BitVec 32 := Scalar.maxsi v2011 c0_i32_1225
  let v2537 : Index := Scalar.indexCast v2012
  let c896_1604 : Index := 896#32
  let c0_1605 : Index := 0#32
  ![0, v2537.toNat, 896, 0]
def k0_off52 (i : grid0.Coords) : Fin 4 → Nat :=
  let c0_878 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1536 : Index := Scalar.indexCast v1535
  let c0_879 : Index := 0#32
  let c0_880 : Index := 0#32
  ![0, v1536.toNat, 0, 0]
def k0_off53 (i : grid0.Coords) : Fin 4 → Nat :=
  let c0_898 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1554 : Index := Scalar.indexCast v1535
  let c128_899 : Index := 128#32
  let c0_900 : Index := 0#32
  ![0, v1554.toNat, 128, 0]
def k0_off54 (i : grid0.Coords) : Fin 4 → Nat :=
  let c0_924 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1578 : Index := Scalar.indexCast v1535
  let c256_925 : Index := 256#32
  let c0_926 : Index := 0#32
  ![0, v1578.toNat, 256, 0]
def k0_off55 (i : grid0.Coords) : Fin 4 → Nat :=
  let c0_950 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1602 : Index := Scalar.indexCast v1535
  let c384_951 : Index := 384#32
  let c0_952 : Index := 0#32
  ![0, v1602.toNat, 384, 0]
def k0_off56 (i : grid0.Coords) : Fin 4 → Nat :=
  let c0_976 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1626 : Index := Scalar.indexCast v1535
  let c512_977 : Index := 512#32
  let c0_978 : Index := 0#32
  ![0, v1626.toNat, 512, 0]
def k0_off57 (i : grid0.Coords) : Fin 4 → Nat :=
  let c0_1002 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1650 : Index := Scalar.indexCast v1535
  let c640_1003 : Index := 640#32
  let c0_1004 : Index := 0#32
  ![0, v1650.toNat, 640, 0]
def k0_off58 (i : grid0.Coords) : Fin 4 → Nat :=
  let c0_1028 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1674 : Index := Scalar.indexCast v1535
  let c768_1029 : Index := 768#32
  let c0_1030 : Index := 0#32
  ![0, v1674.toNat, 768, 0]
def k0_off59 (i : grid0.Coords) : Fin 4 → Nat :=
  let c0_1054 : Index := 0#32
  let arg2 : BitVec 32 := BitVec.ofNat 32 (i 2).val
  let c0_i32 : BitVec 32 := 0#32
  let v0 : BitVec 32 := Scalar.addi arg2 c0_i32
  let v1534 : BitVec 32 := Scalar.subi v0 v0
  let c0_i32_877 : BitVec 32 := 0#32
  let v1535 : BitVec 32 := Scalar.maxsi v1534 c0_i32_877
  let v1698 : Index := Scalar.indexCast v1535
  let c896_1055 : Index := 896#32
  let c0_1056 : Index := 0#32
  ![0, v1698.toNat, 896, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x33x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x33x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Proof.Cumsum.lean ====
/- The reference's running sum along the sequence and its rows taken at computed places. -/
module

public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen

/-- The rows taken: at `(b, l, c)`, row `n` and column `o + c`, where the two index words hold `n` and `o`. -/
theorem taken (x : (⟨S2x8209x1024, .f32⟩ : BufTy).Contents (Elt Ideal)) (idx : (⟨S8208x2, .i32⟩ : BufTy).Contents (Elt Ideal))
    (b : Fin 2) (l : Fin 8208) (c : Fin 256) (n : Fin 8209) (j : Fin 1024) (o : ℕ) (ho : j.val = o + c.val) (hle : o ≤ 768)
    (h0 : (idx : IVec S8208x2 32) (ix2 l 0) = BitVec.ofNat 32 n.val) (h1 : (idx : IVec S8208x2 32) (ix2 l 1) = BitVec.ofNat 32 o) :
    Host.gather gather_S2x8209x1024_S8208x2_S2x8208x256_02_1_n_n_12_1_21256 x idx (ix3 b l c) = x (ix3 b n j) := by
  have hn := n.isLt
  have hj := j.isLt
  have hc := c.isLt
  have word : ∀ m : ℕ, m < 10000 → (BitVec.ofNat 32 m).toInt.toNat = m := fun m hm => by
    rw [BitVec.toInt_eq_toNat_of_lt] <;> simp only [BitVec.toNat_ofNat] <;> omega
  unfold Host.gather
  refine congrArg x (funext fun a => Fin.ext ?_)
  match a with
  | 0 =>
    show 0 + 0 + b.val = b.val
    omega
  | 1 =>
    refine (congrArg (fun z : BitVec 32 => min z.toInt.toNat 8208 + 0 + 0) ((congrArg idx (funext fun q => Fin.ext ?_)).trans h0)).trans ?_
    · match q with
      | 0 => rfl
      | 1 => rfl
    · show min (BitVec.ofNat 32 n.val).toInt.toNat 8208 + 0 + 0 = n.val
      rw [word _ (by omega)]
      omega
  | 2 =>
    refine (congrArg (fun z : BitVec 32 => min z.toInt.toNat 768 + 0 + c.val) ((congrArg idx (funext fun q => Fin.ext ?_)).trans h1)).trans ?_
    · match q with
      | 0 => rfl
      | 1 => rfl
    · show min (BitVec.ofNat 32 o).toInt.toNat 768 + 0 + c.val = j.val
      rw [word _ (by omega)]
      omega

/-- A sum over `a` leading zeros' places and the first `l + 1` rows, as the running sum's window of `n` places holds it. -/
theorem window_sum (f : ℕ → EReal) (n l : ℕ) (hl : l < n) :
    ∑ w ∈ Finset.range n, (if n - 1 ≤ l + w then f (l + w - (n - 1)) else 0) = ∑ k ∈ Finset.range (l + 1), f k := by
  obtain ⟨e, rfl⟩ := Nat.exists_eq_add_of_lt hl
  rw [show l + e + 1 = e + (l + 1) by omega, Finset.sum_range_add, Finset.sum_eq_zero (s := Finset.range e), zero_add]
  · refine Finset.sum_congr rfl fun k hk => ?_
    rw [if_pos (by omega)]
    congr 1
    omega
  · intro k hk
    have := Finset.mem_range.mp hk
    rw [if_neg (by omega)]

/-- A left fold that adds terms from zero is their sum. -/
theorem fold_sum {N : ℕ} (f : Fin N → EReal) : (List.finRange N).foldl (fun r n => r + f n) 0 = ∑ n, f n := by
  rw [← List.sum_ofFn, List.ofFn_eq_map, List.sum_eq_foldl, List.foldl_map]

/-- The running sum along the sequence, as it prints: a window of the whole length, padded low by one less. -/
theorem running (x : (⟨S2x8208x1024, .f32⟩ : BufTy).Contents (Elt Ideal)) (init : (⟨S_, .f32⟩ : BufTy).Contents (Elt Ideal))
    (h0 : ∀ i, init i = (0 : EReal)) (b : Fin 2) (l : Fin 8208) (d : Fin 1024) (f : ℕ → EReal)
    (hf : ∀ k : Fin 8208, x (ix3 b k d) = f k.val) :
    (Host.reduceWindowAdd (F := Ideal) (φ := .f32) ![1, 8208, 1] ![1, 1, 1] ![0, 8207, 0] ![0, 0, 0] x init
      reduceWindows_S2x8208x1024_S2x8208x1024_w1s1p0_0_w8208s1p8207_0_w1s1p0_0 h_S_ (ix3 b l d) : EReal)
      = ∑ k ∈ Finset.range (l.val + 1), f k := by
  have hl := l.isLt
  rw [← window_sum f 8208 l.val hl, ← Fin.sum_univ_eq_sum_range (fun w => if 8208 - 1 ≤ l.val + w then f (l.val + w - (8208 - 1)) else 0) 8208]
  unfold Host.reduceWindowAdd
  rw [Ideal.hostReduceWindowAdd_def, h0]
  unfold Ideal.hostReduceWindowAdd Host.reduceWindow
  have hN : (⟨3, ![1, 8208, 1]⟩ : Shape).numel = 8208 := by
    show ∏ a : Fin 3, (![1, 8208, 1] : Fin 3 → Nat) a = 8208
    rw [Fin.prod_univ_three]
    rfl
  have place : ∀ n : Fin (⟨3, ![1, 8208, 1]⟩ : Shape).numel, (⟨3, ![1, 8208, 1]⟩ : Shape).rowMajor.symm n = ix3 0 (n.cast hN) 0 :=
    fun n => ((⟨3, ![1, 8208, 1]⟩ : Shape).rowMajor.symm_apply_eq).2 (Fin.ext (by
      rw [Shape.rowMajor_val_three]
      show n.val = (0 * 8208 + n.val) * 1 + 0
      omega))
  refine (fold_sum _).trans ?_
  refine Fintype.sum_equiv (finCongr hN) _ _ fun n => ?_
  have hn : n.val < 8208 := (n.cast hN).isLt
  have hb := b.isLt
  have hd := d.isLt
  refine Eq.trans ?_ (show (if 8207 ≤ l.val + n.val then f (l.val + n.val - 8207) else 0) = _ from rfl)
  dsimp only
  have p0 : ((⟨3, ![1, 8208, 1]⟩ : Shape).rowMajor.symm n 0).val = 0 := by rw [place]; rfl
  have p1 : ((⟨3, ![1, 8208, 1]⟩ : Shape).rowMajor.symm n 1).val = n.val := by rw [place]; rfl
  have p2 : ((⟨3, ![1, 8208, 1]⟩ : Shape).rowMajor.symm n 2).val = 0 := by rw [place]; rfl
  split
  · next hin =>
    have h1 : 8207 ≤ l.val * 1 + ((⟨3, ![1, 8208, 1]⟩ : Shape).rowMajor.symm n 1).val := (hin 1).1
    rw [p1] at h1
    rw [if_pos (by omega)]
    refine (congrArg x (funext fun a => Fin.ext ?_)).trans (hf ⟨l.val + n.val - 8207, by omega⟩)
    match a with
    | 0 =>
      show b.val * 1 + ((⟨3, ![1, 8208, 1]⟩ : Shape).rowMajor.symm n 0).val - 0 = b.val
      rw [p0]; omega
    | 1 =>
      show l.val * 1 + ((⟨3, ![1, 8208, 1]⟩ : Shape).rowMajor.symm n 1).val - 8207 = l.val + n.val - 8207
      rw [p1]; omega
    | 2 =>
      show d.val * 1 + ((⟨3, ![1, 8208, 1]⟩ : Shape).rowMajor.symm n 2).val - 0 = d.val
      rw [p2]; omega
  · next hin =>
    rw [if_neg fun hle => hin fun a => by
      match a with
      | 0 =>
        show 0 ≤ b.val * 1 + ((⟨3, ![1, 8208, 1]⟩ : Shape).rowMajor.symm n 0).val
          ∧ b.val * 1 + ((⟨3, ![1, 8208, 1]⟩ : Shape).rowMajor.symm n 0).val - 0 < 2
        rw [p0]; omega
      | 1 =>
        show 8207 ≤ l.val * 1 + ((⟨3, ![1, 8208, 1]⟩ : Shape).rowMajor.symm n 1).val
          ∧ l.val * 1 + ((⟨3, ![1, 8208, 1]⟩ : Shape).rowMajor.symm n 1).val - 8207 < 8208
        rw [p1]; omega
      | 2 =>
        show 0 ≤ d.val * 1 + ((⟨3, ![1, 8208, 1]⟩ : Shape).rowMajor.symm n 2).val
          ∧ d.val * 1 + ((⟨3, ![1, 8208, 1]⟩ : Shape).rowMajor.symm n 2).val - 0 < 1024
        rw [p2]; omega]

end Cert.ReferenceIdeal.Rows

end
-- ==== Proof.Spec.lean ====
/- One row of the model's layers over the extended reals: layer norm, the squared-ReLU network, and a sub-layer pair. -/
module

public import Idealize.ShloMosaic.Lib.Pipeline.ValueKit

@[expose] public section

noncomputable section

namespace Cert.Spec

open Idealize.ShloMosaic

/-- A row of `n` extended reals. -/
abbrev Row (n : ℕ) := Fin n → EReal

/-- The residual's scale, the constant both programs hold. -/
def alpha : EReal := Ideal.ofBits FTy.f32 1068827891#32

/-- The mean of a row of 1024. -/
def mean (x : Row 1024) : EReal := Ideal.div (∑ k, x k) (Ideal.ofBits FTy.f32 1149239296#32)

/-- Layer norm of a row, with gain `g` and offset `b`. -/
def norm (x g b : Row 1024) : Row 1024 := fun j =>
  (x j - mean x) * Ideal.rsqrt (mean (fun k => (x k - mean x) * (x k - mean x)) + Ideal.ofBits FTy.f32 925353388#32)
    * g j + b j

/-- The hidden row before its square: the ReLU of an affine map. -/
def hidden {n : ℕ} (h : Row 1024) (wu : Fin 1024 → Row n) (bu : Row n) : Row n :=
  fun f => max (∑ k, h k * wu k f + bu f) 0

/-- The squared hidden row times the second matrix. -/
def down {n : ℕ} (h : Row 1024) (wu : Fin 1024 → Row n) (bu : Row n) (wd : Fin n → Row 1024) : Row 1024 :=
  fun j => ∑ f, hidden h wu bu f * hidden h wu bu f * wd f j

/-- The two sub-layers of a layer: the mixer's row `mix` added to `x` and normed, then the network's. -/
def inner (x mix g b : Row 1024) : Row 1024 := norm (fun k => alpha * x k + mix k) g b

/-- The layer's row. -/
def layer (x mix g0 b0 g1 b1 : Row 1024) (wu : Fin 1024 → Row 4096) (bu : Row 4096) (wd : Fin 4096 → Row 1024)
    (bd : Row 1024) : Row 1024 :=
  inner (inner x mix g0 b0) (fun j => down (inner x mix g0 b0) wu bu wd j + bd j) g1 b1

theorem layer_congr {x x' mix mix' g0 g0' b0 b0' g1 g1' b1 b1' : Row 1024} {wu wu' : Fin 1024 → Row 4096} {bu bu' : Row 4096}
    {wd wd' : Fin 4096 → Row 1024} {bd bd' : Row 1024} (hx : ∀ k, x k = x' k) (hmix : ∀ k, mix k = mix' k)
    (hg0 : ∀ k, g0 k = g0' k) (hb0 : ∀ k, b0 k = b0' k) (hg1 : ∀ k, g1 k = g1' k) (hb1 : ∀ k, b1 k = b1' k)
    (hwu : ∀ k f, wu k f = wu' k f) (hbu : ∀ f, bu f = bu' f) (hwd : ∀ f k, wd f k = wd' f k) (hbd : ∀ k, bd k = bd' k)
    (j : Fin 1024) : layer x mix g0 b0 g1 b1 wu bu wd bd j = layer x' mix' g0' b0' g1' b1' wu' bu' wd' bd' j := by
  obtain rfl := funext hx; obtain rfl := funext hmix; obtain rfl := funext hg0; obtain rfl := funext hb0
  obtain rfl := funext hg1; obtain rfl := funext hb1; obtain rfl := funext hbu; obtain rfl := funext hbd
  obtain rfl : wu = wu' := funext fun k => funext (hwu k)
  obtain rfl : wd = wd' := funext fun k => funext (hwd k)
  rfl

/-- The place of column `f` of quarter `c` among the 4096. -/
def quarter (c : Fin 4) (f : Fin 1024) : Fin 4096 := ⟨c.val * 1024 + f.val, by omega⟩

/-- The network's sum over 4096 hidden columns is the sum of its four quarters' sums. -/
theorem down_quarters (h : Row 1024) (wu : Fin 1024 → Row 4096) (bu : Row 4096) (wd : Fin 4096 → Row 1024) (j : Fin 1024) :
    down h wu bu wd j
      = down h (fun k f => wu k (quarter 0 f)) (fun f => bu (quarter 0 f)) (fun f => wd (quarter 0 f)) j
        + down h (fun k f => wu k (quarter 1 f)) (fun f => bu (quarter 1 f)) (fun f => wd (quarter 1 f)) j
        + down h (fun k f => wu k (quarter 2 f)) (fun f => bu (quarter 2 f)) (fun f => wd (quarter 2 f)) j
        + down h (fun k f => wu k (quarter 3 f)) (fun f => bu (quarter 3 f)) (fun f => wd (quarter 3 f)) j := by
  have key : ∀ F : Fin 4096 → EReal, ∑ f, F f = ∑ c : Fin 4, ∑ f : Fin 1024, F (quarter c f) := by
    intro F
    rw [← Finset.sum_product', Finset.univ_product_univ]
    refine (Fintype.sum_equiv finProdFinEquiv (fun p : Fin 4 × Fin 1024 => F (quarter p.1 p.2)) F fun p => ?_).symm
    congr 1
    apply Fin.ext
    simp [quarter, finProdFinEquiv]
    omega
  unfold down
  rw [key, Fin.sum_univ_four]
  rfl

end Cert.Spec

end
-- ==== Proof.Pool.lean ====
/- The pooling mixer over the extended reals: trailing window means of a sequence of rows, group by group. -/
module

public import proofs.«01_k».proof.Proof.Spec
public import Idealize.ShloMosaic.Lib.IdealHost

@[expose] public section

noncomputable section

namespace Cert.Spec

open Idealize.ShloMosaic

/-- The sequence's rows: 16 learned rows, then 8192 rows of the input, then rows of zeros. -/
def stream (lead : Fin 16 → Row 1024) (x : Fin 8192 → Row 1024) (n : ℕ) : Row 1024 := fun d =>
  if h : n < 16 then lead ⟨n, h⟩ d else if h' : n - 16 < 8192 then x ⟨n - 16, h'⟩ d else 0

/-- Row `k` places before row `n`, a row of zeros before the beginning. -/
def back (u : ℕ → Row 1024) (n k : ℕ) : Row 1024 := fun d => if k ≤ n then u (n - k) d else 0

/-- The sum of the `w` rows that end at row `n`. -/
def winSum (u : ℕ → Row 1024) (w n : ℕ) (d : Fin 1024) : EReal := ∑ k ∈ Finset.range w, back u n k d

/-- A group's window: 2, 4, 8, 16. -/
def width (g : Fin 4) : ℕ := 2 ^ (g.val + 1)

/-- Column `c` of group `g`. -/
def col (g : Fin 4) (c : Fin 256) : Fin 1024 := ⟨g.val * 256 + c.val, by omega⟩

/-- The number of rows in the window that ends at row `n`. -/
def count (w n : ℕ) : EReal := (((min (n + 1) w : ℕ) : ℝ) : EReal)

/-- The window's mean less the row itself. -/
def pooled (u : ℕ → Row 1024) (n : ℕ) (g : Fin 4) (c : Fin 256) : EReal :=
  Ideal.div (winSum u (width g) n (col g c)) (count (width g) n) - u n (col g c)

/-- One group's product. -/
def mixed (u : ℕ → Row 1024) (n : ℕ) (g : Fin 4) (w : Fin 256 → Fin 256 → EReal) (c : Fin 256) : EReal :=
  ∑ x, pooled u n g x * w x c

/-- The mixer's row: each group's product, an offset and a scale. -/
def mixer (u : ℕ → Row 1024) (n : ℕ) (w : Fin 4 → Fin 256 → Fin 256 → EReal) (b s : Row 1024) : Row 1024 := fun j =>
  (mixed u n ⟨j.val / 256, by omega⟩ (w ⟨j.val / 256, by omega⟩) ⟨j.val % 256, by omega⟩ + b j) * s j

theorem count_ne_zero {w : ℕ} (hw : 0 < w) (n : ℕ) : count w n ≠ 0 := by
  unfold count
  rw [EReal.coe_ne_zero]
  exact Nat.cast_ne_zero.mpr (by omega)

/-- A window's size as a word, read as a number. -/
theorem count_word {n w : ℕ} (x : BitVec 32) (hx : x = BitVec.ofNat 32 n) (hn : n < 2 ^ 20) (hw : w < 2 ^ 20) :
    (FloatOps.sitofp FTy.f32 (IntOp.minsi (IntOp.addi x 1#32) (BitVec.ofNat 32 w)) : Ideal FTy.f32) = count w n := by
  subst hx
  have e : IntOp.minsi (IntOp.addi (BitVec.ofNat 32 n) 1#32) (BitVec.ofNat 32 w) = BitVec.ofNat 32 (min (n + 1) w) := by
    have h1 : IntOp.addi (BitVec.ofNat 32 n) 1#32 = BitVec.ofNat 32 (n + 1) := by
      simp [IntOp.addi, BitVec.ofNat_add]
    rw [h1]
    unfold IntOp.minsi
    have i1 : (BitVec.ofNat 32 (n + 1)).toInt = (n + 1 : ℕ) := by
      rw [BitVec.toInt_eq_toNat_of_lt] <;> simp only [BitVec.toNat_ofNat] <;> omega
    have i2 : (BitVec.ofNat 32 w).toInt = (w : ℕ) := by
      rw [BitVec.toInt_eq_toNat_of_lt] <;> simp only [BitVec.toNat_ofNat] <;> omega
    simp only [BitVec.sle, BitVec.slt, i1, i2]
    split <;> rename_i hh <;> simp at hh <;> congr 1 <;> omega
  rw [e]
  have i : (BitVec.ofNat 32 (min (n + 1) w)).toInt = (min (n + 1) w : ℕ) := by
    rw [BitVec.toInt_eq_toNat_of_lt] <;> simp only [BitVec.toNat_ofNat] <;> omega
  show (((BitVec.ofNat 32 (min (n + 1) w)).toInt : ℝ) : EReal) = _
  rw [i]
  simp [count]

end Cert.Spec

end
-- ==== Proof.Prefix.lean ====
/- Window sums as differences of running sums, for rows of real numbers. -/
module

public import proofs.«01_k».proof.Proof.Pool

@[expose] public section

noncomputable section

namespace Cert.Spec

open Idealize.ShloMosaic

/-- The sum of the first `n` rows, at column `d`. -/
def before (u : ℕ → Row 1024) (n : ℕ) (d : Fin 1024) : EReal := ∑ k ∈ Finset.range n, u k d

/-- A sequence of rows of real numbers. -/
def Real (u : ℕ → Row 1024) : Prop := ∀ n d, ∃ x : ℝ, u n d = (x : EReal)

theorem before_real {u : ℕ → Row 1024} (hu : Real u) (n : ℕ) (d : Fin 1024) : ∃ x : ℝ, before u n d = (x : EReal) := by
  choose f hf using hu
  refine ⟨∑ k ∈ Finset.range n, f k d, ?_⟩
  unfold before
  induction n with
  | zero => simp
  | succ n ih => rw [Finset.sum_range_succ, Finset.sum_range_succ, ih, hf, EReal.coe_add]

/-- The running sum through row `n` is the one before the window, plus the window's. -/
theorem before_succ (u : ℕ → Row 1024) (w n : ℕ) (d : Fin 1024) :
    before u (n + 1) d = before u (n + 1 - w) d + winSum u w n d := by
  have flip : ∀ v, v ≤ n + 1 → ∑ k ∈ Finset.range v, back u n k d = ∑ k ∈ Finset.range v, u (n + 1 - v + k) d := by
    intro v hv
    rw [← Finset.sum_range_reflect]
    refine Finset.sum_congr rfl fun k hk => ?_
    have hk' : k < v := Finset.mem_range.mp hk
    unfold back
    rw [if_pos (by omega), show n - (v - 1 - k) = n + 1 - v + k by omega]
  unfold winSum before
  rcases Nat.le_total w (n + 1) with h | h
  · rw [flip w h, ← Finset.sum_range_add, Nat.sub_add_cancel h]
  · rw [show n + 1 - w = 0 by omega, Finset.sum_range_zero, zero_add]
    obtain ⟨e, rfl⟩ := Nat.exists_eq_add_of_le h
    rw [Finset.sum_range_add (fun k => back u n k d) (n + 1) e, flip (n + 1) le_rfl, Finset.sum_eq_zero (s := Finset.range e), add_zero]
    · exact Finset.sum_congr rfl fun k _ => by rw [Nat.sub_self, Nat.zero_add]
    · intro k _
      unfold back
      rw [if_neg (by omega)]

/-- For rows of real numbers the difference of the running sums is the window's sum. -/
theorem before_sub {u : ℕ → Row 1024} (hu : Real u) (w n : ℕ) (d : Fin 1024) :
    before u (n + 1) d - before u (n + 1 - w) d = winSum u w n d := by
  rw [before_succ u w n d]
  obtain ⟨x, hx⟩ := before_real hu (n + 1 - w) d
  rw [hx]
  exact EReal.add_sub_cancel_left

end Cert.Spec

end
-- ==== Proof.RefPool.lean ====
/- The first call's reference: the stream's rows, and the pooling mixer's, a row at a time. -/
module

public import proofs.«01_k».proof.Proof.Cumsum
public import proofs.«01_k».proof.Proof.Prefix

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Spec

/-! ## The index words -/

theorem toInt_small {n : ℕ} (hn : n < 2 ^ 20) : (BitVec.ofNat 32 n).toInt = (n : ℤ) := by
  rw [BitVec.toInt_eq_toNat_of_lt] <;> simp only [BitVec.toNat_ofNat] <;> omega

/-- A place that is not negative is not wrapped. -/
theorem unwrapped {n : ℕ} (hn : n < 2 ^ 20) (y : BitVec 32) :
    Scalar.select (IntOp.cmpi .slt (BitVec.ofNat 32 n) 0#32) y (BitVec.ofNat 32 n) = BitVec.ofNat 32 n := by
  have h : IntOp.cmpi .slt (BitVec.ofNat 32 n) 0#32 = 0#1 := by
    have h' : (BitVec.ofNat 32 n).slt 0#32 = false := by
      simp only [BitVec.slt, toInt_small hn]
      simp
    simp only [IntOp.cmpi, h']
    rfl
  rw [h]
  rfl

/-- The window's first place: the end less the width, not below zero. -/
theorem first_place {n w : ℕ} (hn : n < 2 ^ 20) (hw : w < 2 ^ 20) :
    IntOp.maxsi (IntOp.subi (BitVec.ofNat 32 n) (BitVec.ofNat 32 w)) 0#32 = BitVec.ofNat 32 (n - w) := by
  have h : (BitVec.ofNat 32 n - BitVec.ofNat 32 w).toInt = (n : ℤ) - w := by
    rw [BitVec.toInt_sub, toInt_small hn, toInt_small hw]
    unfold Int.bmod
    norm_num
    split <;> omega
  unfold IntOp.maxsi IntOp.subi
  apply BitVec.eq_of_toInt_eq
  rw [toInt_small (by omega)]
  simp only [BitVec.slt, h]
  split <;> rename_i hh <;> simp at hh <;> simp [h] <;> omega

/-- The window's size, as the difference of its ends. -/
theorem size_word {n w : ℕ} (hn : n < 2 ^ 19) :
    (FloatOps.sitofp FTy.f32 (IntOp.subi (BitVec.ofNat 32 (n + 1)) (BitVec.ofNat 32 (n + 1 - w))) : Ideal FTy.f32) = count w n := by
  have h : (BitVec.ofNat 32 (n + 1) - BitVec.ofNat 32 (n + 1 - w)).toInt = ((min (n + 1) w : ℕ) : ℤ) := by
    rw [BitVec.toInt_sub, toInt_small (by omega), toInt_small (by omega)]
    unfold Int.bmod
    norm_num
    split <;> omega
  show (((BitVec.ofNat 32 (n + 1) - BitVec.ofNat 32 (n + 1 - w)).toInt : ℝ) : EReal) = _
  rw [h]
  unfold Spec.count
  push_cast
  rfl

theorem end_place (n : ℕ) : IntOp.addi (BitVec.ofNat 32 n) 1#32 = BitVec.ofNat 32 (n + 1) := by
  simp [IntOp.addi, BitVec.ofNat_add]

/-! ## The stream and its running sum -/

variable (x0 : (⟨S2x8192x1024, .f32⟩ : BufTy).Contents (Elt Ideal)) (x1 : (⟨S16x1024, .f32⟩ : BufTy).Contents (Elt Ideal))

/-- A sequence's rows. -/
def rows (b : Fin 2) : ℕ → Row 1024 := stream (fun n d => x1 (ix2 n d)) (fun n d => x0 (ix3 b n d))

theorem stream_row (b : Fin 2) (l : Fin 8208) (d : Fin 1024) : val_main_v2 x0 x1 (ix3 b l d) = rows x0 x1 b l.val d := by
  have hl := l.isLt
  unfold rows stream
  pointwise [val_main_v0, val_main_v1, val_main_v2]
  by_cases h : l.val < 16
  · rw [dif_pos h, dif_pos h]
  · rw [dif_neg h, dif_neg h, dif_pos (by omega)]

theorem before_row (b : Fin 2) (n : Fin 8209) (d : Fin 1024) : val_main_v8 x0 x1 (ix3 b n d) = before (rows x0 x1 b) n.val d := by
  pointwise [val_main_v8, val_main_v6, val_main_cst]
  by_cases h : n.val < 1
  · rw [dif_pos h]
    have h0 : n.val = 0 := by omega
    rw [h0]
    simp [before]
  · rw [dif_neg h]
    unfold val_main_v7
    refine (running _ _ (fun i => ?_) b ⟨n.val - 1, by omega⟩ d (fun k => rows x0 x1 b k d) (fun k => stream_row x0 x1 b k d)).trans ?_
    · pointwise [val_main_call0_call0_v0, val_main_call0_call0_cst]
    · unfold before
      rw [show n.val - 1 + 1 = n.val by omega]

/-! ## The four groups -/

variable (hx : ∀ b, Spec.Real (rows x0 x1 b))

theorem end_word (l : Fin 8208) : (val_main_v11 (F := Ideal) : IVec S8208 32) (ix1 l) = BitVec.ofNat 32 (l.val + 1) := by
  pointwise [val_main_v9, val_main_v10, val_main_v11, val_main_c]
  exact end_place _

/-! Group 0: windows of 2 rows. -/

theorem first_word0 (l : Fin 8208) : (val_main_v15 (F := Ideal) : IVec S8208 32) (ix1 l) = BitVec.ofNat 32 (l.val + 1 - 2) := by
  have h := end_word l
  pointwise [val_main_v12, val_main_v13, val_main_v14, val_main_v15, val_main_c_0, val_main_c_1]
  rw [h]
  exact first_place (w := 2) (by omega) (by norm_num)

theorem end_pair0 (l : Fin 8208) : (val_main_v23 (F := Ideal) : IVec S8208x2 32) (ix2 l 0) = BitVec.ofNat 32 (l.val + 1)
    ∧ (val_main_v23 (F := Ideal) : IVec S8208x2 32) (ix2 l 1) = BitVec.ofNat 32 0 := by
  have h := end_word l
  constructor
  · pointwise [val_main_v16, val_main_v17, val_main_v18, val_main_v19, val_main_v20, val_main_v21, val_main_v22, val_main_v23, val_main_c_2, val_main_c_3, val_main_c_4]
    rw [h]
    exact unwrapped (by omega) _
  · pointwise [val_main_v16, val_main_v17, val_main_v18, val_main_v19, val_main_v20, val_main_v21, val_main_v22, val_main_v23, val_main_c_2, val_main_c_3, val_main_c_4]

theorem first_pair0 (l : Fin 8208) : (val_main_v32 (F := Ideal) : IVec S8208x2 32) (ix2 l 0) = BitVec.ofNat 32 (l.val + 1 - 2)
    ∧ (val_main_v32 (F := Ideal) : IVec S8208x2 32) (ix2 l 1) = BitVec.ofNat 32 0 := by
  have h := first_word0 l
  constructor
  · pointwise [val_main_v25, val_main_v26, val_main_v27, val_main_v28, val_main_v29, val_main_v30, val_main_v31, val_main_v32, val_main_c_5, val_main_c_6, val_main_c_7]
    rw [h]
    exact unwrapped (by omega) _
  · pointwise [val_main_v25, val_main_v26, val_main_v27, val_main_v28, val_main_v29, val_main_v30, val_main_v31, val_main_v32, val_main_c_5, val_main_c_6, val_main_c_7]

include hx in
theorem group0 (b : Fin 2) (l : Fin 8208) (q : Fin 256) : val_main_v41 x0 x1 (ix3 b l q) = pooled (rows x0 x1 b) l.val 0 q := by
  have hl := l.isLt
  have e1 : val_main_v24 x0 x1 (ix3 b l q) = before (rows x0 x1 b) (l.val + 1) (col 0 q) :=
    (taken _ _ b l q ⟨l.val + 1, by omega⟩ (col 0 q) 0 rfl (by norm_num) (end_pair0 l).1 (end_pair0 l).2).trans
      (before_row x0 x1 b _ _)
  have e2 : val_main_v33 x0 x1 (ix3 b l q) = before (rows x0 x1 b) (l.val + 1 - 2) (col 0 q) :=
    (taken _ _ b l q ⟨l.val + 1 - 2, by omega⟩ (col 0 q) 0 rfl (by norm_num) (first_pair0 l).1 (first_pair0 l).2).trans
      (before_row x0 x1 b _ _)
  have e3 := end_word l
  have e4 := first_word0 l
  have e5 : ∀ p : Fin 1024, p.val = 0 + q.val → val_main_v2 x0 x1 (ix3 b l p) = rows x0 x1 b l.val (col 0 q) := fun p hp => by
    rw [show p = col 0 q from Fin.ext hp]; exact stream_row x0 x1 b l _
  have e5' := e5 ⟨0 + q.val, by omega⟩ rfl
  pointwise [val_main_v34, val_main_v35, val_main_v36, val_main_v37, val_main_v38, val_main_v39, val_main_v40, val_main_v41]
  have hz : (⟨q.val, by omega⟩ : Fin 1024) = ⟨0 + q.val, by omega⟩ := Fin.ext (Nat.zero_add _).symm
  rw [hz]
  rw [e1, e2, e3, e4, e5', before_sub (hx b), size_word (w := 2) (by omega)]
  rfl

/-! Group 1: windows of 4 rows. -/

theorem first_word1 (l : Fin 8208) : (val_main_v45 (F := Ideal) : IVec S8208 32) (ix1 l) = BitVec.ofNat 32 (l.val + 1 - 4) := by
  have h := end_word l
  pointwise [val_main_v42, val_main_v43, val_main_v44, val_main_v45, val_main_c_8, val_main_c_9]
  rw [h]
  exact first_place (w := 4) (by omega) (by norm_num)

theorem end_pair1 (l : Fin 8208) : (val_main_v53 (F := Ideal) : IVec S8208x2 32) (ix2 l 0) = BitVec.ofNat 32 (l.val + 1)
    ∧ (val_main_v53 (F := Ideal) : IVec S8208x2 32) (ix2 l 1) = BitVec.ofNat 32 256 := by
  have h := end_word l
  constructor
  · pointwise [val_main_v46, val_main_v47, val_main_v48, val_main_v49, val_main_v50, val_main_v51, val_main_v52, val_main_v53, val_main_c_10, val_main_c_11, val_main_c_12]
    rw [h]
    exact unwrapped (by omega) _
  · pointwise [val_main_v46, val_main_v47, val_main_v48, val_main_v49, val_main_v50, val_main_v51, val_main_v52, val_main_v53, val_main_c_10, val_main_c_11, val_main_c_12]

theorem first_pair1 (l : Fin 8208) : (val_main_v62 (F := Ideal) : IVec S8208x2 32) (ix2 l 0) = BitVec.ofNat 32 (l.val + 1 - 4)
    ∧ (val_main_v62 (F := Ideal) : IVec S8208x2 32) (ix2 l 1) = BitVec.ofNat 32 256 := by
  have h := first_word1 l
  constructor
  · pointwise [val_main_v55, val_main_v56, val_main_v57, val_main_v58, val_main_v59, val_main_v60, val_main_v61, val_main_v62, val_main_c_13, val_main_c_14, val_main_c_15]
    rw [h]
    exact unwrapped (by omega) _
  · pointwise [val_main_v55, val_main_v56, val_main_v57, val_main_v58, val_main_v59, val_main_v60, val_main_v61, val_main_v62, val_main_c_13, val_main_c_14, val_main_c_15]

include hx in
theorem group1 (b : Fin 2) (l : Fin 8208) (q : Fin 256) : val_main_v71 x0 x1 (ix3 b l q) = pooled (rows x0 x1 b) l.val 1 q := by
  have hl := l.isLt
  have e1 : val_main_v54 x0 x1 (ix3 b l q) = before (rows x0 x1 b) (l.val + 1) (col 1 q) :=
    (taken _ _ b l q ⟨l.val + 1, by omega⟩ (col 1 q) 256 rfl (by norm_num) (end_pair1 l).1 (end_pair1 l).2).trans
      (before_row x0 x1 b _ _)
  have e2 : val_main_v63 x0 x1 (ix3 b l q) = before (rows x0 x1 b) (l.val + 1 - 4) (col 1 q) :=
    (taken _ _ b l q ⟨l.val + 1 - 4, by omega⟩ (col 1 q) 256 rfl (by norm_num) (first_pair1 l).1 (first_pair1 l).2).trans
      (before_row x0 x1 b _ _)
  have e3 := end_word l
  have e4 := first_word1 l
  have e5 : ∀ p : Fin 1024, p.val = 256 + q.val → val_main_v2 x0 x1 (ix3 b l p) = rows x0 x1 b l.val (col 1 q) := fun p hp => by
    rw [show p = col 1 q from Fin.ext hp]; exact stream_row x0 x1 b l _
  have e5' := e5 ⟨256 + q.val, by omega⟩ rfl
  pointwise [val_main_v64, val_main_v65, val_main_v66, val_main_v67, val_main_v68, val_main_v69, val_main_v70, val_main_v71]
  skip
  skip
  rw [e1, e2, e3, e4, e5', before_sub (hx b), size_word (w := 4) (by omega)]
  rfl

/-! Group 2: windows of 8 rows. -/

theorem first_word2 (l : Fin 8208) : (val_main_v75 (F := Ideal) : IVec S8208 32) (ix1 l) = BitVec.ofNat 32 (l.val + 1 - 8) := by
  have h := end_word l
  pointwise [val_main_v72, val_main_v73, val_main_v74, val_main_v75, val_main_c_16, val_main_c_17]
  rw [h]
  exact first_place (w := 8) (by omega) (by norm_num)

theorem end_pair2 (l : Fin 8208) : (val_main_v83 (F := Ideal) : IVec S8208x2 32) (ix2 l 0) = BitVec.ofNat 32 (l.val + 1)
    ∧ (val_main_v83 (F := Ideal) : IVec S8208x2 32) (ix2 l 1) = BitVec.ofNat 32 512 := by
  have h := end_word l
  constructor
  · pointwise [val_main_v76, val_main_v77, val_main_v78, val_main_v79, val_main_v80, val_main_v81, val_main_v82, val_main_v83, val_main_c_18, val_main_c_19, val_main_c_20]
    rw [h]
    exact unwrapped (by omega) _
  · pointwise [val_main_v76, val_main_v77, val_main_v78, val_main_v79, val_main_v80, val_main_v81, val_main_v82, val_main_v83, val_main_c_18, val_main_c_19, val_main_c_20]

theorem first_pair2 (l : Fin 8208) : (val_main_v92 (F := Ideal) : IVec S8208x2 32) (ix2 l 0) = BitVec.ofNat 32 (l.val + 1 - 8)
    ∧ (val_main_v92 (F := Ideal) : IVec S8208x2 32) (ix2 l 1) = BitVec.ofNat 32 512 := by
  have h := first_word2 l
  constructor
  · pointwise [val_main_v85, val_main_v86, val_main_v87, val_main_v88, val_main_v89, val_main_v90, val_main_v91, val_main_v92, val_main_c_21, val_main_c_22, val_main_c_23]
    rw [h]
    exact unwrapped (by omega) _
  · pointwise [val_main_v85, val_main_v86, val_main_v87, val_main_v88, val_main_v89, val_main_v90, val_main_v91, val_main_v92, val_main_c_21, val_main_c_22, val_main_c_23]

include hx in
theorem group2 (b : Fin 2) (l : Fin 8208) (q : Fin 256) : val_main_v101 x0 x1 (ix3 b l q) = pooled (rows x0 x1 b) l.val 2 q := by
  have hl := l.isLt
  have e1 : val_main_v84 x0 x1 (ix3 b l q) = before (rows x0 x1 b) (l.val + 1) (col 2 q) :=
    (taken _ _ b l q ⟨l.val + 1, by omega⟩ (col 2 q) 512 rfl (by norm_num) (end_pair2 l).1 (end_pair2 l).2).trans
      (before_row x0 x1 b _ _)
  have e2 : val_main_v93 x0 x1 (ix3 b l q) = before (rows x0 x1 b) (l.val + 1 - 8) (col 2 q) :=
    (taken _ _ b l q ⟨l.val + 1 - 8, by omega⟩ (col 2 q) 512 rfl (by norm_num) (first_pair2 l).1 (first_pair2 l).2).trans
      (before_row x0 x1 b _ _)
  have e3 := end_word l
  have e4 := first_word2 l
  have e5 : ∀ p : Fin 1024, p.val = 512 + q.val → val_main_v2 x0 x1 (ix3 b l p) = rows x0 x1 b l.val (col 2 q) := fun p hp => by
    rw [show p = col 2 q from Fin.ext hp]; exact stream_row x0 x1 b l _
  have e5' := e5 ⟨512 + q.val, by omega⟩ rfl
  pointwise [val_main_v94, val_main_v95, val_main_v96, val_main_v97, val_main_v98, val_main_v99, val_main_v100, val_main_v101]
  skip
  skip
  rw [e1, e2, e3, e4, e5', before_sub (hx b), size_word (w := 8) (by omega)]
  rfl

/-! Group 3: windows of 16 rows. -/

theorem first_word3 (l : Fin 8208) : (val_main_v105 (F := Ideal) : IVec S8208 32) (ix1 l) = BitVec.ofNat 32 (l.val + 1 - 16) := by
  have h := end_word l
  pointwise [val_main_v102, val_main_v103, val_main_v104, val_main_v105, val_main_c_24, val_main_c_25]
  rw [h]
  exact first_place (w := 16) (by omega) (by norm_num)

theorem end_pair3 (l : Fin 8208) : (val_main_v113 (F := Ideal) : IVec S8208x2 32) (ix2 l 0) = BitVec.ofNat 32 (l.val + 1)
    ∧ (val_main_v113 (F := Ideal) : IVec S8208x2 32) (ix2 l 1) = BitVec.ofNat 32 768 := by
  have h := end_word l
  constructor
  · pointwise [val_main_v106, val_main_v107, val_main_v108, val_main_v109, val_main_v110, val_main_v111, val_main_v112, val_main_v113, val_main_c_26, val_main_c_27, val_main_c_28]
    rw [h]
    exact unwrapped (by omega) _
  · pointwise [val_main_v106, val_main_v107, val_main_v108, val_main_v109, val_main_v110, val_main_v111, val_main_v112, val_main_v113, val_main_c_26, val_main_c_27, val_main_c_28]

theorem first_pair3 (l : Fin 8208) : (val_main_v122 (F := Ideal) : IVec S8208x2 32) (ix2 l 0) = BitVec.ofNat 32 (l.val + 1 - 16)
    ∧ (val_main_v122 (F := Ideal) : IVec S8208x2 32) (ix2 l 1) = BitVec.ofNat 32 768 := by
  have h := first_word3 l
  constructor
  · pointwise [val_main_v115, val_main_v116, val_main_v117, val_main_v118, val_main_v119, val_main_v120, val_main_v121, val_main_v122, val_main_c_29, val_main_c_30, val_main_c_31]
    rw [h]
    exact unwrapped (by omega) _
  · pointwise [val_main_v115, val_main_v116, val_main_v117, val_main_v118, val_main_v119, val_main_v120, val_main_v121, val_main_v122, val_main_c_29, val_main_c_30, val_main_c_31]

include hx in
theorem group3 (b : Fin 2) (l : Fin 8208) (q : Fin 256) : val_main_v131 x0 x1 (ix3 b l q) = pooled (rows x0 x1 b) l.val 3 q := by
  have hl := l.isLt
  have e1 : val_main_v114 x0 x1 (ix3 b l q) = before (rows x0 x1 b) (l.val + 1) (col 3 q) :=
    (taken _ _ b l q ⟨l.val + 1, by omega⟩ (col 3 q) 768 rfl (by norm_num) (end_pair3 l).1 (end_pair3 l).2).trans
      (before_row x0 x1 b _ _)
  have e2 : val_main_v123 x0 x1 (ix3 b l q) = before (rows x0 x1 b) (l.val + 1 - 16) (col 3 q) :=
    (taken _ _ b l q ⟨l.val + 1 - 16, by omega⟩ (col 3 q) 768 rfl (by norm_num) (first_pair3 l).1 (first_pair3 l).2).trans
      (before_row x0 x1 b _ _)
  have e3 := end_word l
  have e4 := first_word3 l
  have e5 : ∀ p : Fin 1024, p.val = 768 + q.val → val_main_v2 x0 x1 (ix3 b l p) = rows x0 x1 b l.val (col 3 q) := fun p hp => by
    rw [show p = col 3 q from Fin.ext hp]; exact stream_row x0 x1 b l _
  have e5' := e5 ⟨768 + q.val, by omega⟩ rfl
  pointwise [val_main_v124, val_main_v125, val_main_v126, val_main_v127, val_main_v128, val_main_v129, val_main_v130, val_main_v131]
  skip
  skip
  rw [e1, e2, e3, e4, e5', before_sub (hx b), size_word (w := 16) (by omega)]
  rfl

end Cert.ReferenceIdeal.Rows

end
-- ==== Proof.Conditions.lean ====
/- The first call's precondition and its mask, read. -/
module

public import proofs.«01_k».proof.Defs
public import proofs.«01_k».proof.Proof.Gen.Pre_finite_rows
public import proofs.«01_k».proof.Proof.Gen.On_real_rows
public import proofs.«01_k».proof.Proof.RefPool

@[expose] public section

set_option maxRecDepth 16384

noncomputable section

open Idealize.ShloMosaic Idealize.ShloMosaic.TcCoe Idealize.SL.Sem

namespace Cert.First

attribute [local instance] Cert.Pre_finite_rows.Gen.facts Cert.On_real_rows.Gen.facts

/-- An absolute value below the top: the value is a real number. -/
theorem real_of_below (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, (EReal.coe_toReal hlt.1.ne ?_).symm⟩
  rintro rfl
  simp at hlt

section
open Cert.Spec

/-- Every row of a sequence is real where its lead and its own rows are. -/
theorem stream_real (lead : Fin 16 → Row 1024) (x : Fin 8192 → Row 1024) (h0 : ∀ n d, ∃ r : ℝ, lead n d = (r : EReal))
    (h1 : ∀ n d, ∃ r : ℝ, x n d = (r : EReal)) : Spec.Real (stream lead x) := by
  intro n d
  unfold stream
  split
  · exact h0 _ d
  · split
    · exact h1 _ d
    · exact ⟨0, rfl⟩

end

section
open Cert.KernelIdeal

variable (m : (ℓ : Loc nD τ sig) → Buf (Elt Ideal) ℓ)

theorem rows_real (h : Cert.Pre_KernelIdeal_finite_rows m) (c : Dev nD) (b : Fin 2) :
    Spec.Real (Cert.ReferenceIdeal.Rows.rows (m ((c.tc : Thread nD τ).loc main_arg0)) (m ((c.tc : Thread nD τ).loc main_arg1)) b) := by
  obtain ⟨h0, h1⟩ := h c
  refine stream_real _ _ (fun n d => ?_) (fun n d => ?_)
  · exact real_of_below _ (congrFun h1 (ix2 n d))
  · exact real_of_below _ (congrFun h0 (ix3 b n d))

end

/-- The mask of the rows that lie in the sequence. -/
theorem row_of_mask (n : ℕ) (hn : n < 8448) (h : IntOp.cmpi .slt (BitVec.ofNat 32 n) 8208#32 = 1#1) : n < 8208 := by
  have e : (BitVec.ofNat 32 n).toInt = (n : ℤ) := Cert.ReferenceIdeal.Rows.toInt_small (by omega)
  have h' : (BitVec.ofNat 32 n).slt 8208#32 = true := by
    have h1 : BitVec.ofBool ((BitVec.ofNat 32 n).slt 8208#32) = 1#1 := h
    revert h1
    generalize (BitVec.ofNat 32 n).slt 8208#32 = q
    revert q
    decide
  rw [BitVec.slt_iff_toInt_lt, e, show (8208#32 : BitVec 32).toInt = (8208 : ℤ) from by decide] at h'
  omega

/-- The same of a tile's place. -/
theorem tile_of_mask (q r : ℕ) (hq : q < 33) (hr : r < 256)
    (h : IntOp.cmpi .slt (IntOp.addi (IntOp.muli (BitVec.ofNat 32 q) 256#32) (BitVec.ofNat 32 r)) 8208#32 = 1#1) :
    q * 256 + r < 8208 := by
  have e : IntOp.addi (IntOp.muli (BitVec.ofNat 32 q) 256#32) (BitVec.ofNat 32 r) = BitVec.ofNat 32 (q * 256 + r) := by
    show BitVec.ofNat 32 q * BitVec.ofNat 32 256 + BitVec.ofNat 32 r = _
    rw [BitVec.ofNat_add, BitVec.ofNat_mul]
  rw [e] at h
  exact row_of_mask _ (by omega) h

end Cert.First

end
-- ==== Proof.Operands1.lean ====
/- The first call's operands: what the host code makes of the arguments, and the blocks the body loads. -/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen

theorem idx : ∀ t : Fin cfg0.N, win0_0.index t = ![t.val / 33, min (t.val % 33 * 256 - 32) 8176, 0]
    ∧ win0_1.index t = ![t.val / 33, min (t.val % 33 * 256 - 16) 7936, 0]
    ∧ win0_2.index t = ![0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val / 33, t.val % 33, 0]
    ∧ win0_16.index t = ![t.val / 33, 0, t.val % 33]
    ∧ win0_17.index t = ![t.val / 33, 0, t.val % 33]
    ∧ win0_18.index t = ![t.val / 33, t.val % 33, 0]
    ∧ (grid0.coords t 1).val = t.val % 33 :=
  (by decide +kernel : ∀ t : Fin grid0.N, _)

variable (m : (ℓ : Loc nD τ sig) → Buf (Elt Ideal) ℓ)

theorem host_pool (c : Dev nD) (g : Fin 4) (a b : Fin 256) :
    V m c main_v1 (ix3 g a b) = m ((c : Thread nD τ).loc main_arg4) (ix4 0 g a b) := by
  entry_read
  pointwise

theorem host_g (c : Dev nD) (a : Fin 2) (k : Fin 1024) :
    V m c main_v3 (ix2 a k) = m ((c : Thread nD τ).loc main_arg2) (ix3 0 a k) := by
  entry_read
  pointwise

theorem host_b (c : Dev nD) (a : Fin 2) (k : Fin 1024) :
    V m c main_v5 (ix2 a k) = m ((c : Thread nD τ).loc main_arg3) (ix3 0 a k) := by
  entry_read
  pointwise

theorem host_wu (c : Dev nD) (k : Fin 1024) (f : Fin 4096) :
    V m c main_v8 (ix2 k f) = m ((c : Thread nD τ).loc main_arg7) (ix3 0 k f) := by
  entry_read
  pointwise

theorem host_bu (c : Dev nD) (f : Fin 4096) :
    V m c main_v9 (ix2 0 f) = m ((c : Thread nD τ).loc main_arg8) (ix2 0 f) := by
  entry_read
  pointwise

theorem host_wd (c : Dev nD) (f : Fin 4096) (k : Fin 1024) :
    V m c main_v12 (ix2 f k) = m ((c : Thread nD τ).loc main_arg9) (ix3 0 f k) := by
  entry_read
  pointwise

theorem host_bd (c : Dev nD) (k : Fin 1024) :
    V m c main_v13 (ix2 0 k) = m ((c : Thread nD τ).loc main_arg10) (ix2 0 k) := by
  entry_read
  pointwise

theorem host_wk (c : Dev nD) (j k : Fin 1024) :
    V m c main_v16 (ix2 j k) = m ((c : Thread nD τ).loc main_arg11) (ix2 k ⟨j.val, by omega⟩) := by
  entry_read
  pointwise

theorem host_wv (c : Dev nD) (j k : Fin 1024) :
    V m c main_v19 (ix2 j k) = m ((c : Thread nD τ).loc main_arg11) (ix2 k ⟨1024 + j.val, by omega⟩) := by
  entry_read
  pointwise

theorem host_wq (c : Dev nD) (k j : Fin 1024) :
    V m c main_v21 (ix2 k j) = m ((c : Thread nD τ).loc main_arg12) (ix3 0 k j) := by
  entry_read
  pointwise

theorem host_b0 (c : Dev nD) (k : Fin 1024) : V m c main_arg5 (ix2 0 k) = m ((c : Thread nD τ).loc main_arg5) (ix2 0 k) := by
  entry_read
  rfl

theorem host_s0 (c : Dev nD) (k : Fin 1024) : V m c main_arg6 (ix2 0 k) = m ((c : Thread nD τ).loc main_arg6) (ix2 0 k) := by
  entry_read
  rfl

theorem host_meta (c : Dev nD) (n : Fin 16) (k : Fin 1024) : V m c main_arg1 (ix2 n k) = m ((c : Thread nD τ).loc main_arg1) (ix2 n k) := by
  entry_read
  rfl

theorem host_x (c : Dev nD) (b : Fin 2) (l : Fin 8192) (k : Fin 1024) :
    V m c main_arg0 (ix3 b l k) = m ((c : Thread nD τ).loc main_arg0) (ix3 b l k) := by
  entry_read
  rfl

/-! The blocks: two windows of the prompt that begin at an element, the others whole arrays. -/

theorem prev_block (c : Dev nD) (t : Fin cfg0.N) (q : Fin 16) (k : Fin 1024) (b : Fin 2) (l : Fin 8192) (hb : b.val = t.val / 33)
    (hl : l.val = min (t.val % 33 * 256 - 32) 8176 + q.val) : iblk m c 0 t (ix3 0 q k) = V m c main_arg0 (ix3 b l k) := by
  blk_simp [iblk]
  refine congrArg _ (funext fun a => Fin.ext ?_)
  refine (win0_0.rect_emb_val_off t (ix3 0 q k) a).trans ?_
  rw [(idx t).1]
  match a with
  | 0 => exact (Nat.add_zero _).trans hb.symm
  | 1 => exact hl.symm
  | 2 => exact Nat.zero_add _

theorem cur_block (c : Dev nD) (t : Fin cfg0.N) (q : Fin 256) (k : Fin 1024) (b : Fin 2) (l : Fin 8192) (hb : b.val = t.val / 33)
    (hl : l.val = min (t.val % 33 * 256 - 16) 7936 + q.val) : iblk m c 1 t (ix3 0 q k) = V m c main_arg0 (ix3 b l k) := by
  blk_simp [iblk]
  refine congrArg _ (funext fun a => Fin.ext ?_)
  refine (win0_1.rect_emb_val_off t (ix3 0 q k) a).trans ?_
  rw [(idx t).2.1]
  match a with
  | 0 => exact (Nat.add_zero _).trans hb.symm
  | 1 => exact hl.symm
  | 2 => exact Nat.zero_add _

theorem whole2 (c : Dev nD) (t : Fin cfg0.N) : iblk m c 2 t = V m c main_arg1 := by blk_ext! [iblk, idx t]
theorem whole3 (c : Dev nD) (t : Fin cfg0.N) : iblk m c 3 t = V m c main_v1 := by blk_ext! [iblk, idx t]
theorem whole4 (c : Dev nD) (t : Fin cfg0.N) : iblk m c 4 t = V m c main_arg5 := by blk_ext! [iblk, idx t]
theorem whole5 (c : Dev nD) (t : Fin cfg0.N) : iblk m c 5 t = V m c main_arg6 := by blk_ext! [iblk, idx t]
theorem whole6 (c : Dev nD) (t : Fin cfg0.N) : iblk m c 6 t = V m c main_v3 := by blk_ext! [iblk, idx t]
theorem whole7 (c : Dev nD) (t : Fin cfg0.N) : iblk m c 7 t = V m c main_v5 := by blk_ext! [iblk, idx t]
theorem whole8 (c : Dev nD) (t : Fin cfg0.N) : iblk m c 8 t = V m c main_v8 := by blk_ext! [iblk, idx t]
theorem whole9 (c : Dev nD) (t : Fin cfg0.N) : iblk m c 9 t = V m c main_v9 := by blk_ext! [iblk, idx t]
theorem whole10 (c : Dev nD) (t : Fin cfg0.N) : iblk m c 10 t = V m c main_v12 := by blk_ext! [iblk, idx t]
theorem whole11 (c : Dev nD) (t : Fin cfg0.N) : iblk m c 11 t = V m c main_v13 := by blk_ext! [iblk, idx t]
theorem whole12 (c : Dev nD) (t : Fin cfg0.N) : iblk m c 12 t = V m c main_v16 := by blk_ext! [iblk, idx t]
theorem whole13 (c : Dev nD) (t : Fin cfg0.N) : iblk m c 13 t = V m c main_v19 := by blk_ext! [iblk, idx t]
theorem whole14 (c : Dev nD) (t : Fin cfg0.N) : iblk m c 14 t = V m c main_v21 := by blk_ext! [iblk, idx t]

end Cert.KernelIdeal.Rows

end
-- ==== Proof.Rows1.lean ====
/- The first call's body, a row at a time: what the body computes from its blocks is the pooling layer's row. -/
module

public import proofs.«01_k».proof.Proof.Gen.KernelIdeal.Skeleton
public import proofs.«01_k».proof.Proof.Pool
public import Idealize.ShloMosaic.Lib.Pipeline.ValueKit

@[expose] public section

set_option maxRecDepth 16384

noncomputable section

open Idealize.ShloMosaic Idealize.ShloMosaic.TcCoe Idealize.SL.Sem

namespace Cert.KernelIdeal.Rows

open Cert.KernelIdeal Cert.KernelIdeal.Gen Cert.Spec

/-! ## The pooling mixer, a group at a time -/

section Groups

variable (u : ℕ → Row 1024) (n : ℕ) (hn : n < 2 ^ 20) (r : Fin 256)
variable (v11 : FVec Ideal S256x1024 .f32) (h11 : ∀ j, v11 (ix2 r j) = u n j)

/-- A window's mean less the row, from the window's sum as the body adds it. -/
theorem pooled_of (u : ℕ → Row 1024) (n : ℕ) (g : Fin 4) (c : Fin 256) (s q : EReal)
    (hs : s = winSum u (width g) n (col g c)) (hq : q = count (width g) n) :
    s * Ideal.div 1 q - u n (col g c) = pooled u n g c := by
  subst hs hq
  unfold pooled
  rw [Ideal.mul_one_div (count_ne_zero (by unfold width; positivity) n)]

theorem back_zero (u : ℕ → Row 1024) (n : ℕ) (d : Fin 1024) : back u n 0 d = u n d := by simp [back]

include hn h11

theorem pay9_row (v29 : FVec Ideal S256x256 .f32) (v33 : IVec S256x1 32) (v42 : Vec Ideal S1x256x256 .bf16)
    (x : BitVec 32) (hx : x = BitVec.ofNat 32 n) (h33 : v33 (ix2 r 0) = IntOp.minsi (IntOp.addi x 1#32) 2#32)
    (e1 : ∀ c, v29 (ix2 r c) = u n (col 0 c) + back u n 1 (col 0 c)) (c : Fin 256) :
    k0_pay9 v11 v29 v33 v42 (ix2 r c) = mixed u n 0 (fun a b => v42 (ix3 0 a b)) c := by
  pointwise [k0_pay9]
  refine Finset.sum_congr rfl fun a _ => congrArg (fun z : EReal => z * v42 (ix3 0 a c)) ?_
  rw [h33, h11, e1]
  have hc : (⟨a.val, by omega⟩ : Fin 1024) = col 0 a := Fin.ext (by simp [col])
  rw [hc]
  refine pooled_of u n 0 a _ _ ?_ (count_word (w := 2) x hx hn (by norm_num))
  simp [winSum, width, Finset.sum_range_succ, back_zero]

theorem pay10_row (v20 : IVec S256x1 32) (v46 v48 v50 : Vec Ideal S256x256 .f32) (v64 : Vec Ideal S1x256x256 .bf16)
    (h20 : v20 (ix2 r 0) = BitVec.ofNat 32 n)
    (e1 : ∀ c, v46 (ix2 r c) = back u n 1 (col 1 c)) (e2 : ∀ c, v48 (ix2 r c) = back u n 2 (col 1 c)) (e3 : ∀ c, v50 (ix2 r c) = back u n 3 (col 1 c)) (c : Fin 256) :
    k0_pay10 v11 v20 v46 v48 v50 v64 (ix2 r c) = mixed u n 1 (fun a b => v64 (ix3 0 a b)) c := by
  pointwise [k0_pay10]
  refine Finset.sum_congr rfl fun a _ => congrArg (fun z : EReal => z * v64 (ix3 0 a c)) ?_
  rw [h11, e1, e2, e3]
  refine pooled_of u n 1 a _ _ ?_ (count_word (w := 4) _ h20 hn (by norm_num))
  simp [winSum, width, Finset.sum_range_succ, back_zero]
  rfl

theorem pay12_row (v20 : IVec S256x1 32) (v68 v70 v72 v74 v76 v78 v80 : Vec Ideal S256x256 .f32) (v94 : Vec Ideal S1x256x256 .bf16)
    (h20 : v20 (ix2 r 0) = BitVec.ofNat 32 n)
    (e1 : ∀ c, v68 (ix2 r c) = back u n 1 (col 2 c)) (e2 : ∀ c, v70 (ix2 r c) = back u n 2 (col 2 c)) (e3 : ∀ c, v72 (ix2 r c) = back u n 3 (col 2 c)) (e4 : ∀ c, v74 (ix2 r c) = back u n 4 (col 2 c)) (e5 : ∀ c, v76 (ix2 r c) = back u n 5 (col 2 c)) (e6 : ∀ c, v78 (ix2 r c) = back u n 6 (col 2 c)) (e7 : ∀ c, v80 (ix2 r c) = back u n 7 (col 2 c)) (c : Fin 256) :
    k0_pay12 v11 v20 (k0_pay11 v11 v68 v70) v72 v74 v76 v78 v80 v94 (ix2 r c)
      = mixed u n 2 (fun a b => v94 (ix3 0 a b)) c := by
  pointwise [k0_pay12, k0_pay11]
  refine Finset.sum_congr rfl fun a _ => congrArg (fun z : EReal => z * v94 (ix3 0 a c)) ?_
  rw [h11, e1, e2, e3, e4, e5, e6, e7]
  refine pooled_of u n 2 a _ _ ?_ (count_word (w := 8) _ h20 hn (by norm_num))
  simp [winSum, width, Finset.sum_range_succ, back_zero]
  rfl

theorem pay14_row (v20 : IVec S256x1 32) (v98 v100 v102 v104 v106 v108 v110 v112 v114 v116 v118 v120 v122 v124 v126 : Vec Ideal S256x256 .f32)
    (h20 : v20 (ix2 r 0) = BitVec.ofNat 32 n)
    (e1 : ∀ c, v98 (ix2 r c) = back u n 1 (col 3 c)) (e2 : ∀ c, v100 (ix2 r c) = back u n 2 (col 3 c)) (e3 : ∀ c, v102 (ix2 r c) = back u n 3 (col 3 c)) (e4 : ∀ c, v104 (ix2 r c) = back u n 4 (col 3 c)) (e5 : ∀ c, v106 (ix2 r c) = back u n 5 (col 3 c)) (e6 : ∀ c, v108 (ix2 r c) = back u n 6 (col 3 c)) (e7 : ∀ c, v110 (ix2 r c) = back u n 7 (col 3 c)) (e8 : ∀ c, v112 (ix2 r c) = back u n 8 (col 3 c)) (e9 : ∀ c, v114 (ix2 r c) = back u n 9 (col 3 c)) (e10 : ∀ c, v116 (ix2 r c) = back u n 10 (col 3 c)) (e11 : ∀ c, v118 (ix2 r c) = back u n 11 (col 3 c)) (e12 : ∀ c, v120 (ix2 r c) = back u n 12 (col 3 c)) (e13 : ∀ c, v122 (ix2 r c) = back u n 13 (col 3 c)) (e14 : ∀ c, v124 (ix2 r c) = back u n 14 (col 3 c)) (e15 : ∀ c, v126 (ix2 r c) = back u n 15 (col 3 c)) (c : Fin 256) :
    k0_pay14 v11 v20 (k0_pay13 v11 v98 v100 v102 v104) v106 v108 v110 v112 v114 v116 v118 v120 v122 v124 v126 (ix2 r c)
      = pooled u n 3 c := by
  pointwise [k0_pay14, k0_pay13]
  rw [h11, e1, e2, e3, e4, e5, e6, e7, e8, e9, e10, e11, e12, e13, e14, e15]
  refine pooled_of u n 3 c _ _ ?_ (count_word (w := 16) _ h20 hn (by norm_num))
  simp [winSum, width, Finset.sum_range_succ, back_zero]
  rfl

end Groups

/-- The four groups side by side. -/
theorem side_by_side (u : ℕ → Row 1024) (n : ℕ) (w : Fin 4 → Fin 256 → Fin 256 → EReal) (a b c d : Fin 256 → EReal)
    (ha : ∀ x, a x = mixed u n 0 (w 0) x) (hb : ∀ x, b x = mixed u n 1 (w 1) x)
    (hc : ∀ x, c x = mixed u n 2 (w 2) x) (hd : ∀ x, d x = mixed u n 3 (w 3) x) (j : Fin 1024) :
    (if h : j.val < 256 then a ⟨j.val, h⟩ else
      if h : j.val - 256 < 256 then b ⟨j.val - 256, h⟩ else
      if h : j.val - 256 - 256 < 256 then c ⟨j.val - 256 - 256, h⟩ else d ⟨j.val - 256 - 256 - 256, by omega⟩)
      = mixed u n ⟨j.val / 256, by omega⟩ (w ⟨j.val / 256, by omega⟩) ⟨j.val % 256, by omega⟩ := by
  have key : ∀ (g : Fin 4) (x : Fin 256), j.val = g.val * 256 + x.val →
      mixed u n g (w g) x = mixed u n ⟨j.val / 256, by omega⟩ (w ⟨j.val / 256, by omega⟩) ⟨j.val % 256, by omega⟩ := by
    intro g x h
    have h1 : g = ⟨j.val / 256, by omega⟩ := Fin.ext (by show g.val = j.val / 256; omega)
    have h2 : x = ⟨j.val % 256, by omega⟩ := Fin.ext (by show x.val = j.val % 256; omega)
    rw [← h1, ← h2]
  split
  · rw [ha]; exact key 0 _ (by simp)
  split
  · rw [hb]; exact key 1 _ (by show j.val = 1 * 256 + (j.val - 256); omega)
  split
  · rw [hc]; exact key 2 _ (by show j.val = 2 * 256 + (j.val - 256 - 256); omega)
  · rw [hd]; exact key 3 _ (by show j.val = 3 * 256 + (j.val - 256 - 256 - 256); omega)

/-- The mixer's sub-layer: the row the network reads. -/
theorem pay15_row (u : ℕ → Row 1024) (n : ℕ) (w : Fin 4 → Fin 256 → Fin 256 → EReal) (r : Fin 256)
    (v11 : FVec Ideal S256x1024 .f32) (v44 v66 v96 : FVec Ideal S256x256 .f32) (v139 : FVec Ideal S256x256 .bf16)
    (v140 : Vec Ideal S1x256x256 .bf16) (v144 v147 v153 v155 : Vec Ideal S1x1024 .f32)
    (h11 : ∀ j, v11 (ix2 r j) = u n j) (h44 : ∀ x, v44 (ix2 r x) = mixed u n 0 (w 0) x)
    (h66 : ∀ x, v66 (ix2 r x) = mixed u n 1 (w 1) x) (h96 : ∀ x, v96 (ix2 r x) = mixed u n 2 (w 2) x)
    (h139 : ∀ x, v139 (ix2 r x) = pooled u n 3 x) (h140 : ∀ a b, v140 (ix3 0 a b) = w 3 a b) (j : Fin 1024) :
    k0_pay15 v11 v44 v66 v96 v139 v140 v144 v147 v153 v155 (ix2 r j)
      = inner (u n) (mixer u n w (fun k => v144 (ix2 0 k)) (fun k => v147 (ix2 0 k))) (fun k => v153 (ix2 0 k))
          (fun k => v155 (ix2 0 k)) j := by
  have hd : ∀ x, ∑ a, v139 (ix2 r a) * v140 (ix3 0 a x) = mixed u n 3 (w 3) x := fun x =>
    Finset.sum_congr rfl fun a _ => by rw [h139, h140]
  have key := side_by_side u n w (fun x => v44 (ix2 r x)) (fun x => v66 (ix2 r x)) (fun x => v96 (ix2 r x))
    (fun x => ∑ a, v139 (ix2 r a) * v140 (ix3 0 a x)) h44 h66 h96 hd
  pointwise [k0_pay15]
  simp only [key, h11]
  rfl

/-! ## The network and the second norm -/

/-- The first two quarters of the network. -/
theorem pay18_row (v177 : FVec Ideal S256x1024 .bf16) (v178 : Vec Ideal S1024x1024 .bf16) (v180 : FVec Ideal S256x1024 .f32)
    (v181 : Vec Ideal S1x1024 .f32) (v189 v192 : Vec Ideal S1024x1024 .bf16) (v195 : Vec Ideal S1x1024 .f32)
    (v203 : Vec Ideal S1024x1024 .bf16) (r : Fin 256) (h180 : ∀ f, v180 (ix2 r f) = ∑ k, v177 (ix2 r k) * v178 (ix2 k f))
    (j : Fin 1024) :
    k0_pay18 v177 v180 v181 v189 v192 v195 v203 (ix2 r j)
      = down (fun k => v177 (ix2 r k)) (fun k f => v178 (ix2 k f)) (fun f => v181 (ix2 0 f)) (fun f k => v189 (ix2 f k)) j
        + down (fun k => v177 (ix2 r k)) (fun k f => v192 (ix2 k f)) (fun f => v195 (ix2 0 f)) (fun f k => v203 (ix2 f k)) j := by
  pointwise [k0_pay18]
  simp only [h180]
  rfl

/-- The third quarter's squared hidden row. -/
theorem pay19_row (v177 : FVec Ideal S256x1024 .bf16) (v207 : Vec Ideal S1024x1024 .bf16) (v210 : Vec Ideal S1x1024 .f32)
    (r : Fin 256) (f : Fin 1024) :
    k0_pay19 v177 v207 v210 (ix2 r f)
      = hidden (fun k => v177 (ix2 r k)) (fun k f => v207 (ix2 k f)) (fun f => v210 (ix2 0 f)) f
        * hidden (fun k => v177 (ix2 r k)) (fun k f => v207 (ix2 k f)) (fun f => v210 (ix2 0 f)) f := by
  pointwise [k0_pay19]
  rfl

/-- The second sub-layer's row, its mean taken off. -/
theorem pay22_row (v176 : FVec Ideal S256x1024 .f32) (v177 : FVec Ideal S256x1024 .bf16) (v206 : FVec Ideal S256x1024 .f32)
    (v217 : FVec Ideal S256x1024 .bf16) (v218 v222 : Vec Ideal S1024x1024 .bf16) (v225 : Vec Ideal S1x1024 .f32)
    (v233 : Vec Ideal S1024x1024 .bf16) (v237 : Vec Ideal S1x1024 .f32) (r : Fin 256) (X : Row 1024)
    (hX : ∀ j, X j = alpha * v176 (ix2 r j)
      + (v206 (ix2 r j) + ∑ f, v217 (ix2 r f) * v218 (ix2 f j)
          + down (fun k => v177 (ix2 r k)) (fun k f => v222 (ix2 k f)) (fun f => v225 (ix2 0 f)) (fun f k => v233 (ix2 f k)) j
          + v237 (ix2 0 j)))
    (j : Fin 1024) :
    k0_pay22 v176 v177 v206 v217 v218 v222 v225 v233 v237 (ix2 r j) = X j - mean X := by
  obtain rfl : X = fun j => _ := funext hX
  pointwise [k0_pay22]
  rfl

/-- The row sums of squares. -/
def squares (V : FVec Ideal S256x1024 .f32) : FVec Ideal S256x1 .f32 :=
  shapeCast S256x1 (multiReduction .add [1] S256 (mulf V V) 0x00000000#32 reduces_S256x1024_S256 (.inl rfl) rfl)
    shapeCasts_S256_S256x1

/-- The layer's row, from the mixer's sub-layer's: the network's matrices and offsets come in quarters. -/
theorem body_row (v176 : FVec Ideal S256x1024 .f32) (v177 : FVec Ideal S256x1024 .bf16) (v180 : FVec Ideal S256x1024 .f32)
    (P5 : Vec Ideal S1024x1024 .bf16) (P6 : Vec Ideal S1x1024 .f32)
    (P7 P8 : Vec Ideal S1024x1024 .bf16) (P9 : Vec Ideal S1x1024 .f32) (P10 P11 : Vec Ideal S1024x1024 .bf16)
    (P12 : Vec Ideal S1x1024 .f32) (P13 P14 : Vec Ideal S1024x1024 .bf16) (P15 : Vec Ideal S1x1024 .f32)
    (P16 : Vec Ideal S1024x1024 .bf16) (P17 P18 P19 : Vec Ideal S1x1024 .f32) (cst : Ideal .f32)
    (hcst : cst = Ideal.ofBits FTy.f32 1149239296#32) (r : Fin 256) (H : Row 1024)
    (wu : Fin 1024 → Row 4096) (bu : Row 4096) (wd : Fin 4096 → Row 1024)
    (h176 : ∀ k, v176 (ix2 r k) = H k) (h177 : ∀ k, v177 (ix2 r k) = v176 (ix2 r k))
    (h180 : ∀ f, v180 (ix2 r f) = ∑ k, v177 (ix2 r k) * P5 (ix2 k f))
    (h5 : ∀ k f, P5 (ix2 k f) = wu k (quarter 0 f)) (h8 : ∀ k f, P8 (ix2 k f) = wu k (quarter 1 f))
    (h11 : ∀ k f, P11 (ix2 k f) = wu k (quarter 2 f)) (h14 : ∀ k f, P14 (ix2 k f) = wu k (quarter 3 f))
    (h6 : ∀ f, P6 (ix2 0 f) = bu (quarter 0 f)) (h9 : ∀ f, P9 (ix2 0 f) = bu (quarter 1 f))
    (h12 : ∀ f, P12 (ix2 0 f) = bu (quarter 2 f)) (h15 : ∀ f, P15 (ix2 0 f) = bu (quarter 3 f))
    (h7 : ∀ f k, P7 (ix2 f k) = wd (quarter 0 f) k) (h10 : ∀ f k, P10 (ix2 f k) = wd (quarter 1 f) k)
    (h13 : ∀ f k, P13 (ix2 f k) = wd (quarter 2 f) k) (h16 : ∀ f k, P16 (ix2 f k) = wd (quarter 3 f) k)
    (j : Fin 1024) :
    k0_pay24 (k0_pay20 P18) (k0_pay21 P19)
        (k0_pay22 v176 v177 (k0_pay18 v177 v180 P6 P7 P8 P9 P10) (k0_pay19 v177 P11 P12) P13 P14 P15 P16 P17)
        (k0_pay23 v176 v177 (k0_pay18 v177 v180 P6 P7 P8 P9 P10) (k0_pay19 v177 P11 P12) P13 P14 P15 P16 P17)
        cst (ix2 r j)
      = inner H (fun k => down H wu bu wd k + P17 (ix2 0 k)) (fun k => P18 (ix2 0 k)) (fun k => P19 (ix2 0 k)) j := by
  have h22 := pay22_row v176 v177 (k0_pay18 v177 v180 P6 P7 P8 P9 P10) (k0_pay19 v177 P11 P12) P13 P14 P15 P16 P17 r
    (fun k => alpha * H k + (down H wu bu wd k + P17 (ix2 0 k)))
    (fun j => by
      simp only [pay18_row _ _ _ _ _ _ _ _ r h180, pay19_row, h177, h176, h5, h6, h7, h8, h9, h10, h11, h12, h13, h14, h15, h16]
      rw [down_quarters]
      rfl)
  have h23 : k0_pay23 v176 v177 (k0_pay18 v177 v180 P6 P7 P8 P9 P10) (k0_pay19 v177 P11 P12) P13 P14 P15 P16 P17
      = squares (k0_pay22 v176 v177 (k0_pay18 v177 v180 P6 P7 P8 P9 P10) (k0_pay19 v177 P11 P12) P13 P14 P15 P16 P17) := rfl
  rw [h23]
  generalize k0_pay22 v176 v177 (k0_pay18 v177 v180 P6 P7 P8 P9 P10) (k0_pay19 v177 P11 P12) P13 P14 P15 P16 P17 = V at h22 ⊢
  subst hcst
  pointwise [k0_pay24, k0_pay20, k0_pay21, squares]
  simp only [h22]
  rfl

/-! ## The results' rows -/

section Results

variable (a b : FVec Ideal S1x1024 .f32) (d : FVec Ideal S256x1024 .f32) (e : FVec Ideal S256x1 .f32) (cst : Ideal .f32)

theorem pay25_row (r : Fin 256) (j : Fin 1024) : k0_pay25 a b d e cst (ix3 0 r j) = k0_pay24 a b d e cst (ix2 r j) := by
  pointwise [k0_pay25]

theorem pay28_row (w : Vec Ideal S1024x1024 .bf16) (j : Fin 1024) (r : Fin 256) :
    k0_pay28 a b d e cst w (ix3 0 j r) = ∑ k, w (ix2 j k) * k0_pay24 a b d e cst (ix2 r k) := by
  pointwise [k0_pay28, k0_pay27, k0_pay26]

theorem pay31_row (w : Vec Ideal S1024x1024 .bf16) (j : Fin 1024) (r : Fin 256) :
    k0_pay31 a b d e cst w (ix3 0 j r) = ∑ k, w (ix2 j k) * k0_pay24 a b d e cst (ix2 r k) := by
  pointwise [k0_pay31, k0_pay30, k0_pay26]

theorem pay2_row (w : Vec Ideal S1024x1024 .bf16) (r : Fin 256) (j : Fin 1024) :
    k0_pay2 (k0_pay26 a b d e cst) w (ix3 0 r j)
      = (∑ k, k0_pay24 a b d e cst (ix2 r k) * w (ix2 k j)) * Ideal.ofBits FTy.f32 1040187392#32 := by
  pointwise [k0_pay2, k0_pay26]

end Results

end Cert.KernelIdeal.Rows

end
-- ==== Proof.Loads.lean ====
/- A load of a rectangle of an array, at an index. -/
module

public import proofs.«01_k».proof.Proof.Spec
public import Idealize.ShloMosaic.Lib.Pipeline.ValueKit

@[expose] public section

noncomputable section

open Idealize.ShloMosaic Idealize.ShloMosaic.TcCoe Idealize.SL.Sem

namespace Cert.Spec

/-- A load of a rectangle of a matrix, at an index. -/
theorem piece {n k p q : ℕ} {φ : EltTy} (X : Vec Ideal (⟨2, ![n, k]⟩ : Shape) φ) (a b : ℕ)
    (inb : ∀ i, (![a, b] : Fin 2 → ℕ) i + (![p, q] : Fin 2 → ℕ) i ≤ (⟨2, ![n, k]⟩ : Shape).size i)
    (r : Fin p) (j : Fin q) (r' : Fin n) (j' : Fin k) (hr : r'.val = a + r.val) (hj : j'.val = b + j.val) :
    View.ld X (Rect.unit (s := (⟨2, ![n, k]⟩ : Shape)) ![a, b] ![p, q] inb) (ix2 r j) = X (ix2 r' j') := by
  refine congrArg X (funext fun i => Fin.ext ?_)
  match i with
  | 0 => simp [hr]
  | 1 => simp [hj]

/-- A load of one matrix of a stack, at an index. -/
theorem slab {n k p : ℕ} {φ : EltTy} (X : Vec Ideal (⟨3, ![n, k, p]⟩ : Shape) φ) (g : ℕ)
    (inb : ∀ i, (![g, 0, 0] : Fin 3 → ℕ) i + (![1, k, p] : Fin 3 → ℕ) i ≤ (⟨3, ![n, k, p]⟩ : Shape).size i)
    (r : Fin k) (j : Fin p) (g' : Fin n) (hg : g'.val = g) :
    View.ld X (Rect.unit (s := (⟨3, ![n, k, p]⟩ : Shape)) ![g, 0, 0] ![1, k, p] inb) (ix3 0 r j) = X (ix3 g' r j) := by
  refine congrArg X (funext fun i => Fin.ext ?_)
  match i with
  | 0 => simp [hg]
  | 1 => simp
  | 2 => simp

theorem quarter_val (c : Fin 4) (f : Fin 1024) (a : ℕ) (h : a = c.val * 1024) : (quarter c f).val = a + f.val := by
  subst h; rfl

theorem from_zero {n : ℕ} (f : Fin n) : f.val = 0 + f.val := (Nat.zero_add _).symm

end Cert.Spec

end
-- ==== Proof.Block1.lean ====
/- The first call's blocks: what the body leaves in each result's block, from the blocks it loads. -/
module

public import proofs.«01_k».proof.Proof.Gen.KernelIdeal.Value
public import proofs.«01_k».proof.Proof.Rows1
public import proofs.«01_k».proof.Proof.Loads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.Spec

/-! ## The scratch, as the body reads it -/

/-- Sixteen rows with 256 rows below them. -/
def tall (a : Vec Ideal S16x1024 .f32) (b : Vec Ideal S256x1024 .f32) : Vec Ideal S272x1024 .f32 := fun y =>
  if h : (y 0).val < 16 then a (ix2 ⟨(y 0).val, h⟩ (y 1)) else b (ix2 ⟨(y 0).val - 16, by have : (y 0).val < 272 := (y 0).isLt; omega⟩ (y 1))

theorem canon_tall (a : Vec Ideal S16x1024 .f32) (b : Vec Ideal S256x1024 .f32) :
    View.canon (Val := Elt Ideal) (e := .f32) [⟨Rect.unit ![16, 0] ![256, 1024] inb_S272x1024_S256x1024_16_0, b⟩,
      ⟨Rect.unit ![0, 0] ![16, 1024] inb_S272x1024_S16x1024_0_0, a⟩] = tall a b := by
  funext y
  have hy : (y 0).val < 272 := (y 0).isLt
  unfold tall
  split
  · rename_i h
    have e : y = (Rect.unit (s := S272x1024) ![0, 0] ![16, 1024] inb_S272x1024_S16x1024_0_0).emb (ix2 ⟨(y 0).val, h⟩ (y 1)) := by
      refine funext fun k => Fin.ext ?_
      match k with
      | 0 => simp
      | 1 => simp
    rw [View.canon_cons_of_not_mem]
    · conv_lhs => rw [e]
      exact View.canon_cons_emb _ _ _ _
    · intro hm
      have := ((Rect.mem_set_unit (inb := inb_S272x1024_S256x1024_16_0)).mp hm (0 : Fin 2)).1
      simp at this
      omega
  · rename_i h
    have e : y = (Rect.unit (s := S272x1024) ![16, 0] ![256, 1024] inb_S272x1024_S256x1024_16_0).emb (ix2 ⟨(y 0).val - 16, by omega⟩ (y 1)) := by
      refine funext fun k => Fin.ext ?_
      match k with
      | 0 => simp; try omega
      | 1 => simp
    conv_lhs => rw [e]
    exact View.canon_cons_emb _ _ _ _

theorem scratch_read (a : Vec Ideal S16x1024 .f32) (b : Vec Ideal S256x1024 .f32) (r : Rect S272x1024) :
    (View.whole cc0_scratch0).readCov (Val := Elt Ideal) [⟨Rect.unit ![16, 0] ![256, 1024] inb_S272x1024_S256x1024_16_0, b⟩,
      ⟨Rect.unit ![0, 0] ![16, 1024] inb_S272x1024_S16x1024_0_0, a⟩] r.toLoadRect = View.ld (tall a b) r := by
  rw [View.readCov_eq_canon']
  rw [← canon_tall]
  rfl

/-! ## The body's values, named -/

section Values

variable (i : grid0.Coords) (A : Vec Ideal S1x16x1024 .f32) (B : Vec Ideal S1x256x1024 .f32) (C : Vec Ideal S16x1024 .f32)
  (S : Vec Ideal S272x1024 .f32) (U : FVec Ideal S256x1024 .f32) (D : Vec Ideal S4x256x256 .bf16) (E G : Vec Ideal S1x1024 .f32) (H I : Vec Ideal S2x1024 .f32)
  (J : Vec Ideal S1024x4096 .bf16) (K : Vec Ideal S1x4096 .f32) (L : Vec Ideal S4096x1024 .bf16)
  (M : Vec Ideal S1x1024 .f32) (N O Q : Vec Ideal S1024x1024 .bf16)

def V44 : FVec Ideal S256x256 .f32 := k0_pay9 U (k0_pay7 i B C (View.ld S (Rect.unit ![15, 0] ![256, 256] inb_S272x1024_S256x256_15_0))) (k0_pay8 i) (View.ld D (Rect.unit ![0, 0, 0] ![1, 256, 256] inb_S4x256x256_S1x256x256_0_0_0))
def V66 : FVec Ideal S256x256 .f32 := k0_pay10 U (k0_pay4 i) (View.ld S (Rect.unit ![15, 256] ![256, 256] inb_S272x1024_S256x256_15_256)) (View.ld S (Rect.unit ![14, 256] ![256, 256] inb_S272x1024_S256x256_14_256)) (View.ld S (Rect.unit ![13, 256] ![256, 256] inb_S272x1024_S256x256_13_256)) (View.ld D (Rect.unit ![1, 0, 0] ![1, 256, 256] inb_S4x256x256_S1x256x256_1_0_0))
def V96 : FVec Ideal S256x256 .f32 := k0_pay12 U (k0_pay4 i) (k0_pay11 U (View.ld S (Rect.unit ![15, 512] ![256, 256] inb_S272x1024_S256x256_15_512)) (View.ld S (Rect.unit ![14, 512] ![256, 256] inb_S272x1024_S256x256_14_512))) (View.ld S (Rect.unit ![13, 512] ![256, 256] inb_S272x1024_S256x256_13_512)) (View.ld S (Rect.unit ![12, 512] ![256, 256] inb_S272x1024_S256x256_12_512)) (View.ld S (Rect.unit ![11, 512] ![256, 256] inb_S272x1024_S256x256_11_512)) (View.ld S (Rect.unit ![10, 512] ![256, 256] inb_S272x1024_S256x256_10_512)) (View.ld S (Rect.unit ![9, 512] ![256, 256] inb_S272x1024_S256x256_9_512)) (View.ld D (Rect.unit ![2, 0, 0] ![1, 256, 256] inb_S4x256x256_S1x256x256_2_0_0))
def V139 : FVec Ideal S256x256 .bf16 := k0_pay14 U (k0_pay4 i) (k0_pay13 U (View.ld S (Rect.unit ![15, 768] ![256, 256] inb_S272x1024_S256x256_15_768)) (View.ld S (Rect.unit ![14, 768] ![256, 256] inb_S272x1024_S256x256_14_768)) (View.ld S (Rect.unit ![13, 768] ![256, 256] inb_S272x1024_S256x256_13_768)) (View.ld S (Rect.unit ![12, 768] ![256, 256] inb_S272x1024_S256x256_12_768))) (View.ld S (Rect.unit ![11, 768] ![256, 256] inb_S272x1024_S256x256_11_768)) (View.ld S (Rect.unit ![10, 768] ![256, 256] inb_S272x1024_S256x256_10_768)) (View.ld S (Rect.unit ![9, 768] ![256, 256] inb_S272x1024_S256x256_9_768)) (View.ld S (Rect.unit ![8, 768] ![256, 256] inb_S272x1024_S256x256_8_768)) (View.ld S (Rect.unit ![7, 768] ![256, 256] inb_S272x1024_S256x256_7_768)) (View.ld S (Rect.unit ![6, 768] ![256, 256] inb_S272x1024_S256x256_6_768)) (View.ld S (Rect.unit ![5, 768] ![256, 256] inb_S272x1024_S256x256_5_768)) (View.ld S (Rect.unit ![4, 768] ![256, 256] inb_S272x1024_S256x256_4_768)) (View.ld S (Rect.unit ![3, 768] ![256, 256] inb_S272x1024_S256x256_3_768)) (View.ld S (Rect.unit ![2, 768] ![256, 256] inb_S272x1024_S256x256_2_768)) (View.ld S (Rect.unit ![1, 768] ![256, 256] inb_S272x1024_S256x256_1_768))
def V176 : FVec Ideal S256x1024 .f32 := k0_pay15 (k0_pay3 i B C) (V44 i B C (tall (k0_pay5 i A) (k0_pay6 i B C)) (k0_pay3 i B C) D) (V66 i (tall (k0_pay5 i A) (k0_pay6 i B C)) (k0_pay3 i B C) D) (V96 i (tall (k0_pay5 i A) (k0_pay6 i B C)) (k0_pay3 i B C) D) (V139 i (tall (k0_pay5 i A) (k0_pay6 i B C)) (k0_pay3 i B C)) (View.ld D (Rect.unit ![3, 0, 0] ![1, 256, 256] inb_S4x256x256_S1x256x256_3_0_0)) E G (View.ld H (Rect.unit ![0, 0] ![1, 1024] inb_S2x1024_S1x1024_0_0)) (View.ld I (Rect.unit ![0, 0] ![1, 1024] inb_S2x1024_S1x1024_0_0))
def V177 : FVec Ideal S256x1024 .bf16 := k0_pay16 (k0_pay3 i B C) (V44 i B C (tall (k0_pay5 i A) (k0_pay6 i B C)) (k0_pay3 i B C) D) (V66 i (tall (k0_pay5 i A) (k0_pay6 i B C)) (k0_pay3 i B C) D) (V96 i (tall (k0_pay5 i A) (k0_pay6 i B C)) (k0_pay3 i B C) D) (V139 i (tall (k0_pay5 i A) (k0_pay6 i B C)) (k0_pay3 i B C)) (View.ld D (Rect.unit ![3, 0, 0] ![1, 256, 256] inb_S4x256x256_S1x256x256_3_0_0)) E G (View.ld H (Rect.unit ![0, 0] ![1, 1024] inb_S2x1024_S1x1024_0_0)) (View.ld I (Rect.unit ![0, 0] ![1, 1024] inb_S2x1024_S1x1024_0_0))
def V180 : FVec Ideal S256x1024 .f32 := k0_pay17 (k0_pay3 i B C) (V44 i B C (tall (k0_pay5 i A) (k0_pay6 i B C)) (k0_pay3 i B C) D) (V66 i (tall (k0_pay5 i A) (k0_pay6 i B C)) (k0_pay3 i B C) D) (V96 i (tall (k0_pay5 i A) (k0_pay6 i B C)) (k0_pay3 i B C) D) (V139 i (tall (k0_pay5 i A) (k0_pay6 i B C)) (k0_pay3 i B C)) (View.ld D (Rect.unit ![3, 0, 0] ![1, 256, 256] inb_S4x256x256_S1x256x256_3_0_0)) E G (View.ld H (Rect.unit ![0, 0] ![1, 1024] inb_S2x1024_S1x1024_0_0)) (View.ld I (Rect.unit ![0, 0] ![1, 1024] inb_S2x1024_S1x1024_0_0)) (View.ld J (Rect.unit ![0, 0] ![1024, 1024] inb_S1024x4096_S1024x1024_0_0))

def V253 : FVec Ideal S256x1024 .f32 := k0_pay22 (V176 i A B C D E G H I) (V177 i A B C D E G H I) (k0_pay18 (V177 i A B C D E G H I) (V180 i A B C D E G H I J) (View.ld K (Rect.unit ![0, 0] ![1, 1024] inb_S1x4096_S1x1024_0_0)) (View.ld L (Rect.unit ![0, 0] ![1024, 1024] inb_S4096x1024_S1024x1024_0_0)) (View.ld J (Rect.unit ![0, 1024] ![1024, 1024] inb_S1024x4096_S1024x1024_0_1024)) (View.ld K (Rect.unit ![0, 1024] ![1, 1024] inb_S1x4096_S1x1024_0_1024)) (View.ld L (Rect.unit ![1024, 0] ![1024, 1024] inb_S4096x1024_S1024x1024_1024_0))) (k0_pay19 (V177 i A B C D E G H I) (View.ld J (Rect.unit ![0, 2048] ![1024, 1024] inb_S1024x4096_S1024x1024_0_2048)) (View.ld K (Rect.unit ![0, 2048] ![1, 1024] inb_S1x4096_S1x1024_0_2048))) (View.ld L (Rect.unit ![2048, 0] ![1024, 1024] inb_S4096x1024_S1024x1024_2048_0)) (View.ld J (Rect.unit ![0, 3072] ![1024, 1024] inb_S1024x4096_S1024x1024_0_3072)) (View.ld K (Rect.unit ![0, 3072] ![1, 1024] inb_S1x4096_S1x1024_0_3072)) (View.ld L (Rect.unit ![3072, 0] ![1024, 1024] inb_S4096x1024_S1024x1024_3072_0)) M
def V256 : FVec Ideal S256x1 .f32 := k0_pay23 (V176 i A B C D E G H I) (V177 i A B C D E G H I) (k0_pay18 (V177 i A B C D E G H I) (V180 i A B C D E G H I J) (View.ld K (Rect.unit ![0, 0] ![1, 1024] inb_S1x4096_S1x1024_0_0)) (View.ld L (Rect.unit ![0, 0] ![1024, 1024] inb_S4096x1024_S1024x1024_0_0)) (View.ld J (Rect.unit ![0, 1024] ![1024, 1024] inb_S1024x4096_S1024x1024_0_1024)) (View.ld K (Rect.unit ![0, 1024] ![1, 1024] inb_S1x4096_S1x1024_0_1024)) (View.ld L (Rect.unit ![1024, 0] ![1024, 1024] inb_S4096x1024_S1024x1024_1024_0))) (k0_pay19 (V177 i A B C D E G H I) (View.ld J (Rect.unit ![0, 2048] ![1024, 1024] inb_S1024x4096_S1024x1024_0_2048)) (View.ld K (Rect.unit ![0, 2048] ![1, 1024] inb_S1x4096_S1x1024_0_2048))) (View.ld L (Rect.unit ![2048, 0] ![1024, 1024] inb_S4096x1024_S1024x1024_2048_0)) (View.ld J (Rect.unit ![0, 3072] ![1024, 1024] inb_S1024x4096_S1024x1024_0_3072)) (View.ld K (Rect.unit ![0, 3072] ![1, 1024] inb_S1x4096_S1x1024_0_3072)) (View.ld L (Rect.unit ![3072, 0] ![1024, 1024] inb_S4096x1024_S1024x1024_3072_0)) M

/-- The layer's rows of a block. -/
def block : FVec Ideal S256x1024 .f32 :=
  k0_pay24 (k0_pay20 (View.ld H (Rect.unit ![1, 0] ![1, 1024] inb_S2x1024_S1x1024_1_0))) (k0_pay21 (View.ld I (Rect.unit ![1, 0] ![1, 1024] inb_S2x1024_S1x1024_1_0))) (V253 i A B C D E G H I J K L M) (V256 i A B C D E G H I J K L M) (Scalar.ofBits .f32 1149239296#32)

end Values

/-! ## What the body leaves in the results' blocks -/

variable (m : (ℓ : Loc nD τ sig) → Buf (Elt Ideal) ℓ)

/-- The layer's rows at a grid point. -/
def rowsAt (c : Dev nD) (t : Fin cfg0.N) : FVec Ideal S256x1024 .f32 :=
  block (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem after15 (c : Dev nD) (t : Fin cfg0.N) (r : Fin 256) (j : Fin 1024) :
    (dats m 0 c).after 15 t (ix3 0 r j) = rowsAt m c t (ix2 r j) := by
  rw [after0_15]
  simp only [outsAt0]
  frame_open
  simp (disch := decide) only [↓ View.readCov_skip, ↓ View.readCov_cons_toLoadRect, ↓ View.readCov_fill]
  frame_out
  repeat rw [scratch_read]
  unfold rowsAt block V253 V256 V176 V177 V180 V44 V66 V96 V139
  generalize iblk m c 0 t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  generalize tall (k0_pay5 i A) (k0_pay6 i B C) = S
  generalize k0_pay3 i B C = U
  exact pay25_row _ _ _ _ _ r j

theorem after16 (c : Dev nD) (t : Fin cfg0.N) (r : Fin 256) (j : Fin 1024) :
    (dats m 0 c).after 16 t (ix3 0 j r) = ∑ k, @HMul.hMul EReal EReal EReal _ (iblk m c 12 t (ix2 j k)) (rowsAt m c t (ix2 r k)) := by
  rw [after0_16]
  simp only [outsAt0]
  frame_open
  simp (disch := decide) only [↓ View.readCov_skip, ↓ View.readCov_cons_toLoadRect, ↓ View.readCov_fill]
  frame_out
  repeat rw [scratch_read]
  unfold rowsAt block V253 V256 V176 V177 V180 V44 V66 V96 V139
  generalize iblk m c 0 t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  generalize tall (k0_pay5 i A) (k0_pay6 i B C) = S
  generalize k0_pay3 i B C = U
  exact pay28_row _ _ _ _ _ _ j r

theorem after17 (c : Dev nD) (t : Fin cfg0.N) (r : Fin 256) (j : Fin 1024) :
    (dats m 0 c).after 17 t (ix3 0 j r) = ∑ k, @HMul.hMul EReal EReal EReal _ (iblk m c 13 t (ix2 j k)) (rowsAt m c t (ix2 r k)) := by
  rw [after0_17]
  simp only [outsAt0]
  frame_open
  simp (disch := decide) only [↓ View.readCov_skip, ↓ View.readCov_cons_toLoadRect, ↓ View.readCov_fill]
  frame_out
  repeat rw [scratch_read]
  unfold rowsAt block V253 V256 V176 V177 V180 V44 V66 V96 V139
  generalize iblk m c 0 t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  generalize tall (k0_pay5 i A) (k0_pay6 i B C) = S
  generalize k0_pay3 i B C = U
  exact pay31_row _ _ _ _ _ _ j r

theorem after18 (c : Dev nD) (t : Fin cfg0.N) (r : Fin 256) (j : Fin 1024) :
    (dats m 0 c).after 18 t (ix3 0 r j) = (∑ k, rowsAt m c t (ix2 r k) * iblk m c 14 t (ix2 k j)) * Ideal.ofBits FTy.f32 1040187392#32 := by
  rw [after0_18]
  simp only [outsAt0]
  frame_open
  simp (disch := decide) only [↓ View.readCov_skip, ↓ View.readCov_cons_toLoadRect, ↓ View.readCov_fill]
  frame_out
  repeat rw [scratch_read]
  unfold rowsAt block V253 V256 V176 V177 V180 V44 V66 V96 V139
  generalize iblk m c 0 t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  generalize tall (k0_pay5 i A) (k0_pay6 i B C) = S
  generalize k0_pay3 i B C = U
  exact pay2_row _ _ _ _ _ _ r j

/-! ## A block's row is the pooling layer's row -/

section Row

variable (i : grid0.Coords) (A : Vec Ideal S1x16x1024 .f32) (B : Vec Ideal S1x256x1024 .f32) (C : Vec Ideal S16x1024 .f32)
  (S : Vec Ideal S272x1024 .f32) (U : FVec Ideal S256x1024 .f32) (D : Vec Ideal S4x256x256 .bf16) (E G : Vec Ideal S1x1024 .f32) (H I : Vec Ideal S2x1024 .f32)
  (J : Vec Ideal S1024x4096 .bf16) (K : Vec Ideal S1x4096 .f32) (L : Vec Ideal S4096x1024 .bf16)
  (M : Vec Ideal S1x1024 .f32) (N O Q : Vec Ideal S1024x1024 .bf16)
variable (u : ℕ → Row 1024) (n : ℕ) (hn : n < 2 ^ 20) (r : Fin 256)

theorem colv (g : Fin 4) (c : Fin 256) (a : ℕ) (h : a = g.val * 256) : (col g c).val = a + c.val := by
  subst h; rfl

/-- The row's place, as the body counts it. -/
theorem place_word (i : grid0.Coords) (r : Fin 256) (n : ℕ) (hi : (i 1).val * 256 + r.val = n) :
    (k0_pay4 i : IVec S256x1 32) (ix2 r 0) = BitVec.ofNat 32 n := by
  subst hi
  pointwise [k0_pay4]
  simp [IntOp.addi, IntOp.muli, BitVec.ofNat_add, BitVec.ofNat_mul]
  rfl

/-- The window of the first group, as the body counts it. -/
theorem place_min (i : grid0.Coords) (r : Fin 256) :
    (k0_pay8 i : IVec S256x1 32) (ix2 r 0) = IntOp.minsi (IntOp.addi ((k0_pay4 i : IVec S256x1 32) (ix2 r 0)) 1#32) 2#32 := by
  pointwise [k0_pay8, k0_pay4]

variable (hi : (i 1).val * 256 + r.val = n) (hU : ∀ j, U (ix2 r j) = u n j)
  (hS : ∀ k : ℕ, 1 ≤ k → k < 16 → ∀ p : Fin 272, p.val + k = 16 + r.val → ∀ d, S (ix2 p d) = back u n k d)

include hn hi hU hS

theorem V44_row (hB : U = k0_pay3 i B C) (c : Fin 256) :
    V44 i B C S U D (ix2 r c) = mixed u n 0 (fun a b => D (ix3 0 a b)) c := by
  unfold V44
  refine (pay9_row u n hn r _ hU _ _ _ _ (place_word i r n hi) (place_min i r) (fun c => ?_) c).trans ?_
  · have e : k0_pay7 i B C (View.ld S (Rect.unit ![15, 0] ![256, 256] inb_S272x1024_S256x256_15_0)) (ix2 r c) = k0_pay3 i B C (ix2 r (col 0 c)) + (View.ld S (Rect.unit ![15, 0] ![256, 256] inb_S272x1024_S256x256_15_0)) (ix2 r c) := by
      have hc : (⟨c.val, by omega⟩ : Fin 1024) = col 0 c := Fin.ext (by simp [col])
      pointwise [k0_pay7]
      rw [hc]
    rw [e, ← hB, hU]
    exact congrArg (fun z : EReal => u n (col 0 c) + z) ((fun c => (piece S _ _ _ r c ⟨15 + r.val, by omega⟩ (col 0 c) rfl (colv 0 c _ rfl)).trans (hS 1 (by norm_num) (by norm_num) ⟨15 + r.val, by omega⟩ (by show 15 + r.val + 1 = 16 + r.val; omega) _)) c)
  · exact congrArg (fun w => mixed u n 0 w c) (funext fun a => funext fun b => slab D _ _ a b 0 rfl)

theorem V66_row (c : Fin 256) : V66 i S U D (ix2 r c) = mixed u n 1 (fun a b => D (ix3 1 a b)) c := by
  unfold V66
  refine (pay10_row u n hn r _ hU _ _ _ _ _ (place_word i r n hi) (fun c => (piece S _ _ _ r c ⟨15 + r.val, by omega⟩ (col 1 c) rfl (colv 1 c _ rfl)).trans (hS 1 (by norm_num) (by norm_num) ⟨15 + r.val, by omega⟩ (by show 15 + r.val + 1 = 16 + r.val; omega) _)) (fun c => (piece S _ _ _ r c ⟨14 + r.val, by omega⟩ (col 1 c) rfl (colv 1 c _ rfl)).trans (hS 2 (by norm_num) (by norm_num) ⟨14 + r.val, by omega⟩ (by show 14 + r.val + 2 = 16 + r.val; omega) _)) (fun c => (piece S _ _ _ r c ⟨13 + r.val, by omega⟩ (col 1 c) rfl (colv 1 c _ rfl)).trans (hS 3 (by norm_num) (by norm_num) ⟨13 + r.val, by omega⟩ (by show 13 + r.val + 3 = 16 + r.val; omega) _)) c).trans ?_
  exact congrArg (fun w => mixed u n 1 w c) (funext fun a => funext fun b => slab D _ _ a b 1 rfl)

theorem V96_row (c : Fin 256) : V96 i S U D (ix2 r c) = mixed u n 2 (fun a b => D (ix3 2 a b)) c := by
  unfold V96
  refine (pay12_row u n hn r _ hU _ _ _ _ _ _ _ _ _ (place_word i r n hi) (fun c => (piece S _ _ _ r c ⟨15 + r.val, by omega⟩ (col 2 c) rfl (colv 2 c _ rfl)).trans (hS 1 (by norm_num) (by norm_num) ⟨15 + r.val, by omega⟩ (by show 15 + r.val + 1 = 16 + r.val; omega) _)) (fun c => (piece S _ _ _ r c ⟨14 + r.val, by omega⟩ (col 2 c) rfl (colv 2 c _ rfl)).trans (hS 2 (by norm_num) (by norm_num) ⟨14 + r.val, by omega⟩ (by show 14 + r.val + 2 = 16 + r.val; omega) _)) (fun c => (piece S _ _ _ r c ⟨13 + r.val, by omega⟩ (col 2 c) rfl (colv 2 c _ rfl)).trans (hS 3 (by norm_num) (by norm_num) ⟨13 + r.val, by omega⟩ (by show 13 + r.val + 3 = 16 + r.val; omega) _)) (fun c => (piece S _ _ _ r c ⟨12 + r.val, by omega⟩ (col 2 c) rfl (colv 2 c _ rfl)).trans (hS 4 (by norm_num) (by norm_num) ⟨12 + r.val, by omega⟩ (by show 12 + r.val + 4 = 16 + r.val; omega) _)) (fun c => (piece S _ _ _ r c ⟨11 + r.val, by omega⟩ (col 2 c) rfl (colv 2 c _ rfl)).trans (hS 5 (by norm_num) (by norm_num) ⟨11 + r.val, by omega⟩ (by show 11 + r.val + 5 = 16 + r.val; omega) _)) (fun c => (piece S _ _ _ r c ⟨10 + r.val, by omega⟩ (col 2 c) rfl (colv 2 c _ rfl)).trans (hS 6 (by norm_num) (by norm_num) ⟨10 + r.val, by omega⟩ (by show 10 + r.val + 6 = 16 + r.val; omega) _)) (fun c => (piece S _ _ _ r c ⟨9 + r.val, by omega⟩ (col 2 c) rfl (colv 2 c _ rfl)).trans (hS 7 (by norm_num) (by norm_num) ⟨9 + r.val, by omega⟩ (by show 9 + r.val + 7 = 16 + r.val; omega) _)) c).trans ?_
  exact congrArg (fun w => mixed u n 2 w c) (funext fun a => funext fun b => slab D _ _ a b 2 rfl)

theorem V139_row (c : Fin 256) : V139 i S U (ix2 r c) = pooled u n 3 c := by
  unfold V139
  exact pay14_row u n hn r _ hU _ _ _ _ _ _ _ _ _ _ _ _ _ _ _ _  (place_word i r n hi) (fun c => (piece S _ _ _ r c ⟨15 + r.val, by omega⟩ (col 3 c) rfl (colv 3 c _ rfl)).trans (hS 1 (by norm_num) (by norm_num) ⟨15 + r.val, by omega⟩ (by show 15 + r.val + 1 = 16 + r.val; omega) _)) (fun c => (piece S _ _ _ r c ⟨14 + r.val, by omega⟩ (col 3 c) rfl (colv 3 c _ rfl)).trans (hS 2 (by norm_num) (by norm_num) ⟨14 + r.val, by omega⟩ (by show 14 + r.val + 2 = 16 + r.val; omega) _)) (fun c => (piece S _ _ _ r c ⟨13 + r.val, by omega⟩ (col 3 c) rfl (colv 3 c _ rfl)).trans (hS 3 (by norm_num) (by norm_num) ⟨13 + r.val, by omega⟩ (by show 13 + r.val + 3 = 16 + r.val; omega) _)) (fun c => (piece S _ _ _ r c ⟨12 + r.val, by omega⟩ (col 3 c) rfl (colv 3 c _ rfl)).trans (hS 4 (by norm_num) (by norm_num) ⟨12 + r.val, by omega⟩ (by show 12 + r.val + 4 = 16 + r.val; omega) _)) (fun c => (piece S _ _ _ r c ⟨11 + r.val, by omega⟩ (col 3 c) rfl (colv 3 c _ rfl)).trans (hS 5 (by norm_num) (by norm_num) ⟨11 + r.val, by omega⟩ (by show 11 + r.val + 5 = 16 + r.val; omega) _)) (fun c => (piece S _ _ _ r c ⟨10 + r.val, by omega⟩ (col 3 c) rfl (colv 3 c _ rfl)).trans (hS 6 (by norm_num) (by norm_num) ⟨10 + r.val, by omega⟩ (by show 10 + r.val + 6 = 16 + r.val; omega) _)) (fun c => (piece S _ _ _ r c ⟨9 + r.val, by omega⟩ (col 3 c) rfl (colv 3 c _ rfl)).trans (hS 7 (by norm_num) (by norm_num) ⟨9 + r.val, by omega⟩ (by show 9 + r.val + 7 = 16 + r.val; omega) _)) (fun c => (piece S _ _ _ r c ⟨8 + r.val, by omega⟩ (col 3 c) rfl (colv 3 c _ rfl)).trans (hS 8 (by norm_num) (by norm_num) ⟨8 + r.val, by omega⟩ (by show 8 + r.val + 8 = 16 + r.val; omega) _)) (fun c => (piece S _ _ _ r c ⟨7 + r.val, by omega⟩ (col 3 c) rfl (colv 3 c _ rfl)).trans (hS 9 (by norm_num) (by norm_num) ⟨7 + r.val, by omega⟩ (by show 7 + r.val + 9 = 16 + r.val; omega) _)) (fun c => (piece S _ _ _ r c ⟨6 + r.val, by omega⟩ (col 3 c) rfl (colv 3 c _ rfl)).trans (hS 10 (by norm_num) (by norm_num) ⟨6 + r.val, by omega⟩ (by show 6 + r.val + 10 = 16 + r.val; omega) _)) (fun c => (piece S _ _ _ r c ⟨5 + r.val, by omega⟩ (col 3 c) rfl (colv 3 c _ rfl)).trans (hS 11 (by norm_num) (by norm_num) ⟨5 + r.val, by omega⟩ (by show 5 + r.val + 11 = 16 + r.val; omega) _)) (fun c => (piece S _ _ _ r c ⟨4 + r.val, by omega⟩ (col 3 c) rfl (colv 3 c _ rfl)).trans (hS 12 (by norm_num) (by norm_num) ⟨4 + r.val, by omega⟩ (by show 4 + r.val + 12 = 16 + r.val; omega) _)) (fun c => (piece S _ _ _ r c ⟨3 + r.val, by omega⟩ (col 3 c) rfl (colv 3 c _ rfl)).trans (hS 13 (by norm_num) (by norm_num) ⟨3 + r.val, by omega⟩ (by show 3 + r.val + 13 = 16 + r.val; omega) _)) (fun c => (piece S _ _ _ r c ⟨2 + r.val, by omega⟩ (col 3 c) rfl (colv 3 c _ rfl)).trans (hS 14 (by norm_num) (by norm_num) ⟨2 + r.val, by omega⟩ (by show 2 + r.val + 14 = 16 + r.val; omega) _)) (fun c => (piece S _ _ _ r c ⟨1 + r.val, by omega⟩ (col 3 c) rfl (colv 3 c _ rfl)).trans (hS 15 (by norm_num) (by norm_num) ⟨1 + r.val, by omega⟩ (by show 1 + r.val + 15 = 16 + r.val; omega) _)) c

omit hS hU

/-- The mixer's sub-layer. -/
theorem V176_row (hU : ∀ j, k0_pay3 i B C (ix2 r j) = u n j)
    (hS : ∀ k : ℕ, 1 ≤ k → k < 16 → ∀ p : Fin 272, p.val + k = 16 + r.val → ∀ d, (tall (k0_pay5 i A) (k0_pay6 i B C)) (ix2 p d) = back u n k d) (j : Fin 1024) :
    V176 i A B C D E G H I (ix2 r j)
      = inner (u n) (mixer u n (fun g a b => D (ix3 g a b)) (fun k => E (ix2 0 k)) (fun k => G (ix2 0 k)))
          (fun k => H (ix2 0 k)) (fun k => I (ix2 0 k)) j := by
  unfold V176
  have g0 : ∀ k, (View.ld H (Rect.unit ![0, 0] ![1, 1024] inb_S2x1024_S1x1024_0_0)) (ix2 0 k) = H (ix2 0 k) := fun k => piece _ _ _ _ _ _ _ _ (from_zero 0) (from_zero k)
  have i0 : ∀ k, (View.ld I (Rect.unit ![0, 0] ![1, 1024] inb_S2x1024_S1x1024_0_0)) (ix2 0 k) = I (ix2 0 k) := fun k => piece _ _ _ _ _ _ _ _ (from_zero 0) (from_zero k)
  refine (pay15_row u n (fun g a b => D (ix3 g a b)) r _ _ _ _ _ _ _ _ _ _ hU
    (V44_row i B C _ _ D u n hn r hi hU hS rfl) (V66_row i _ _ D u n hn r hi hU hS) (V96_row i _ _ D u n hn r hi hU hS)
    (V139_row i _ _ u n hn r hi hU hS) (fun a b => slab D _ _ a b 3 rfl) j).trans ?_
  simp only [g0, i0]

/-- The layer's row. -/
theorem block_row (hU : ∀ j, k0_pay3 i B C (ix2 r j) = u n j)
    (hS : ∀ k : ℕ, 1 ≤ k → k < 16 → ∀ p : Fin 272, p.val + k = 16 + r.val → ∀ d, (tall (k0_pay5 i A) (k0_pay6 i B C)) (ix2 p d) = back u n k d) (j : Fin 1024) :
    block i A B C D E G H I J K L M (ix2 r j)
      = layer (u n) (mixer u n (fun g a b => D (ix3 g a b)) (fun k => E (ix2 0 k)) (fun k => G (ix2 0 k)))
          (fun k => H (ix2 0 k)) (fun k => I (ix2 0 k)) (fun k => H (ix2 1 k)) (fun k => I (ix2 1 k))
          (fun k f => J (ix2 k f)) (fun f => K (ix2 0 f)) (fun f k => L (ix2 f k)) (fun k => M (ix2 0 k)) j := by
  unfold block V253 V256
  have g1 : ∀ k, (View.ld H (Rect.unit ![1, 0] ![1, 1024] inb_S2x1024_S1x1024_1_0)) (ix2 0 k) = H (ix2 1 k) := fun k => piece _ _ _ _ _ _ _ _ rfl (from_zero k)
  have i1 : ∀ k, (View.ld I (Rect.unit ![1, 0] ![1, 1024] inb_S2x1024_S1x1024_1_0)) (ix2 0 k) = I (ix2 1 k) := fun k => piece _ _ _ _ _ _ _ _ rfl (from_zero k)
  have h176 := V176_row i A B C D E G H I u n hn r hi hU hS
  have h177 : ∀ k, V177 i A B C D E G H I (ix2 r k) = V176 i A B C D E G H I (ix2 r k) := fun k => by
    unfold V177 V176
    pointwise [k0_pay16]
  have h180 : ∀ f, V180 i A B C D E G H I J (ix2 r f) = ∑ k, V177 i A B C D E G H I (ix2 r k) * (View.ld J (Rect.unit ![0, 0] ![1024, 1024] inb_S1024x4096_S1024x1024_0_0)) (ix2 k f) := fun f => by
    unfold V180 V177
    pointwise [k0_pay17]
  refine (body_row _ _ _ _ _ _ _ _ _ _ _ _ _ _ _ M _ _ _ rfl r _ (fun k f => J (ix2 k f))
    (fun f => K (ix2 0 f)) (fun f k => L (ix2 f k)) h176 h177 h180
    (fun k f => piece J _ _ _ _ _ _ _ (from_zero k) (quarter_val 0 f _ rfl)) (fun k f => piece J _ _ _ _ _ _ _ (from_zero k) (quarter_val 1 f _ rfl)) (fun k f => piece J _ _ _ _ _ _ _ (from_zero k) (quarter_val 2 f _ rfl)) (fun k f => piece J _ _ _ _ _ _ _ (from_zero k) (quarter_val 3 f _ rfl))
    (fun f => piece K _ _ _ _ _ _ _ (from_zero 0) (quarter_val 0 f _ rfl)) (fun f => piece K _ _ _ _ _ _ _ (from_zero 0) (quarter_val 1 f _ rfl)) (fun f => piece K _ _ _ _ _ _ _ (from_zero 0) (quarter_val 2 f _ rfl)) (fun f => piece K _ _ _ _ _ _ _ (from_zero 0) (quarter_val 3 f _ rfl))
    (fun f k => piece L _ _ _ _ _ _ _ (quarter_val 0 f _ rfl) (from_zero k)) (fun f k => piece L _ _ _ _ _ _ _ (quarter_val 1 f _ rfl) (from_zero k)) (fun f k => piece L _ _ _ _ _ _ _ (quarter_val 2 f _ rfl) (from_zero k)) (fun f k => piece L _ _ _ _ _ _ _ (quarter_val 3 f _ rfl) (from_zero k)) j).trans ?_
  simp only [g1, i1]
  rfl

end Row

end Cert.KernelIdeal.Rows

end
-- ==== Proof.Rows1b.lean ====
/- The first call's rows: what the body takes from its two windows of the prompt and from the meta tokens is the stream. -/
module

public import proofs.«01_k».proof.Proof.Block1

@[expose] public section

set_option maxRecDepth 16384

noncomputable section

open Idealize.ShloMosaic Idealize.ShloMosaic.TcCoe Idealize.SL.Sem

namespace Cert.KernelIdeal.Rows

open Cert.KernelIdeal Cert.KernelIdeal.Gen Cert.Spec

theorem word_eq {n k : ℕ} (hn : n < 2 ^ 20) (hk : k < 2 ^ 20) {φ : Type} (a b : φ) :
    Scalar.select (Scalar.cmpi .eq (BitVec.ofNat 32 n) (BitVec.ofNat 32 k)) a b = if n = k then a else b := by
  by_cases h : n = k
  · subst h
    rw [if_pos rfl]
    simp [Scalar.select, Scalar.cmpi, IntOp.cmpi]
  · rw [if_neg h]
    have h' : BitVec.ofNat 32 n ≠ BitVec.ofNat 32 k := fun e => h (by
      have := congrArg BitVec.toNat e
      simp only [BitVec.toNat_ofNat] at this
      omega)
    simp [Scalar.select, Scalar.cmpi, IntOp.cmpi, beq_eq_false_iff_ne.mpr h']

variable (i : grid0.Coords) (A : Vec Ideal S1x16x1024 .f32) (B : Vec Ideal S1x256x1024 .f32) (C : Vec Ideal S16x1024 .f32)
  (lead : Fin 16 → Row 1024) (x : Fin 8192 → Row 1024)

section

variable (hC : ∀ n j, C (ix2 n j) = lead n j)
  (hB : ∀ (q : Fin 256) (l : Fin 8192) (j : Fin 1024), l.val = min ((i 1).val * 256 - 16) 7936 + q.val → B (ix3 0 q j) = x l j)

include hC hB

/-- A block's own rows. -/
theorem cur_row (r : Fin 256) (j : Fin 1024) :
    k0_pay3 i B C (ix2 r j) = stream lead x ((i 1).val * 256 + r.val) j := by
  have hi : (i 1).val < 33 := (i 1).isLt
  have hr := r.isLt
  pointwise [k0_pay3]
  rw [word_eq (k := 0) (by omega) (by norm_num), word_eq (k := 32) (by omega) (by norm_num)]
  unfold stream
  by_cases h0 : (i 1).val = 0
  · rw [if_pos h0]
    by_cases h : r.val < 16
    · rw [dif_pos h, dif_pos (show (i 1).val * 256 + r.val < 16 by omega), hC]
      exact congrArg (fun n => lead n j) (Fin.ext (by show r.val = (i 1).val * 256 + r.val; omega))
    · rw [dif_neg h, dif_neg (show ¬ (i 1).val * 256 + r.val < 16 by omega), dif_pos (show (i 1).val * 256 + r.val - 16 < 8192 by omega)]
      exact hB _ _ _ (by show (i 1).val * 256 + r.val - 16 = min ((i 1).val * 256 - 16) 7936 + (r.val - 16); omega)
  · rw [if_neg h0, dif_neg (show ¬ (i 1).val * 256 + r.val < 16 by omega)]
    by_cases h32 : (i 1).val = 32
    · rw [if_pos h32]
      by_cases h : r.val < 16
      · rw [dif_pos h, dif_pos (show (i 1).val * 256 + r.val - 16 < 8192 by omega)]
        exact hB _ _ _ (by show (i 1).val * 256 + r.val - 16 = min ((i 1).val * 256 - 16) 7936 + (240 + r.val); omega)
      · rw [dif_neg h, dif_neg (show ¬ (i 1).val * 256 + r.val - 16 < 8192 by omega)]
    · rw [if_neg h32, dif_pos (show (i 1).val * 256 + r.val - 16 < 8192 by omega)]
      exact hB _ _ _ (by show (i 1).val * 256 + r.val - 16 = min ((i 1).val * 256 - 16) 7936 + r.val; omega)

variable (hA : ∀ (q : Fin 16) (l : Fin 8192) (j : Fin 1024), l.val = min ((i 1).val * 256 - 32) 8176 + q.val → A (ix3 0 q j) = x l j)

include hA

/-- The scratch's rows: the sixteen before the block, none before the first, and the block's. -/
theorem scratch_row (r : Fin 256) (k : ℕ) (hk : 1 ≤ k) (hk' : k < 16) (p : Fin 272) (hp : p.val + k = 16 + r.val) (d : Fin 1024) :
    tall (k0_pay5 i A) (k0_pay6 i B C) (ix2 p d) = back (stream lead x) ((i 1).val * 256 + r.val) k d := by
  have hi : (i 1).val < 33 := (i 1).isLt
  have hr := r.isLt
  have hp' := p.isLt
  unfold tall back
  dsimp only
  by_cases h : p.val < 16
  · refine (dif_pos h).trans ?_
    have e : k0_pay5 i A (ix2 ⟨p.val, h⟩ d) = if (i 1).val = 0 then (0 : EReal) else A (ix3 0 ⟨p.val, h⟩ d) := by
      pointwise [k0_pay5]
      rw [word_eq (k := 0) (by omega) (by norm_num)]
    refine e.trans ?_
    by_cases h0 : (i 1).val = 0
    · rw [if_pos h0, if_neg (by omega)]
    · rw [if_neg h0, if_pos (by omega)]
      unfold stream
      rw [dif_neg (by omega), dif_pos (by omega)]
      exact hA _ _ _ (by show (i 1).val * 256 + r.val - k - 16 = min ((i 1).val * 256 - 32) 8176 + p.val; omega)
  · refine (dif_neg h).trans ?_
    have e : k0_pay6 i B C (ix2 ⟨p.val - 16, by omega⟩ d) = k0_pay3 i B C (ix2 ⟨p.val - 16, by omega⟩ d) := by
      pointwise [k0_pay6]
    refine e.trans ((cur_row i B C lead x hC hB _ _).trans ?_)
    rw [if_pos (by omega)]
    exact congrArg (fun n => stream lead x n d) (by show (i 1).val * 256 + (p.val - 16) = (i 1).val * 256 + r.val - k; omega)

end

end Cert.KernelIdeal.Rows

end
-- ==== Proof.Ref1.lean ====
/- The first call's reference, a row at a time. -/
module

public import proofs.«01_k».proof.Proof.RefPool

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Spec

variable (x0 : (⟨S2x8192x1024, .f32⟩ : BufTy).Contents (Elt Ideal)) (x1 : (⟨S16x1024, .f32⟩ : BufTy).Contents (Elt Ideal))
  (x2 x3 : (⟨S2x2x1024, .f32⟩ : BufTy).Contents (Elt Ideal)) (x4 : (⟨S1x4x256x256, .f32⟩ : BufTy).Contents (Elt Ideal))
  (x5 x6 : (⟨S1x1024, .f32⟩ : BufTy).Contents (Elt Ideal)) (x7 : (⟨S2x1024x4096, .f32⟩ : BufTy).Contents (Elt Ideal))
  (x8 : (⟨S2x4096, .f32⟩ : BufTy).Contents (Elt Ideal)) (x9 : (⟨S2x4096x1024, .f32⟩ : BufTy).Contents (Elt Ideal))
  (x10 : (⟨S2x1024, .f32⟩ : BufTy).Contents (Elt Ideal)) (x11 : (⟨S1024x2048, .f32⟩ : BufTy).Contents (Elt Ideal))
  (x12 : (⟨S1x1024x1024, .f32⟩ : BufTy).Contents (Elt Ideal))

variable (hx : ∀ b, Spec.Real (rows x0 x1 b))

/-- The mixer's parameters, for the rows of the specification. -/
abbrev mixed_row (b : Fin 2) (l : ℕ) : Row 1024 :=
  mixer (rows x0 x1 b) l (fun g x c => x4 (ix4 0 g x c)) (fun k => x5 (ix2 0 k)) (fun k => x6 (ix2 0 k))

include hx

theorem stack_row (b : Fin 2) (l : Fin 8208) (g : Fin 4) (c : Fin 256) :
    val_main_v136 x0 x1 (ix4 b l g c) = pooled (rows x0 x1 b) l.val g c := by
  have e0 := group0 x0 x1 hx b l c
  have e1 := group1 x0 x1 hx b l c
  have e2 := group2 x0 x1 hx b l c
  have e3 := group3 x0 x1 hx b l c
  fin_cases g
  · pointwise [val_main_v132, val_main_v133, val_main_v134, val_main_v135, val_main_v136]
    exact e0
  · pointwise [val_main_v132, val_main_v133, val_main_v134, val_main_v135, val_main_v136]
    exact e1
  · pointwise [val_main_v132, val_main_v133, val_main_v134, val_main_v135, val_main_v136]
    exact e2
  · pointwise [val_main_v132, val_main_v133, val_main_v134, val_main_v135, val_main_v136]
    exact e3

theorem product_row (b : Fin 2) (l : Fin 8208) (g : Fin 4) (d : Fin 256) :
    val_main_v138 x0 x1 x4 (ix4 b l g d) = mixed (rows x0 x1 b) l.val g (fun x c => x4 (ix4 0 g x c)) d := by
  pointwise [val_main_v3, val_main_v137, val_main_v138]
  simp only [stack_row x0 x1 hx]
  exact Finset.sum_congr rfl fun x _ => mul_comm (G := EReal) _ _

theorem mix_row (b : Fin 2) (l : Fin 8208) (j : Fin 1024) :
    val_main_v145 x0 x1 x4 x5 x6 (ix3 b l j) = mixed_row x0 x1 x4 x5 x6 b l.val j := by
  have e : val_main_v139 x0 x1 x4 (ix3 b l j)
      = val_main_v138 x0 x1 x4 (ix4 b l ⟨j.val / 256, by omega⟩ ⟨j.val % 256, by omega⟩) := by
    rw [val_main_v139_apply]
    refine congrArg _ (funext fun a => Fin.ext ?_)
    have := b.isLt; have := l.isLt; have := j.isLt
    match a with
    | 0 => simp; omega
    | 1 => simp; omega
    | 2 => simp; omega
    | 3 => simp; try omega
  have e' := e.trans (product_row x0 x1 x4 hx b l _ _)
  pointwise [val_main_v4, val_main_v5, val_main_v140, val_main_v141, val_main_v142, val_main_v143, val_main_v144, val_main_v145]
  rw [e']
  rfl

/-- The first sub-layer's row. -/
theorem first_row (b : Fin 2) (l : Fin 8208) (j : Fin 1024) :
    val_main_v174 x0 x1 x2 x3 x4 x5 x6 (ix3 b l j)
      = inner (rows x0 x1 b l.val) (mixed_row x0 x1 x4 x5 x6 b l.val) (fun k => x2 (ix3 0 0 k)) (fun k => x3 (ix3 0 0 k)) j := by
  pointwise [val_main_cst_32, val_main_v146, val_main_v147, val_main_v148, val_main_v149, val_main_v150, val_main_v151, val_main_v152, val_main_cst_33, val_main_v153, val_main_v154, val_main_cst_34, val_main_v155, val_main_v156, val_main_v157, val_main_v158, val_main_v159, val_main_cst_35, val_main_v160, val_main_v161, val_main_cst_36, val_main_v162, val_main_v163, val_main_cst_37, val_main_v164, val_main_v165, val_main_v166, val_main_v167, val_main_v168, val_main_v169, val_main_v170, val_main_v171, val_main_v172, val_main_v173, val_main_v174]
  simp only [mix_row x0 x1 x4 x5 x6 hx, stream_row]
  rfl

/-- The layer's row. -/
abbrev layered (b : Fin 2) (l : ℕ) : Row 1024 :=
  layer (rows x0 x1 b l) (mixed_row x0 x1 x4 x5 x6 b l) (fun k => x2 (ix3 0 0 k)) (fun k => x3 (ix3 0 0 k))
    (fun k => x2 (ix3 0 1 k)) (fun k => x3 (ix3 0 1 k)) (fun k f => x7 (ix3 0 k f)) (fun f => x8 (ix2 0 f))
    (fun f k => x9 (ix3 0 f k)) (fun k => x10 (ix2 0 k))

theorem layer_row (b : Fin 2) (l : Fin 8208) (j : Fin 1024) :
    val_main_v221 x0 x1 x2 x3 x4 x5 x6 x7 x8 x9 x10 (ix3 b l j) = layered x0 x1 x2 x3 x4 x5 x6 x7 x8 x9 x10 b l.val j := by
  pointwise [val_main_cst_38, val_main_v175, val_main_v176, val_main_v177, val_main_v178, val_main_v179, val_main_v180, val_main_v181, val_main_v182, val_main_v183, val_main_v184, val_main_v185, val_main_v186, val_main_v187, val_main_v188, val_main_call1_cst, val_main_call1_v0, val_main_v189, val_main_v190, val_main_v191, val_main_v192, val_main_v193, val_main_v194, val_main_v195, val_main_v196, val_main_v197, val_main_v198, val_main_v199, val_main_cst_39, val_main_v200, val_main_v201, val_main_cst_40, val_main_v202, val_main_v203, val_main_v204, val_main_v205, val_main_v206, val_main_cst_41, val_main_v207, val_main_v208, val_main_cst_42, val_main_v209, val_main_v210, val_main_cst_43, val_main_v211, val_main_v212, val_main_v213, val_main_v214, val_main_v215, val_main_v216, val_main_v217, val_main_v218, val_main_v219, val_main_v220, val_main_v221]
  simp only [first_row x0 x1 x2 x3 x4 x5 x6 hx]
  rfl

theorem keys_row (b : Fin 2) (j : Fin 1024) (l : Fin 8208) :
    val_main_v224 x0 x1 x2 x3 x4 x5 x6 x7 x8 x9 x10 x11 (ix3 b j l)
      = ∑ k : Fin 1024, layered x0 x1 x2 x3 x4 x5 x6 x7 x8 x9 x10 b l.val k * x11 (ix2 k ⟨j.val, by omega⟩) := by
  pointwise [val_main_v222, val_main_v223, val_main_v224]
  simp only [layer_row x0 x1 x2 x3 x4 x5 x6 x7 x8 x9 x10 hx]

theorem values_row (b : Fin 2) (j : Fin 1024) (l : Fin 8208) :
    val_main_v226 x0 x1 x2 x3 x4 x5 x6 x7 x8 x9 x10 x11 (ix3 b j l)
      = ∑ k : Fin 1024, layered x0 x1 x2 x3 x4 x5 x6 x7 x8 x9 x10 b l.val k * x11 (ix2 k ⟨1024 + j.val, by omega⟩) := by
  pointwise [val_main_v222, val_main_v225, val_main_v226]
  simp only [layer_row x0 x1 x2 x3 x4 x5 x6 x7 x8 x9 x10 hx]

theorem queries_row (b : Fin 2) (l : Fin 8448) (hl : l.val < 8208) (j : Fin 1024) :
    val_main_v236 x0 x1 x2 x3 x4 x5 x6 x7 x8 x9 x10 x12 (ix3 b l j)
      = (∑ k : Fin 1024, layered x0 x1 x2 x3 x4 x5 x6 x7 x8 x9 x10 b l.val k * x12 (ix3 0 k j))
          * Ideal.ofBits FTy.f32 1040187392#32 := by
  have e := layer_row x0 x1 x2 x3 x4 x5 x6 x7 x8 x9 x10 hx b ⟨l.val, hl⟩
  pointwise [val_main_v227, val_main_v228, val_main_cst_44, val_main_v229, val_main_v230, val_main_c_46, val_main_call3_v0, val_main_v235, val_main_v236]
  rw [dif_pos hl]
  simp only [e]

theorem hidden_row (b : Fin 2) (l : Fin 8448) (hl : l.val < 8208) (j : Fin 1024) :
    val_main_v234 x0 x1 x2 x3 x4 x5 x6 x7 x8 x9 x10 (ix3 b l j)
      = layered x0 x1 x2 x3 x4 x5 x6 x7 x8 x9 x10 b l.val j := by
  have e := layer_row x0 x1 x2 x3 x4 x5 x6 x7 x8 x9 x10 hx b ⟨l.val, hl⟩
  pointwise [val_main_c_45, val_main_call2_v0, val_main_v234]
  rw [dif_pos hl]
  exact e j

omit hx

theorem last_row (b : Fin 2) (l : Fin 15) (j : Fin 1024) :
    val_main_v238 x0 x1 (ix4 0 b l j) = x0 (ix3 b ⟨8177 + l.val, by omega⟩ j) := by
  pointwise [val_main_v231, val_main_v232, val_main_v233, val_main_v237, val_main_v238]
  rw [dif_neg (by omega)]
  exact congrArg (fun i => x0 (ix3 b i j)) (Fin.ext (by show 8193 + l.val - 16 = 8177 + l.val; omega))

end Cert.ReferenceIdeal.Rows

end
-- ==== Proof.Value1.lean ====
/- The first call's results, block by block. -/
module

public import proofs.«01_k».proof.Proof.Operands1
public import proofs.«01_k».proof.Proof.Rows1b
public import proofs.«01_k».proof.Proof.Ref1

@[expose] public section

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.Spec

variable (m : (ℓ : Loc nD τ sig) → Buf (Elt Ideal) ℓ)

/-- The layer's rows over the call's arguments. -/
abbrev layeredAt (c : Dev nD) (b : Fin 2) (l : ℕ) : Row 1024 := Cert.ReferenceIdeal.Rows.layered (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b l

/-- The layer's rows at a grid point are the sequence's, from the block's first position. -/
theorem rowsAt_row (c : Dev nD) (t : Fin cfg0.N) (r : Fin 256) (j : Fin 1024) (b : Fin 2) (hb : b.val = t.val / 33) (n : ℕ)
    (hn : n = t.val % 33 * 256 + r.val) : rowsAt m c t (ix2 r j) = layeredAt m c b n j := by
  have hi : (grid0.coords t 1).val = t.val % 33 := (idx t).2.2.2.2.2.2.2.2.2.2.2.2.2.2.2.2.2.2.2
  have hr := r.isLt
  have ht : t.val < 66 := t.isLt
  have hC : ∀ n j, iblk m c 2 t (ix2 n j) = m ((c : Thread nD τ).loc main_arg1) (ix2 n j) :=
    fun n j => (congrFun (whole2 m c t) _).trans (host_meta m c n j)
  have hA : ∀ (q : Fin 16) (l : Fin 8192) (j : Fin 1024), l.val = min ((grid0.coords t 1).val * 256 - 32) 8176 + q.val →
      iblk m c 0 t (ix3 0 q j) = m ((c : Thread nD τ).loc main_arg0) (ix3 b l j) := fun q l j hl => by
    rw [hi] at hl
    exact (prev_block m c t q j b l hb hl).trans (host_x m c b l j)
  have hB : ∀ (q : Fin 256) (l : Fin 8192) (j : Fin 1024), l.val = min ((grid0.coords t 1).val * 256 - 16) 7936 + q.val →
      iblk m c 1 t (ix3 0 q j) = m ((c : Thread nD τ).loc main_arg0) (ix3 b l j) := fun q l j hl => by
    rw [hi] at hl
    exact (cur_block m c t q j b l hb hl).trans (host_x m c b l j)
  have hn' : (grid0.coords t 1).val * 256 + r.val = n := by rw [hi, hn]
  unfold rowsAt
  refine (block_row _ _ _ _ _ _ _ _ _ _ _ _ _ (Cert.ReferenceIdeal.Rows.rows (m ((c : Thread nD τ).loc main_arg0)) (m ((c : Thread nD τ).loc main_arg1)) b) n (by omega) r hn'
    (fun j => by rw [← hn']; exact cur_row _ _ _ _ _ hC hB r j)
    (fun k h1 h2 p hp d => by rw [← hn']; exact scratch_row _ _ _ _ _ _ hC hB hA r k h1 h2 p hp d) j).trans ?_
  have hmix : ∀ k, mixer (Cert.ReferenceIdeal.Rows.rows (m ((c : Thread nD τ).loc main_arg0)) (m ((c : Thread nD τ).loc main_arg1)) b) n
        (fun g a d => iblk m c 3 t (ix3 g a d)) (fun k => iblk m c 4 t (ix2 0 k)) (fun k => iblk m c 5 t (ix2 0 k)) k
      = Cert.ReferenceIdeal.Rows.mixed_row (m ((c : Thread nD τ).loc main_arg0)) (m ((c : Thread nD τ).loc main_arg1)) (m ((c : Thread nD τ).loc main_arg4)) (m ((c : Thread nD τ).loc main_arg5)) (m ((c : Thread nD τ).loc main_arg6)) b n k := fun k => by
    have e3 : (fun g a d => iblk m c 3 t (ix3 g a d) : Fin 4 → Fin 256 → Fin 256 → EReal) = fun g a d => m ((c : Thread nD τ).loc main_arg4) (ix4 0 g a d) :=
      funext fun g => funext fun a => funext fun d => (congrFun (whole3 m c t) _).trans (host_pool m c g a d)
    have e4 : (fun k => iblk m c 4 t (ix2 0 k) : Row 1024) = fun k => m ((c : Thread nD τ).loc main_arg5) (ix2 0 k) :=
      funext fun k => (congrFun (whole4 m c t) _).trans (host_b0 m c k)
    have e5 : (fun k => iblk m c 5 t (ix2 0 k) : Row 1024) = fun k => m ((c : Thread nD τ).loc main_arg6) (ix2 0 k) :=
      funext fun k => (congrFun (whole5 m c t) _).trans (host_s0 m c k)
    exact congrFun (congrArg₂ (fun w (z : Row 1024 × Row 1024) => mixer _ n w z.1 z.2) e3 (congrArg₂ Prod.mk e4 e5)) k
  exact layer_congr (fun _ => rfl) hmix
    (fun k => (congrFun (whole6 m c t) _).trans (host_g m c 0 k)) (fun k => (congrFun (whole7 m c t) _).trans (host_b m c 0 k))
    (fun k => (congrFun (whole6 m c t) _).trans (host_g m c 1 k)) (fun k => (congrFun (whole7 m c t) _).trans (host_b m c 1 k))
    (fun k f => (congrFun (whole8 m c t) _).trans (host_wu m c k f)) (fun f => (congrFun (whole9 m c t) _).trans (host_bu m c f))
    (fun f k => (congrFun (whole10 m c t) _).trans (host_wd m c f k)) (fun k => (congrFun (whole11 m c t) _).trans (host_bd m c k)) j

/-- The layer's rows, padded. -/
def hiddenOf (c : Dev nD) : Vec Ideal S2x8448x1024 .f32 := fun i => layeredAt m c (i 0) (i 1).val (i 2)

theorem final_hidden (c : Dev nD) : (dats m 0 c).arrAt 15 (cfgs 0).N = hiddenOf m c := by
  refine (dats m 0 c).arrAt_eq_of_covers 15 _ (by decide +kernel) fun t _ y => ?_
  have ht : t.val < 66 := t.isLt
  idx_vars y
  have hy := y1.isLt
  blk_simp
  have e : (win0_15.blk t).view.emb (ix3 y0 y1 y2) = ix3 (⟨t.val / 33, by omega⟩ : Fin 2) (⟨t.val % 33 * 256 + y1.val, by omega⟩ : Fin 8448) y2 := by
    refine funext fun a => Fin.ext ?_
    refine (win0_15.rect_emb_val t (ix3 y0 y1 y2) a).trans ?_
    rw [(idx t).2.2.2.2.2.2.2.2.2.2.2.2.2.2.2.1]
    have := y0.isLt
    match a with
    | 0 => show t.val / 33 * 1 + y0.val = t.val / 33; omega
    | 1 => rfl
    | 2 => exact (congrArg (· + y2.val) (Nat.zero_mul _)).trans (Nat.zero_add _)
  rw [e]
  obtain rfl : y0 = 0 := Subsingleton.elim _ _
  refine (after15 m c t y1 y2).trans ?_
  exact rowsAt_row m c t y1 y2 ⟨t.val / 33, by omega⟩ rfl _ rfl

/-- The queries, padded. -/
def queriesOf (c : Dev nD) : Vec Ideal S2x8448x1024 .bf16 := fun i => (∑ k : Fin 1024, layeredAt m c (i 0) (i 1).val k * m ((c : Thread nD τ).loc main_arg12) (ix3 0 k (i 2))) * Ideal.ofBits FTy.f32 1040187392#32

theorem final_queries (c : Dev nD) : (dats m 0 c).arrAt 18 (cfgs 0).N = queriesOf m c := by
  refine (dats m 0 c).arrAt_eq_of_covers 18 _ (by decide +kernel) fun t _ y => ?_
  have ht : t.val < 66 := t.isLt
  idx_vars y
  have hy := y1.isLt
  blk_simp
  have e : (win0_18.blk t).view.emb (ix3 y0 y1 y2) = ix3 (⟨t.val / 33, by omega⟩ : Fin 2) (⟨t.val % 33 * 256 + y1.val, by omega⟩ : Fin 8448) y2 := by
    refine funext fun a => Fin.ext ?_
    refine (win0_18.rect_emb_val t (ix3 y0 y1 y2) a).trans ?_
    rw [(idx t).2.2.2.2.2.2.2.2.2.2.2.2.2.2.2.2.2.2.1]
    have := y0.isLt
    match a with
    | 0 => show t.val / 33 * 1 + y0.val = t.val / 33; omega
    | 1 => rfl
    | 2 => exact (congrArg (· + y2.val) (Nat.zero_mul _)).trans (Nat.zero_add _)
  rw [e]
  obtain rfl : y0 = 0 := Subsingleton.elim _ _
  refine (after18 m c t y1 y2).trans ?_
  exact congrArg (fun z : EReal => z * Ideal.ofBits FTy.f32 1040187392#32) (Finset.sum_congr rfl fun k _ =>
    congrArg₂ (fun a b : EReal => a * b) (rowsAt_row m c t y1 k ⟨t.val / 33, by omega⟩ rfl _ rfl)
      ((congrFun (whole14 m c t) _).trans (host_wq m c k y2)))

/-- The keys. -/
def keysOf (c : Dev nD) : Vec Ideal S2x1024x8208 .f32 := fun i => ∑ k : Fin 1024, layeredAt m c (i 0) (i 2).val k * m ((c : Thread nD τ).loc main_arg11) (ix2 k ⟨(i 1).val, by have : (i 1).val < 1024 := (i 1).isLt; omega⟩)

theorem final_keys (c : Dev nD) : (dats m 0 c).arrAt 16 (cfgs 0).N = keysOf m c := by
  refine (dats m 0 c).arrAt_eq_of_covers 16 _ (by decide +kernel) fun t _ y => ?_
  have ht : t.val < 66 := t.isLt
  blk_simp
  have e0 : ((win0_16.blk t).view.emb y (0 : Fin 3)).val = t.val / 33 * 1 + (y (0 : Fin 3)).val := by
    refine (win0_16.rect_emb_val t y (0 : Fin 3)).trans ?_
    rw [(idx t).2.2.2.2.2.2.2.2.2.2.2.2.2.2.2.2.1]; rfl
  have e1 : ((win0_16.blk t).view.emb y (1 : Fin 3)).val = (y (1 : Fin 3)).val := by
    refine (win0_16.rect_emb_val t y (1 : Fin 3)).trans ?_
    rw [(idx t).2.2.2.2.2.2.2.2.2.2.2.2.2.2.2.2.1]
    exact (congrArg (· + (y (1 : Fin 3)).val) (Nat.zero_mul _)).trans (Nat.zero_add _)
  have e2 : ((win0_16.blk t).view.emb y (2 : Fin 3)).val = t.val % 33 * 256 + (y (2 : Fin 3)).val := by
    refine (win0_16.rect_emb_val t y (2 : Fin 3)).trans ?_
    rw [(idx t).2.2.2.2.2.2.2.2.2.2.2.2.2.2.2.2.1]; rfl
  have b0 : (y (0 : Fin 3)).val < 1 := ((cfg0.win 16).xinj (cfg0.grid.coords t) y (0 : Fin 3)).isLt
  have b1 : (y (1 : Fin 3)).val < 1024 := ((cfg0.win 16).xinj (cfg0.grid.coords t) y (1 : Fin 3)).isLt
  have b2 : (y (2 : Fin 3)).val < 256 := ((cfg0.win 16).xinj (cfg0.grid.coords t) y (2 : Fin 3)).isLt
  have hl : t.val % 33 * 256 + (y (2 : Fin 3)).val < 8208 := e2 ▸ ((win0_16.blk t).view.emb y (2 : Fin 3)).isLt
  have e : (win0_16.blk t).view.emb y = ix3 (⟨t.val / 33, by omega⟩ : Fin 2) (⟨(y (1 : Fin 3)).val, b1⟩ : Fin 1024)
      (⟨t.val % 33 * 256 + (y (2 : Fin 3)).val, hl⟩ : Fin 8208) := by
    refine funext fun a => Fin.ext ?_
    match a with
    | 0 => refine e0.trans ?_; show t.val / 33 * 1 + (y (0 : Fin 3)).val = t.val / 33; omega
    | 1 => exact e1
    | 2 => exact e2
  have ez : (cfg0.win 16).xinj (cfg0.grid.coords t) y = ix3 (0 : Fin 1) (⟨(y (1 : Fin 3)).val, b1⟩ : Fin 1024) (⟨(y (2 : Fin 3)).val, b2⟩ : Fin 256) := by
    refine funext fun a => Fin.ext ?_
    match a with
    | 0 => show (y (0 : Fin 3)).val = 0; omega
    | 1 => rfl
    | 2 => rfl
  rw [e, ez]
  refine (after16 m c t ⟨(y (2 : Fin 3)).val, b2⟩ ⟨(y (1 : Fin 3)).val, b1⟩).trans ?_
  refine Finset.sum_congr (M := EReal) rfl fun k _ => (congrArg₂ (fun a b : EReal => a * b)
    ((congrFun (whole12 m c t) _).trans (host_wk m c ⟨(y (1 : Fin 3)).val, b1⟩ k))
    (rowsAt_row m c t ⟨(y (2 : Fin 3)).val, b2⟩ k ⟨t.val / 33, by omega⟩ rfl _ rfl)).trans (mul_comm (G := EReal) _ _)

/-- The values. -/
def valuesOf (c : Dev nD) : Vec Ideal S2x1024x8208 .f32 := fun i => ∑ k : Fin 1024, layeredAt m c (i 0) (i 2).val k * m ((c : Thread nD τ).loc main_arg11) (ix2 k ⟨1024 + (i 1).val, by have : (i 1).val < 1024 := (i 1).isLt; omega⟩)

theorem final_values (c : Dev nD) : (dats m 0 c).arrAt 17 (cfgs 0).N = valuesOf m c := by
  refine (dats m 0 c).arrAt_eq_of_covers 17 _ (by decide +kernel) fun t _ y => ?_
  have ht : t.val < 66 := t.isLt
  blk_simp
  have e0 : ((win0_17.blk t).view.emb y (0 : Fin 3)).val = t.val / 33 * 1 + (y (0 : Fin 3)).val := by
    refine (win0_17.rect_emb_val t y (0 : Fin 3)).trans ?_
    rw [(idx t).2.2.2.2.2.2.2.2.2.2.2.2.2.2.2.2.2.1]; rfl
  have e1 : ((win0_17.blk t).view.emb y (1 : Fin 3)).val = (y (1 : Fin 3)).val := by
    refine (win0_17.rect_emb_val t y (1 : Fin 3)).trans ?_
    rw [(idx t).2.2.2.2.2.2.2.2.2.2.2.2.2.2.2.2.2.1]
    exact (congrArg (· + (y (1 : Fin 3)).val) (Nat.zero_mul _)).trans (Nat.zero_add _)
  have e2 : ((win0_17.blk t).view.emb y (2 : Fin 3)).val = t.val % 33 * 256 + (y (2 : Fin 3)).val := by
    refine (win0_17.rect_emb_val t y (2 : Fin 3)).trans ?_
    rw [(idx t).2.2.2.2.2.2.2.2.2.2.2.2.2.2.2.2.2.1]; rfl
  have b0 : (y (0 : Fin 3)).val < 1 := ((cfg0.win 17).xinj (cfg0.grid.coords t) y (0 : Fin 3)).isLt
  have b1 : (y (1 : Fin 3)).val < 1024 := ((cfg0.win 17).xinj (cfg0.grid.coords t) y (1 : Fin 3)).isLt
  have b2 : (y (2 : Fin 3)).val < 256 := ((cfg0.win 17).xinj (cfg0.grid.coords t) y (2 : Fin 3)).isLt
  have hl : t.val % 33 * 256 + (y (2 : Fin 3)).val < 8208 := e2 ▸ ((win0_17.blk t).view.emb y (2 : Fin 3)).isLt
  have e : (win0_17.blk t).view.emb y = ix3 (⟨t.val / 33, by omega⟩ : Fin 2) (⟨(y (1 : Fin 3)).val, b1⟩ : Fin 1024)
      (⟨t.val % 33 * 256 + (y (2 : Fin 3)).val, hl⟩ : Fin 8208) := by
    refine funext fun a => Fin.ext ?_
    match a with
    | 0 => refine e0.trans ?_; show t.val / 33 * 1 + (y (0 : Fin 3)).val = t.val / 33; omega
    | 1 => exact e1
    | 2 => exact e2
  have ez : (cfg0.win 17).xinj (cfg0.grid.coords t) y = ix3 (0 : Fin 1) (⟨(y (1 : Fin 3)).val, b1⟩ : Fin 1024) (⟨(y (2 : Fin 3)).val, b2⟩ : Fin 256) := by
    refine funext fun a => Fin.ext ?_
    match a with
    | 0 => show (y (0 : Fin 3)).val = 0; omega
    | 1 => rfl
    | 2 => rfl
  rw [e, ez]
  refine (after17 m c t ⟨(y (2 : Fin 3)).val, b2⟩ ⟨(y (1 : Fin 3)).val, b1⟩).trans ?_
  refine Finset.sum_congr (M := EReal) rfl fun k _ => (congrArg₂ (fun a b : EReal => a * b)
    ((congrFun (whole13 m c t) _).trans (host_wv m c ⟨(y (1 : Fin 3)).val, b1⟩ k))
    (rowsAt_row m c t ⟨(y (2 : Fin 3)).val, b2⟩ k ⟨t.val / 33, by omega⟩ rfl _ rfl)).trans (mul_comm (G := EReal) _ _)

end Cert.KernelIdeal.Rows

end
-- ==== Proof.Value1b.lean ====
/- The first call's tiles of keys and values. -/
module

public import proofs.«01_k».proof.Proof.Value1

@[expose] public section

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.Spec

theorem idx_tiles : ∀ t : Fin cfg0.N, win0_19.index t = ![t.val / 33, t.val % 33, 0, 0]
    ∧ win0_20.index t = ![t.val / 33, t.val % 33, 0, 0] :=
  (by decide +kernel : ∀ t : Fin grid0.N, _)

section Results

variable (a b : FVec Ideal S1x1024 .f32) (d : FVec Ideal S256x1024 .f32) (e : FVec Ideal S256x1 .f32) (cst : Ideal .f32)

theorem pay29_row (w : Vec Ideal S1024x1024 .bf16) (j : Fin 1024) (r : Fin 256) :
    k0_pay29 a b d e cst w (ix4 0 0 j r) = ∑ k, @HMul.hMul EReal EReal EReal _ (w (ix2 j k)) (k0_pay24 a b d e cst (ix2 r k)) := by
  pointwise [k0_pay29, k0_pay27, k0_pay26]

theorem pay1_row (w : Vec Ideal S1024x1024 .bf16) (j : Fin 1024) (r : Fin 256) :
    k0_pay1 (k0_pay32 a b d e cst w) (ix4 0 0 j r) = ∑ k, @HMul.hMul EReal EReal EReal _ (w (ix2 j k)) (k0_pay24 a b d e cst (ix2 r k)) := by
  pointwise [k0_pay1, k0_pay32, k0_pay30, k0_pay26]

end Results

variable (m : (ℓ : Loc nD τ sig) → Buf (Elt Ideal) ℓ)

theorem after19 (c : Dev nD) (t : Fin cfg0.N) (r : Fin 256) (j : Fin 1024) :
    (dats m 0 c).after 19 t (ix4 0 0 j r) = ∑ k, @HMul.hMul EReal EReal EReal _ (iblk m c 12 t (ix2 j k)) (rowsAt m c t (ix2 r k)) := by
  rw [after0_19]
  simp only [outsAt0]
  frame_open
  simp (disch := decide) only [↓ View.readCov_skip, ↓ View.readCov_cons_toLoadRect, ↓ View.readCov_fill]
  frame_out
  repeat rw [scratch_read]
  unfold rowsAt block V253 V256 V176 V177 V180 V44 V66 V96 V139
  generalize iblk m c 0 t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  generalize tall (k0_pay5 i A) (k0_pay6 i B C) = S
  generalize k0_pay3 i B C = U
  exact pay29_row _ _ _ _ _ _ j r

theorem after20 (c : Dev nD) (t : Fin cfg0.N) (r : Fin 256) (j : Fin 1024) :
    (dats m 0 c).after 20 t (ix4 0 0 j r) = ∑ k, @HMul.hMul EReal EReal EReal _ (iblk m c 13 t (ix2 j k)) (rowsAt m c t (ix2 r k)) := by
  rw [after0_20]
  simp only [outsAt0]
  frame_open
  simp (disch := decide) only [↓ View.readCov_skip, ↓ View.readCov_cons_toLoadRect, ↓ View.readCov_fill]
  frame_out
  repeat rw [scratch_read]
  unfold rowsAt block V253 V256 V176 V177 V180 V44 V66 V96 V139
  generalize iblk m c 0 t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  generalize tall (k0_pay5 i A) (k0_pay6 i B C) = S
  generalize k0_pay3 i B C = U
  exact pay1_row _ _ _ _ _ _ j r

/-- The keys, as tiles of 256 positions. -/
def keyTilesOf (c : Dev nD) : Vec Ideal S2x33x1024x256 .bf16 := fun i => ∑ k : Fin 1024, layeredAt m c (i 0) ((i 1).val * 256 + (i 3).val) k * m ((c : Thread nD τ).loc main_arg11) (ix2 k ⟨(i 2).val, by have : (i 2).val < 1024 := (i 2).isLt; omega⟩)

theorem final_keyTiles (c : Dev nD) : (dats m 0 c).arrAt 19 (cfgs 0).N = keyTilesOf m c := by
  refine (dats m 0 c).arrAt_eq_of_covers 19 _ (by decide +kernel) fun t _ y => ?_
  have ht : t.val < 66 := t.isLt
  idx_vars y
  have hy := y2.isLt
  have hy3 := y3.isLt
  blk_simp
  have e : (win0_19.blk t).view.emb (ix4 y0 y1 y2 y3) = ix4 (⟨t.val / 33, by omega⟩ : Fin 2) (⟨t.val % 33, by omega⟩ : Fin 33) y2 y3 := by
    refine funext fun a => Fin.ext ?_
    refine (win0_19.rect_emb_val t (ix4 y0 y1 y2 y3) a).trans ?_
    rw [(idx_tiles t).1]
    have := y0.isLt
    have := y1.isLt
    match a with
    | 0 => show t.val / 33 * 1 + y0.val = t.val / 33; omega
    | 1 => show t.val % 33 * 1 + y1.val = t.val % 33; omega
    | 2 => exact (congrArg (· + y2.val) (Nat.zero_mul _)).trans (Nat.zero_add _)
    | 3 => exact (congrArg (· + y3.val) (Nat.zero_mul _)).trans (Nat.zero_add _)
  rw [e]
  obtain rfl : y0 = 0 := Subsingleton.elim _ _
  obtain rfl : y1 = 0 := Subsingleton.elim _ _
  refine (after19 m c t y3 y2).trans ?_
  refine Finset.sum_congr (M := EReal) rfl fun k _ => (congrArg₂ (fun a b : EReal => a * b)
    ((congrFun (whole12 m c t) _).trans (host_wk m c y2 k))
    (rowsAt_row m c t y3 k ⟨t.val / 33, by omega⟩ rfl _ rfl)).trans (mul_comm (G := EReal) _ _)

/-- The values, as tiles of 256 positions. -/
def valueTilesOf (c : Dev nD) : Vec Ideal S2x33x1024x256 .bf16 := fun i => ∑ k : Fin 1024, layeredAt m c (i 0) ((i 1).val * 256 + (i 3).val) k * m ((c : Thread nD τ).loc main_arg11) (ix2 k ⟨1024 + (i 2).val, by have : (i 2).val < 1024 := (i 2).isLt; omega⟩)

theorem final_valueTiles (c : Dev nD) : (dats m 0 c).arrAt 20 (cfgs 0).N = valueTilesOf m c := by
  refine (dats m 0 c).arrAt_eq_of_covers 20 _ (by decide +kernel) fun t _ y => ?_
  have ht : t.val < 66 := t.isLt
  idx_vars y
  have hy := y2.isLt
  have hy3 := y3.isLt
  blk_simp
  have e : (win0_20.blk t).view.emb (ix4 y0 y1 y2 y3) = ix4 (⟨t.val / 33, by omega⟩ : Fin 2) (⟨t.val % 33, by omega⟩ : Fin 33) y2 y3 := by
    refine funext fun a => Fin.ext ?_
    refine (win0_20.rect_emb_val t (ix4 y0 y1 y2 y3) a).trans ?_
    rw [(idx_tiles t).2]
    have := y0.isLt
    have := y1.isLt
    match a with
    | 0 => show t.val / 33 * 1 + y0.val = t.val / 33; omega
    | 1 => show t.val % 33 * 1 + y1.val = t.val % 33; omega
    | 2 => exact (congrArg (· + y2.val) (Nat.zero_mul _)).trans (Nat.zero_add _)
    | 3 => exact (congrArg (· + y3.val) (Nat.zero_mul _)).trans (Nat.zero_add _)
  rw [e]
  obtain rfl : y0 = 0 := Subsingleton.elim _ _
  obtain rfl : y1 = 0 := Subsingleton.elim _ _
  refine (after20 m c t y3 y2).trans ?_
  refine Finset.sum_congr (M := EReal) rfl fun k _ => (congrArg₂ (fun a b : EReal => a * b)
    ((congrFun (whole13 m c t) _).trans (host_wv m c y2 k))
    (rowsAt_row m c t y3 k ⟨t.val / 33, by omega⟩ rfl _ rfl)).trans (mul_comm (G := EReal) _ _)

end Cert.KernelIdeal.Rows

end
-- ==== Proof.Ref1b.lean ====
/- The first call's reference: its tiles of keys and values. -/
module

public import proofs.«01_k».proof.Proof.Ref1

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Spec

variable (x0 : (⟨S2x8192x1024, .f32⟩ : BufTy).Contents (Elt Ideal)) (x1 : (⟨S16x1024, .f32⟩ : BufTy).Contents (Elt Ideal))
  (x2 x3 : (⟨S2x2x1024, .f32⟩ : BufTy).Contents (Elt Ideal)) (x4 : (⟨S1x4x256x256, .f32⟩ : BufTy).Contents (Elt Ideal))
  (x5 x6 : (⟨S1x1024, .f32⟩ : BufTy).Contents (Elt Ideal)) (x7 : (⟨S2x1024x4096, .f32⟩ : BufTy).Contents (Elt Ideal))
  (x8 : (⟨S2x4096, .f32⟩ : BufTy).Contents (Elt Ideal)) (x9 : (⟨S2x4096x1024, .f32⟩ : BufTy).Contents (Elt Ideal))
  (x10 : (⟨S2x1024, .f32⟩ : BufTy).Contents (Elt Ideal)) (x11 : (⟨S1024x2048, .f32⟩ : BufTy).Contents (Elt Ideal))
  (x12 : (⟨S1x1024x1024, .f32⟩ : BufTy).Contents (Elt Ideal))

variable (hx : ∀ b, Spec.Real (rows x0 x1 b))

include hx

theorem key_tiles_row (b : Fin 2) (q : Fin 33) (j : Fin 1024) (r : Fin 256) (hl : q.val * 256 + r.val < 8208) :
    val_main_v242 x0 x1 x2 x3 x4 x5 x6 x7 x8 x9 x10 x11 (ix4 b q j r)
      = ∑ k : Fin 1024, layered x0 x1 x2 x3 x4 x5 x6 x7 x8 x9 x10 b (q.val * 256 + r.val) k * x11 (ix2 k ⟨j.val, by omega⟩) := by
  have e : val_main_v240 x0 x1 x2 x3 x4 x5 x6 x7 x8 x9 x10 x11 (ix4 b j q r)
      = val_main_v239 x0 x1 x2 x3 x4 x5 x6 x7 x8 x9 x10 x11 (ix3 b j ⟨q.val * 256 + r.val, by omega⟩) := by
    rw [val_main_v240_apply]
    refine congrArg _ (funext fun a => Fin.ext ?_)
    have := b.isLt; have := q.isLt; have := j.isLt; have := r.isLt
    match a with
    | 0 => simp; omega
    | 1 => simp; omega
    | 2 => simp; omega
  have f : val_main_v239 x0 x1 x2 x3 x4 x5 x6 x7 x8 x9 x10 x11 (ix3 b j ⟨q.val * 256 + r.val, by omega⟩)
      = val_main_v224 x0 x1 x2 x3 x4 x5 x6 x7 x8 x9 x10 x11 (ix3 b j ⟨q.val * 256 + r.val, hl⟩) := by
    pointwise [val_main_c_47, val_main_call4_v0, val_main_v239]
    rw [dif_pos hl]
  have g := (e.trans f).trans (keys_row x0 x1 x2 x3 x4 x5 x6 x7 x8 x9 x10 x11 hx b j ⟨q.val * 256 + r.val, hl⟩)
  pointwise [val_main_v241, val_main_v242]
  exact g

theorem value_tiles_row (b : Fin 2) (q : Fin 33) (j : Fin 1024) (r : Fin 256) (hl : q.val * 256 + r.val < 8208) :
    val_main_v246 x0 x1 x2 x3 x4 x5 x6 x7 x8 x9 x10 x11 (ix4 b q j r)
      = ∑ k : Fin 1024, layered x0 x1 x2 x3 x4 x5 x6 x7 x8 x9 x10 b (q.val * 256 + r.val) k * x11 (ix2 k ⟨1024 + j.val, by omega⟩) := by
  have e : val_main_v244 x0 x1 x2 x3 x4 x5 x6 x7 x8 x9 x10 x11 (ix4 b j q r)
      = val_main_v243 x0 x1 x2 x3 x4 x5 x6 x7 x8 x9 x10 x11 (ix3 b j ⟨q.val * 256 + r.val, by omega⟩) := by
    rw [val_main_v244_apply]
    refine congrArg _ (funext fun a => Fin.ext ?_)
    have := b.isLt; have := q.isLt; have := j.isLt; have := r.isLt
    match a with
    | 0 => simp; omega
    | 1 => simp; omega
    | 2 => simp; omega
  have f : val_main_v243 x0 x1 x2 x3 x4 x5 x6 x7 x8 x9 x10 x11 (ix3 b j ⟨q.val * 256 + r.val, by omega⟩)
      = val_main_v226 x0 x1 x2 x3 x4 x5 x6 x7 x8 x9 x10 x11 (ix3 b j ⟨q.val * 256 + r.val, hl⟩) := by
    pointwise [val_main_c_48, val_main_call5_v0, val_main_v243]
    rw [dif_pos hl]
  have g := (e.trans f).trans (values_row x0 x1 x2 x3 x4 x5 x6 x7 x8 x9 x10 x11 hx b j ⟨q.val * 256 + r.val, hl⟩)
  pointwise [val_main_v245, val_main_v246]
  exact g

end Cert.ReferenceIdeal.Rows

end
-- ==== Proof.First.lean ====
/- The first call's value claim. -/
module

public import proofs.«01_k».proof.Defs
public import proofs.«01_k».proof.Proof.Gen.ReferenceIdeal.Run
public import proofs.«01_k».proof.Proof.Gen.ReferenceIdeal.Read
public import proofs.«01_k».proof.Proof.Gen.KernelIdeal.Value
public import proofs.«01_k».proof.Proof.Conditions
public import proofs.«01_k».proof.Proof.Value1b
public import proofs.«01_k».proof.Proof.Ref1b
public import Idealize.ShloMosaic.Lib.Claim

@[expose] public section

set_option maxRecDepth 16384

noncomputable section

open Idealize.ShloMosaic Idealize.ShloMosaic.TcCoe Idealize.SL.Sem

namespace Cert.First

attribute [local instance] Cert.KernelIdeal.Gen.facts Cert.ReferenceIdeal.Gen.facts Cert.Pre_finite_rows.Gen.facts
  Cert.On_real_rows.Gen.facts

section
open Cert.ReferenceIdeal

/-- The reference's run: its results over the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v224) = Read.val_main_v224
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
      ∧ r.2.mem ((c.tc : Thread nD τ).loc main_v226) = Read.val_main_v226
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
      ∧ r.2.mem ((c.tc : Thread nD τ).loc main_v234) = Read.val_main_v234
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
      ∧ r.2.mem ((c.tc : Thread nD τ).loc main_v236) = Read.val_main_v236
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg12))
      ∧ r.2.mem ((c.tc : Thread nD τ).loc main_v238) = Read.val_main_v238
        (m ((c.tc : Thread nD τ).loc main_arg0))
        (m ((c.tc : Thread nD τ).loc main_arg1))
      ∧ r.2.mem ((c.tc : Thread nD τ).loc main_v242) = Read.val_main_v242
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
      ∧ r.2.mem ((c.tc : Thread nD τ).loc main_v246) = Read.val_main_v246
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run _ _ _).mono (fun r h c => ?_) (Value.run m ρ)
  obtain ⟨h1, h2, h3, h4, h5, h7, h8, h6⟩ := h c
  refine ⟨?_, ?_, ?_, ?_, ?_, ?_, ?_, h6⟩
  · rw [h1, Read.val_main_v224_eq]
  · rw [h2, Read.val_main_v226_eq]
  · rw [h3, Read.val_main_v234_eq]
  · rw [h4, Read.val_main_v236_eq]
  · rw [h5, Read.val_main_v238_eq]
  · rw [h7, Read.val_main_v242_eq]
  · rw [h8, Read.val_main_v246_eq]

end

section
open Cert.KernelIdeal Cert.KernelIdeal.Gen Cert.KernelIdeal.Rows

variable (m : (ℓ : Loc nD τ sig) → Buf (Elt Ideal) ℓ)

/-- The last rows of every sequence. -/
def lastOf (c : Dev nD) : Vec Ideal S1x2x15x1024 .f32 := fun i =>
  m ((c : Thread nD τ).loc main_arg0) (ix3 (i 1) ⟨8177 + (i 2).val, by have : (i 2).val < 15 := (i 2).isLt; omega⟩ (i 3))

theorem host_last (c : Dev nD) : V m c main_v23 = lastOf m c := by
  funext i
  obtain ⟨z, b, l, j, rfl⟩ : ∃ (z : Fin 1) (b : Fin 2) (l : Fin 15) (j : Fin 1024), i = ix4 z b l j :=
    ⟨i 0, i 1, i 2, i 3, funext fun a => by match a with | 0 => rfl | 1 => rfl | 2 => rfl | 3 => rfl⟩
  entry_read
  pointwise
  rfl

/-- The call's run: its results over the arguments, the arguments unchanged. -/
theorem call_run (ρ : Dev nD → PrngReg) :
    θ_run (defs (F := Ideal)) (onTc (τ := τ) (main (F := Ideal))) ⟨m, fun _ => 0, ρ⟩ fun r => ∀ c : Dev nD,
      r.2.mem ((c : Thread nD τ).loc main_v24_1) = keysOf m c
      ∧ r.2.mem ((c : Thread nD τ).loc main_v24_2) = valuesOf m c
      ∧ r.2.mem ((c : Thread nD τ).loc main_v24_0) = hiddenOf m c
      ∧ r.2.mem ((c : Thread nD τ).loc main_v24_3) = queriesOf m c
      ∧ r.2.mem ((c : Thread nD τ).loc main_v23) = lastOf m c
      ∧ r.2.mem ((c : Thread nD τ).loc main_v24_4) = keyTilesOf m c
      ∧ r.2.mem ((c : Thread nD τ).loc main_v24_5) = valueTilesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) := by
  refine (θ_run _ _ _).mono (fun r h c => ?_) (Cert.KernelIdeal.Gen.run_main m ρ)
  exact ⟨(Cert.KernelIdeal.Value.post16 m r h c).trans (final_keys m c),
    (Cert.KernelIdeal.Value.post17 m r h c).trans (final_values m c),
    (Cert.KernelIdeal.Value.post15 m r h c).trans (final_hidden m c),
    (Cert.KernelIdeal.Value.post18 m r h c).trans (final_queries m c),
    ((h c).2 main_v23 (Pipeline.mem_restRefs_of main_v23 (by decide) (by decide))).trans (host_last m c),
    (Cert.KernelIdeal.Value.post19 m r h c).trans (final_keyTiles m c),
    (Cert.KernelIdeal.Value.post20 m r h c).trans (final_valueTiles m c),
    Cert.KernelIdeal.Value.kept_main_arg0 m r h c,
    Cert.KernelIdeal.Value.kept_main_arg1 m r h c,
    Cert.KernelIdeal.Value.kept_main_arg2 m r h c,
    Cert.KernelIdeal.Value.kept_main_arg3 m r h c,
    Cert.KernelIdeal.Value.kept_main_arg4 m r h c,
    Cert.KernelIdeal.Value.kept_main_arg5 m r h c,
    Cert.KernelIdeal.Value.kept_main_arg6 m r h c,
    Cert.KernelIdeal.Value.kept_main_arg7 m r h c,
    Cert.KernelIdeal.Value.kept_main_arg8 m r h c,
    Cert.KernelIdeal.Value.kept_main_arg9 m r h c,
    Cert.KernelIdeal.Value.kept_main_arg10 m r h c,
    Cert.KernelIdeal.Value.kept_main_arg11 m r h c,
    Cert.KernelIdeal.Value.kept_main_arg12 m r h c⟩

variable (h : Cert.Pre_KernelIdeal_finite_rows m) (c : Dev nD)
include h

theorem keys (i : S2x1024x8208.Idx) : Cert.ReferenceIdeal.Read.val_main_v224
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) i = keysOf m c i := by
  obtain ⟨b, j, l, rfl⟩ : ∃ (b : Fin 2) (j : Fin 1024) (l : Fin 8208), i = ix3 b j l :=
    ⟨i 0, i 1, i 2, funext fun a => by match a with | 0 => rfl | 1 => rfl | 2 => rfl⟩
  exact Cert.ReferenceIdeal.Rows.keys_row _ _ _ _ _ _ _ _ _ _ _ _ (rows_real m h c) b j l

theorem values (i : S2x1024x8208.Idx) : Cert.ReferenceIdeal.Read.val_main_v226
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) i = valuesOf m c i := by
  obtain ⟨b, j, l, rfl⟩ : ∃ (b : Fin 2) (j : Fin 1024) (l : Fin 8208), i = ix3 b j l :=
    ⟨i 0, i 1, i 2, funext fun a => by match a with | 0 => rfl | 1 => rfl | 2 => rfl⟩
  exact Cert.ReferenceIdeal.Rows.values_row _ _ _ _ _ _ _ _ _ _ _ _ (rows_real m h c) b j l

theorem hidden (i : S2x8448x1024.Idx) (hi : (i 1).val < 8208) : Cert.ReferenceIdeal.Read.val_main_v234
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) i = hiddenOf m c i := by
  obtain ⟨b, l, j, rfl⟩ : ∃ (b : Fin 2) (l : Fin 8448) (j : Fin 1024), i = ix3 b l j :=
    ⟨i 0, i 1, i 2, funext fun a => by match a with | 0 => rfl | 1 => rfl | 2 => rfl⟩
  exact Cert.ReferenceIdeal.Rows.hidden_row _ _ _ _ _ _ _ _ _ _ _ (rows_real m h c) b l hi j

theorem queries (i : S2x8448x1024.Idx) (hi : (i 1).val < 8208) : Cert.ReferenceIdeal.Read.val_main_v236
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) i = queriesOf m c i := by
  obtain ⟨b, l, j, rfl⟩ : ∃ (b : Fin 2) (l : Fin 8448) (j : Fin 1024), i = ix3 b l j :=
    ⟨i 0, i 1, i 2, funext fun a => by match a with | 0 => rfl | 1 => rfl | 2 => rfl⟩
  exact Cert.ReferenceIdeal.Rows.queries_row _ _ _ _ _ _ _ _ _ _ _ _ (rows_real m h c) b l hi j

theorem keyTiles (i : S2x33x1024x256.Idx) (hi : (i 1).val * 256 + (i 3).val < 8208) : Cert.ReferenceIdeal.Read.val_main_v242
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) i = keyTilesOf m c i := by
  obtain ⟨b, q, j, r, rfl⟩ : ∃ (b : Fin 2) (q : Fin 33) (j : Fin 1024) (r : Fin 256), i = ix4 b q j r :=
    ⟨i 0, i 1, i 2, i 3, funext fun a => by match a with | 0 => rfl | 1 => rfl | 2 => rfl | 3 => rfl⟩
  exact Cert.ReferenceIdeal.Rows.key_tiles_row _ _ _ _ _ _ _ _ _ _ _ _ (rows_real m h c) b q j r hi

theorem valueTiles (i : S2x33x1024x256.Idx) (hi : (i 1).val * 256 + (i 3).val < 8208) : Cert.ReferenceIdeal.Read.val_main_v246
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) i = valueTilesOf m c i := by
  obtain ⟨b, q, j, r, rfl⟩ : ∃ (b : Fin 2) (q : Fin 33) (j : Fin 1024) (r : Fin 256), i = ix4 b q j r :=
    ⟨i 0, i 1, i 2, i 3, funext fun a => by match a with | 0 => rfl | 1 => rfl | 2 => rfl | 3 => rfl⟩
  exact Cert.ReferenceIdeal.Rows.value_tiles_row _ _ _ _ _ _ _ _ _ _ _ _ (rows_real m h c) b q j r hi

omit h

theorem last (i : S1x2x15x1024.Idx) : Cert.ReferenceIdeal.Read.val_main_v238 (m ((c.tc : Thread nD τ).loc main_arg0)) (m ((c.tc : Thread nD τ).loc main_arg1)) i = lastOf m c i := by
  obtain ⟨z, b, l, j, rfl⟩ : ∃ (z : Fin 1) (b : Fin 2) (l : Fin 15) (j : Fin 1024), i = ix4 z b l j :=
    ⟨i 0, i 1, i 2, i 3, funext fun a => by match a with | 0 => rfl | 1 => rfl | 2 => rfl | 3 => rfl⟩
  obtain rfl : z = 0 := Subsingleton.elim _ _
  exact Cert.ReferenceIdeal.Rows.last_row _ _ b l j

end

theorem algebraic : Cert.algebraic_KernelIdeal_ReferenceIdeal_on_real_rows_pre_finite_rows := by
  intro m g m' g' hpre hagree
  refine ⟨fun c => Cert.KernelIdeal.Rows.keysOf m c, fun c => Cert.KernelIdeal.Rows.valuesOf m c,
    fun c => Cert.KernelIdeal.Rows.hiddenOf m c, fun c => Cert.KernelIdeal.Rows.queriesOf m c, fun c => lastOf m c,
    fun c => Cert.KernelIdeal.Rows.keyTilesOf m c, fun c => Cert.KernelIdeal.Rows.valueTilesOf m c, ?_, ?_⟩
  · refine (θ_run _ _ _).mono (fun r h c => ?_) (call_run m g)
    obtain ⟨h1, h2, h3, h4, h5, h7, h8, h6⟩ := h c
    exact ⟨fun i _ => congrFun h1 i, fun i _ => congrFun h2 i, fun i _ => congrFun h3 i, fun i _ => congrFun h4 i,
      fun i _ => congrFun h5 i, fun i _ => congrFun h7 i, fun i _ => congrFun h8 i, h6⟩
  · refine (θ_run _ _ _).mono (fun r h c => ?_) (ref_run m' g')
    obtain ⟨h1, h2, h3, h4, h5, h7, h8, h6⟩ := h c
    obtain ⟨a0, a1, a2, a3, a4, a5, a6, a7, a8, a9, a10, a11, a12⟩ := hagree c
    rw [a0, a1, a2, a3, a4, a5, a6, a7, a8, a9, a10, a11] at h1 h2 h7 h8
    rw [a0, a1, a2, a3, a4, a5, a6, a7, a8, a9, a10] at h3
    rw [a0, a1, a2, a3, a4, a5, a6, a7, a8, a9, a10, a12] at h4
    rw [a0, a1] at h5
    refine ⟨fun i _ => (congrFun h1 i).trans (keys m hpre c i), fun i _ => (congrFun h2 i).trans (values m hpre c i),
      fun i hi => (congrFun h3 i).trans (hidden m hpre c i (row_of_mask _ (i 1).isLt hi)),
      fun i hi => (congrFun h4 i).trans (queries m hpre c i (row_of_mask _ (i 1).isLt hi)),
      fun i _ => (congrFun h5 i).trans (last m c i),
      fun i hi => (congrFun h7 i).trans (keyTiles m hpre c i (tile_of_mask _ _ (i 1).isLt (i 3).isLt hi)),
      fun i hi => (congrFun h8 i).trans (valueTiles m hpre c i (tile_of_mask _ _ (i 1).isLt (i 3).isLt hi)), h6⟩

end Cert.First

end
-- ==== Proof.FirstRef.lean ====
/- The first call's reference: its frame. -/
module

public import proofs.«01_k».proof.Defs
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.First

attribute [local instance] Cert.ReferenceIdeal.Gen.facts

theorem frame : Cert.quiescent_ReferenceIdeal := by
  intro m ρ _
  exact (θ_run _ _ _).mono (fun r h => ⟨fun c => (h c).2.2.2.2.2.2.2, sem_eq_zero_of_no_sems rfl _⟩)
    (Cert.ReferenceIdeal.Value.run m ρ)

end Cert.First

end
-- ==== Proof.Ref2.lean ====
/- The second call's reference, a row at a time. -/
module

public import proofs.«01_k».proof.Proof.Gen.Reference2Ideal.Read
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read Cert.Spec

variable (x0 : (⟨S2x8448x1024, .bf16⟩ : BufTy).Contents (Elt Ideal)) (x1 : (⟨S2x8448x1024, .f32⟩ : BufTy).Contents (Elt Ideal))
  (x2 x3 : (⟨S2x2x1024, .f32⟩ : BufTy).Contents (Elt Ideal)) (x4 : (⟨S2x1024x4096, .f32⟩ : BufTy).Contents (Elt Ideal))
  (x5 : (⟨S2x4096, .f32⟩ : BufTy).Contents (Elt Ideal)) (x6 : (⟨S2x4096x1024, .f32⟩ : BufTy).Contents (Elt Ideal))
  (x7 : (⟨S2x1024, .f32⟩ : BufTy).Contents (Elt Ideal)) (x8 : (⟨S1x1024x1024, .f32⟩ : BufTy).Contents (Elt Ideal))

/-- The first sub-layer's row. -/
theorem first_row (b : Fin 2) (l : Fin 8208) (j : Fin 1024) :
    val_main_v33 x0 x1 x2 x3 x8 (ix3 b l j)
      = inner (fun k => x1 (ix3 b ⟨l.val, by omega⟩ k)) (fun k => ∑ q, x0 (ix3 b ⟨l.val, by omega⟩ q) * x8 (ix3 0 q k))
          (fun k => x2 (ix3 1 0 k)) (fun k => x3 (ix3 1 0 k)) j := by
  pointwise [val_main_v0, val_main_v1, val_main_v2, val_main_v3, val_main_v4, val_main_cst, val_main_v5, val_main_v6,
    val_main_v7, val_main_v8, val_main_v9, val_main_v10, val_main_v11, val_main_cst_0, val_main_v12, val_main_v13,
    val_main_cst_1, val_main_v14, val_main_v15, val_main_v16, val_main_v17, val_main_v18, val_main_cst_2,
    val_main_v19, val_main_v20, val_main_cst_3, val_main_v21, val_main_v22, val_main_cst_4, val_main_v23,
    val_main_v24, val_main_v25, val_main_v26, val_main_v27, val_main_v28, val_main_v29, val_main_v30, val_main_v31,
    val_main_v32, val_main_v33]
  rfl

/-- The layer's row. -/
theorem layer_row (b : Fin 2) (l : Fin 8208) (j : Fin 1024) :
    val_main_v80 x0 x1 x2 x3 x4 x5 x6 x7 x8 (ix3 b l j)
      = layer (fun k => x1 (ix3 b ⟨l.val, by omega⟩ k)) (fun k => ∑ q, x0 (ix3 b ⟨l.val, by omega⟩ q) * x8 (ix3 0 q k))
          (fun k => x2 (ix3 1 0 k)) (fun k => x3 (ix3 1 0 k)) (fun k => x2 (ix3 1 1 k)) (fun k => x3 (ix3 1 1 k))
          (fun k f => x4 (ix3 1 k f)) (fun f => x5 (ix2 1 f)) (fun f k => x6 (ix3 1 f k)) (fun k => x7 (ix2 1 k)) j := by
  pointwise [val_main_cst_5, val_main_v34, val_main_v35, val_main_v36, val_main_v37, val_main_v38, val_main_v39,
    val_main_v40, val_main_v41, val_main_v42, val_main_v43, val_main_v44, val_main_v45, val_main_v46, val_main_v47,
    val_main_call0_cst, val_main_call0_v0, val_main_v48, val_main_v49, val_main_v50, val_main_v51, val_main_v52,
    val_main_v53, val_main_v54, val_main_v55, val_main_v56, val_main_v57, val_main_v58, val_main_cst_6,
    val_main_v59, val_main_v60, val_main_cst_7, val_main_v61, val_main_v62, val_main_v63, val_main_v64,
    val_main_v65, val_main_cst_8, val_main_v66, val_main_v67, val_main_cst_9, val_main_v68, val_main_v69,
    val_main_cst_10, val_main_v70, val_main_v71, val_main_v72, val_main_v73, val_main_v74, val_main_v75,
    val_main_v76, val_main_v77, val_main_v78, val_main_v79, val_main_v80]
  simp only [first_row]
  rfl

theorem result_row (n : Fin 16384) (j : Fin 1024) (b : Fin 2) (l : Fin 8448) (hb : b.val = n.val / 8192)
    (hl : l.val = 16 + n.val % 8192) :
    val_main_v82 x0 x1 x2 x3 x4 x5 x6 x7 x8 (ix2 n j)
      = layer (fun k => x1 (ix3 b l k)) (fun k => ∑ q, x0 (ix3 b l q) * x8 (ix3 0 q k))
          (fun k => x2 (ix3 1 0 k)) (fun k => x3 (ix3 1 0 k)) (fun k => x2 (ix3 1 1 k)) (fun k => x3 (ix3 1 1 k))
          (fun k f => x4 (ix3 1 k f)) (fun f => x5 (ix2 1 f)) (fun f k => x6 (ix3 1 f k)) (fun k => x7 (ix2 1 k)) j := by
  have e : val_main_v82 x0 x1 x2 x3 x4 x5 x6 x7 x8 (ix2 n j)
      = val_main_v80 x0 x1 x2 x3 x4 x5 x6 x7 x8 (ix3 b ⟨l.val, by omega⟩ j) := by
    rw [val_main_v82_apply, val_main_v81_apply]
    refine congrArg _ (funext fun a => Fin.ext ?_)
    have := n.isLt; have := j.isLt
    match a with
    | 0 => simp; omega
    | 1 => simp; omega
    | 2 => simp; try omega
  exact e.trans (layer_row x0 x1 x2 x3 x4 x5 x6 x7 x8 b ⟨l.val, by omega⟩ j)

end Cert.Reference2Ideal.Rows

end
-- ==== Proof.Rows2.lean ====
/- The second call's body, a row at a time: what the body computes from its blocks is the layer's row. -/
module

public import proofs.«01_k».proof.Proof.Gen.Kernel2Ideal.Skeleton
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.Kernel2Ideal.Rows

open Cert.Kernel2Ideal Cert.Kernel2Ideal.Gen Cert.Spec

/-- The first sub-layer's row. -/
theorem pay2_row (v0 : Vec Ideal S256x1024 .f32) (v2 : Vec Ideal S256x1024 .bf16) (v4 : Vec Ideal S1024x1024 .bf16)
    (v10 v12 : Vec Ideal S1x1024 .f32) (r : Fin 256) (j : Fin 1024) :
    k0_pay2 v0 v2 v4 v10 v12 (ix2 r j)
      = inner (fun k => v0 (ix2 r k)) (fun k => ∑ l, v2 (ix2 r l) * v4 (ix2 l k))
          (fun k => v10 (ix2 0 k)) (fun k => v12 (ix2 0 k)) j := by
  pointwise [k0_pay2]
  rfl

/-- The first two quarters of the network. -/
theorem pay5_row (v34 : FVec Ideal S256x1024 .bf16) (v35 : Vec Ideal S1024x1024 .bf16) (v38 : Vec Ideal S1x1024 .f32)
    (v46 v49 : Vec Ideal S1024x1024 .bf16) (v52 : Vec Ideal S1x1024 .f32) (v60 : Vec Ideal S1024x1024 .bf16)
    (v37 : FVec Ideal S256x1024 .f32) (h37 : ∀ r f, v37 (ix2 r f) = ∑ k, v34 (ix2 r k) * v35 (ix2 k f))
    (r : Fin 256) (j : Fin 1024) :
    k0_pay5 v34 v37 v38 v46 v49 v52 v60 (ix2 r j)
      = down (fun k => v34 (ix2 r k)) (fun k f => v35 (ix2 k f)) (fun f => v38 (ix2 0 f)) (fun f k => v46 (ix2 f k)) j
        + down (fun k => v34 (ix2 r k)) (fun k f => v49 (ix2 k f)) (fun f => v52 (ix2 0 f)) (fun f k => v60 (ix2 f k)) j := by
  pointwise [k0_pay5]
  simp only [h37]
  rfl

/-- The third quarter's squared hidden row. -/
theorem pay6_row (v34 : FVec Ideal S256x1024 .bf16) (v64 : Vec Ideal S1024x1024 .bf16) (v67 : Vec Ideal S1x1024 .f32)
    (r : Fin 256) (f : Fin 1024) :
    k0_pay6 v34 v64 v67 (ix2 r f)
      = hidden (fun k => v34 (ix2 r k)) (fun k f => v64 (ix2 k f)) (fun f => v67 (ix2 0 f)) f
        * hidden (fun k => v34 (ix2 r k)) (fun k f => v64 (ix2 k f)) (fun f => v67 (ix2 0 f)) f := by
  pointwise [k0_pay6]
  rfl

/-- The second sub-layer's row, its mean taken off. -/
theorem pay9_row (v33 : FVec Ideal S256x1024 .f32) (v34 : FVec Ideal S256x1024 .bf16) (v63 : FVec Ideal S256x1024 .f32)
    (v74 : FVec Ideal S256x1024 .bf16) (v75 v79 : Vec Ideal S1024x1024 .bf16) (v82 : Vec Ideal S1x1024 .f32)
    (v90 : Vec Ideal S1024x1024 .bf16) (v94 : Vec Ideal S1x1024 .f32) (X : Fin 256 → Row 1024)
    (hX : ∀ r j, X r j = alpha * v33 (ix2 r j)
      + (v63 (ix2 r j) + ∑ f, v74 (ix2 r f) * v75 (ix2 f j)
          + down (fun k => v34 (ix2 r k)) (fun k f => v79 (ix2 k f)) (fun f => v82 (ix2 0 f)) (fun f k => v90 (ix2 f k)) j
          + v94 (ix2 0 j)))
    (r : Fin 256) (j : Fin 1024) :
    k0_pay9 v33 v34 v63 v74 v75 v79 v82 v90 v94 (ix2 r j) = X r j - mean (X r) := by
  have hX' : ∀ r, X r = fun j => _ := fun r => funext (hX r)
  rw [hX']
  pointwise [k0_pay9]
  rfl

/-- The row sums of squares. -/
def squares (V : FVec Ideal S256x1024 .f32) : FVec Ideal S256x1 .f32 :=
  shapeCast S256x1 (multiReduction .add [1] S256 (mulf V V) 0x00000000#32 reduces_S256x1024_S256 (.inl rfl) rfl)
    shapeCasts_S256_S256x1

/-- The body's row, from its loads: the network's matrices and offsets come in quarters. -/
theorem body_row (P0 : Vec Ideal S256x1024 .f32) (P1 : Vec Ideal S256x1024 .bf16) (P2 : Vec Ideal S1024x1024 .bf16)
    (P3 P4 : Vec Ideal S1x1024 .f32) (P5 : Vec Ideal S1024x1024 .bf16) (P6 : Vec Ideal S1x1024 .f32)
    (P7 P8 : Vec Ideal S1024x1024 .bf16) (P9 : Vec Ideal S1x1024 .f32) (P10 P11 : Vec Ideal S1024x1024 .bf16)
    (P12 : Vec Ideal S1x1024 .f32) (P13 P14 : Vec Ideal S1024x1024 .bf16) (P15 : Vec Ideal S1x1024 .f32)
    (P16 : Vec Ideal S1024x1024 .bf16) (P17 P18 P19 : Vec Ideal S1x1024 .f32)
    (wu : Fin 1024 → Row 4096) (bu : Row 4096) (wd : Fin 4096 → Row 1024)
    (h5 : ∀ k f, P5 (ix2 k f) = wu k (quarter 0 f)) (h8 : ∀ k f, P8 (ix2 k f) = wu k (quarter 1 f))
    (h11 : ∀ k f, P11 (ix2 k f) = wu k (quarter 2 f)) (h14 : ∀ k f, P14 (ix2 k f) = wu k (quarter 3 f))
    (h6 : ∀ f, P6 (ix2 0 f) = bu (quarter 0 f)) (h9 : ∀ f, P9 (ix2 0 f) = bu (quarter 1 f))
    (h12 : ∀ f, P12 (ix2 0 f) = bu (quarter 2 f)) (h15 : ∀ f, P15 (ix2 0 f) = bu (quarter 3 f))
    (h7 : ∀ f k, P7 (ix2 f k) = wd (quarter 0 f) k) (h10 : ∀ f k, P10 (ix2 f k) = wd (quarter 1 f) k)
    (h13 : ∀ f k, P13 (ix2 f k) = wd (quarter 2 f) k) (h16 : ∀ f k, P16 (ix2 f k) = wd (quarter 3 f) k)
    (r : Fin 256) (j : Fin 1024) :
    k0_pay1 (k0_pay7 P18) (k0_pay8 P19)
        (k0_pay9 (k0_pay2 P0 P1 P2 P3 P4) (k0_pay3 P0 P1 P2 P3 P4)
          (k0_pay5 (k0_pay3 P0 P1 P2 P3 P4) (k0_pay4 P0 P1 P2 P3 P4 P5) P6 P7 P8 P9 P10)
          (k0_pay6 (k0_pay3 P0 P1 P2 P3 P4) P11 P12) P13 P14 P15 P16 P17)
        (k0_pay10 (k0_pay2 P0 P1 P2 P3 P4) (k0_pay3 P0 P1 P2 P3 P4)
          (k0_pay5 (k0_pay3 P0 P1 P2 P3 P4) (k0_pay4 P0 P1 P2 P3 P4 P5) P6 P7 P8 P9 P10)
          (k0_pay6 (k0_pay3 P0 P1 P2 P3 P4) P11 P12) P13 P14 P15 P16 P17)
        (k0_pay11 (F := Ideal)) (ix2 r j)
      = layer (fun k => P0 (ix2 r k)) (fun k => ∑ l, P1 (ix2 r l) * P2 (ix2 l k)) (fun k => P3 (ix2 0 k))
          (fun k => P4 (ix2 0 k)) (fun k => P18 (ix2 0 k)) (fun k => P19 (ix2 0 k)) wu bu wd (fun k => P17 (ix2 0 k)) j := by
  -- the first sub-layer's row, as the network reads it
  have h3 : ∀ r k, k0_pay3 P0 P1 P2 P3 P4 (ix2 r k) = k0_pay2 P0 P1 P2 P3 P4 (ix2 r k) := fun r k => by
    pointwise [k0_pay3]
  have h4 : ∀ r f, k0_pay4 P0 P1 P2 P3 P4 P5 (ix2 r f) = ∑ k, k0_pay3 P0 P1 P2 P3 P4 (ix2 r k) * P5 (ix2 k f) :=
    fun r f => by pointwise [k0_pay4]
  have h9' := pay9_row (k0_pay2 P0 P1 P2 P3 P4) (k0_pay3 P0 P1 P2 P3 P4)
    (k0_pay5 (k0_pay3 P0 P1 P2 P3 P4) (k0_pay4 P0 P1 P2 P3 P4 P5) P6 P7 P8 P9 P10)
    (k0_pay6 (k0_pay3 P0 P1 P2 P3 P4) P11 P12) P13 P14 P15 P16 P17
    (fun r k => alpha * inner (fun k => P0 (ix2 r k)) (fun k => ∑ l, P1 (ix2 r l) * P2 (ix2 l k))
        (fun k => P3 (ix2 0 k)) (fun k => P4 (ix2 0 k)) k
      + (down (inner (fun k => P0 (ix2 r k)) (fun k => ∑ l, P1 (ix2 r l) * P2 (ix2 l k))
        (fun k => P3 (ix2 0 k)) (fun k => P4 (ix2 0 k))) wu bu wd k + P17 (ix2 0 k)))
    (fun r j => by
      simp only [pay5_row _ _ _ _ _ _ _ _ h4, pay6_row, h3, pay2_row, h5, h6, h7, h8, h9, h10, h11, h12, h13, h14, h15, h16]
      rw [down_quarters]
      rfl)
  have h10' : k0_pay10 (k0_pay2 P0 P1 P2 P3 P4) (k0_pay3 P0 P1 P2 P3 P4)
      (k0_pay5 (k0_pay3 P0 P1 P2 P3 P4) (k0_pay4 P0 P1 P2 P3 P4 P5) P6 P7 P8 P9 P10)
      (k0_pay6 (k0_pay3 P0 P1 P2 P3 P4) P11 P12) P13 P14 P15 P16 P17 = squares (k0_pay9 (k0_pay2 P0 P1 P2 P3 P4) (k0_pay3 P0 P1 P2 P3 P4)
      (k0_pay5 (k0_pay3 P0 P1 P2 P3 P4) (k0_pay4 P0 P1 P2 P3 P4 P5) P6 P7 P8 P9 P10)
      (k0_pay6 (k0_pay3 P0 P1 P2 P3 P4) P11 P12) P13 P14 P15 P16 P17) := rfl
  rw [h10']
  generalize k0_pay9 (k0_pay2 P0 P1 P2 P3 P4) (k0_pay3 P0 P1 P2 P3 P4)
    (k0_pay5 (k0_pay3 P0 P1 P2 P3 P4) (k0_pay4 P0 P1 P2 P3 P4 P5) P6 P7 P8 P9 P10)
    (k0_pay6 (k0_pay3 P0 P1 P2 P3 P4) P11 P12) P13 P14 P15 P16 P17 = V at h9' ⊢
  pointwise [k0_pay1, k0_pay7, k0_pay8, k0_pay11, squares]
  simp only [h9']
  rfl

end Cert.Kernel2Ideal.Rows

end
-- ==== Proof.Value2.lean ====
/- The second call's result, block by block. -/
module

public import proofs.«01_k».proof.Proof.Gen.Kernel2Ideal.Value
public import proofs.«01_k».proof.Proof.Ref2
public import proofs.«01_k».proof.Proof.Rows2
public import proofs.«01_k».proof.Proof.Loads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Rows

open Cert.Kernel2Ideal Cert.Kernel2Ideal.Gen Cert.Spec

theorem idx : ∀ t : Fin cfg0.N, win0_0.index t = ![t.val / 32 * 8448 + 16 + t.val % 32 * 256, 0]
    ∧ win0_1.index t = ![t.val / 32 * 8448 + 16 + t.val % 32 * 256, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0] :=
  (by decide +kernel : ∀ t : Fin grid0.N, _)

variable (m : (ℓ : Loc nD τ sig) → Buf (Elt Ideal) ℓ)

/-! What the host code makes of the arguments, at an index. -/

theorem host_o (c : Dev nD) (n : Fin 16896) (k : Fin 1024) (b : Fin 2) (l : Fin 8448) (hn : n.val = b.val * 8448 + l.val) :
    V m c main_v14 (ix2 n k) = m ((c : Thread nD τ).loc main_arg0) (ix3 b l k) := by
  entry_read
  pointwise
  blk_ext

theorem host_h (c : Dev nD) (n : Fin 16896) (k : Fin 1024) (b : Fin 2) (l : Fin 8448) (hn : n.val = b.val * 8448 + l.val) :
    V m c main_v15 (ix2 n k) = m ((c : Thread nD τ).loc main_arg1) (ix3 b l k) := by
  entry_read
  pointwise
  blk_ext

theorem host_wo (c : Dev nD) (l k : Fin 1024) :
    V m c main_v1 (ix2 l k) = m ((c : Thread nD τ).loc main_arg8) (ix3 0 l k) := by
  entry_read
  pointwise

theorem host_g (c : Dev nD) (a : Fin 2) (k : Fin 1024) :
    V m c main_v3 (ix2 a k) = m ((c : Thread nD τ).loc main_arg2) (ix3 1 a k) := by
  entry_read
  pointwise

theorem host_b (c : Dev nD) (a : Fin 2) (k : Fin 1024) :
    V m c main_v5 (ix2 a k) = m ((c : Thread nD τ).loc main_arg3) (ix3 1 a k) := by
  entry_read
  pointwise

theorem host_wu (c : Dev nD) (k : Fin 1024) (f : Fin 4096) :
    V m c main_v8 (ix2 k f) = m ((c : Thread nD τ).loc main_arg4) (ix3 1 k f) := by
  entry_read
  pointwise

theorem host_bu (c : Dev nD) (f : Fin 4096) :
    V m c main_v9 (ix2 0 f) = m ((c : Thread nD τ).loc main_arg5) (ix2 1 f) := by
  entry_read
  pointwise

theorem host_wd (c : Dev nD) (f : Fin 4096) (k : Fin 1024) :
    V m c main_v12 (ix2 f k) = m ((c : Thread nD τ).loc main_arg6) (ix3 1 f k) := by
  entry_read
  pointwise

theorem host_bd (c : Dev nD) (k : Fin 1024) :
    V m c main_v13 (ix2 0 k) = m ((c : Thread nD τ).loc main_arg7) (ix2 1 k) := by
  entry_read
  pointwise

/-! The blocks the body loads: the two row windows begin at an element, the others are whole arrays. -/

theorem rows_o (c : Dev nD) (t : Fin cfg0.N) (r : Fin 256) (k : Fin 1024) (n : Fin 16896)
    (hn : n.val = t.val / 32 * 8448 + 16 + t.val % 32 * 256 + r.val) :
    iblk m c 0 t (ix2 r k) = V m c main_v14 (ix2 n k) := by
  blk_simp [iblk]
  refine congrArg _ (funext fun a => Fin.ext ?_)
  refine (win0_0.rect_emb_val_off t (ix2 r k) a).trans ?_
  rw [(idx t).1]
  match a with
  | 0 => exact hn.symm
  | 1 => exact Nat.zero_add _

theorem rows_h (c : Dev nD) (t : Fin cfg0.N) (r : Fin 256) (k : Fin 1024) (n : Fin 16896)
    (hn : n.val = t.val / 32 * 8448 + 16 + t.val % 32 * 256 + r.val) :
    iblk m c 1 t (ix2 r k) = V m c main_v15 (ix2 n k) := by
  blk_simp [iblk]
  refine congrArg _ (funext fun a => Fin.ext ?_)
  refine (win0_1.rect_emb_val_off t (ix2 r k) a).trans ?_
  rw [(idx t).2.1]
  match a with
  | 0 => exact hn.symm
  | 1 => exact Nat.zero_add _

theorem whole2 (c : Dev nD) (t : Fin cfg0.N) : iblk m c 2 t = V m c main_v1 := by blk_ext! [iblk, idx t]
theorem whole3 (c : Dev nD) (t : Fin cfg0.N) : iblk m c 3 t = V m c main_v3 := by blk_ext! [iblk, idx t]
theorem whole4 (c : Dev nD) (t : Fin cfg0.N) : iblk m c 4 t = V m c main_v5 := by blk_ext! [iblk, idx t]
theorem whole5 (c : Dev nD) (t : Fin cfg0.N) : iblk m c 5 t = V m c main_v8 := by blk_ext! [iblk, idx t]
theorem whole6 (c : Dev nD) (t : Fin cfg0.N) : iblk m c 6 t = V m c main_v9 := by blk_ext! [iblk, idx t]
theorem whole7 (c : Dev nD) (t : Fin cfg0.N) : iblk m c 7 t = V m c main_v12 := by blk_ext! [iblk, idx t]
theorem whole8 (c : Dev nD) (t : Fin cfg0.N) : iblk m c 8 t = V m c main_v13 := by blk_ext! [iblk, idx t]

/-- The body's row over whole matrices: the loads are the quarters and the two norms' rows. -/
theorem loads_row (P0 : Vec Ideal S256x1024 .f32) (P1 : Vec Ideal S256x1024 .bf16) (P2 : Vec Ideal S1024x1024 .bf16)
    (G B : Vec Ideal S2x1024 .f32) (WU : Vec Ideal S1024x4096 .bf16) (BU : Vec Ideal S1x4096 .f32)
    (WD : Vec Ideal S4096x1024 .bf16) (BD : Vec Ideal S1x1024 .f32) (r : Fin 256) (j : Fin 1024) :
    k0_pay1 (k0_pay7 (View.ld G r0_16)) (k0_pay8 (View.ld B r0_16))
        (k0_pay9 (k0_pay2 P0 P1 P2 (View.ld G r0_2) (View.ld B r0_2)) (k0_pay3 P0 P1 P2 (View.ld G r0_2) (View.ld B r0_2))
          (k0_pay5 (k0_pay3 P0 P1 P2 (View.ld G r0_2) (View.ld B r0_2))
            (k0_pay4 P0 P1 P2 (View.ld G r0_2) (View.ld B r0_2) (View.ld WU r0_3))
            (View.ld BU r0_4) (View.ld WD r0_5) (View.ld WU r0_6) (View.ld BU r0_7) (View.ld WD r0_8))
          (k0_pay6 (k0_pay3 P0 P1 P2 (View.ld G r0_2) (View.ld B r0_2)) (View.ld WU r0_9) (View.ld BU r0_10))
          (View.ld WD r0_11) (View.ld WU r0_12) (View.ld BU r0_13) (View.ld WD r0_14) BD)
        (k0_pay10 (k0_pay2 P0 P1 P2 (View.ld G r0_2) (View.ld B r0_2)) (k0_pay3 P0 P1 P2 (View.ld G r0_2) (View.ld B r0_2))
          (k0_pay5 (k0_pay3 P0 P1 P2 (View.ld G r0_2) (View.ld B r0_2))
            (k0_pay4 P0 P1 P2 (View.ld G r0_2) (View.ld B r0_2) (View.ld WU r0_3))
            (View.ld BU r0_4) (View.ld WD r0_5) (View.ld WU r0_6) (View.ld BU r0_7) (View.ld WD r0_8))
          (k0_pay6 (k0_pay3 P0 P1 P2 (View.ld G r0_2) (View.ld B r0_2)) (View.ld WU r0_9) (View.ld BU r0_10))
          (View.ld WD r0_11) (View.ld WU r0_12) (View.ld BU r0_13) (View.ld WD r0_14) BD)
        (k0_pay11 (F := Ideal)) (ix2 r j)
      = layer (fun k => P0 (ix2 r k)) (fun k => ∑ l, P1 (ix2 r l) * P2 (ix2 l k)) (fun k => G (ix2 0 k))
          (fun k => B (ix2 0 k)) (fun k => G (ix2 1 k)) (fun k => B (ix2 1 k)) (fun k f => WU (ix2 k f))
          (fun f => BU (ix2 0 f)) (fun f k => WD (ix2 f k)) (fun k => BD (ix2 0 k)) j := by
  have g0 : ∀ k, View.ld G r0_2 (ix2 0 k) = G (ix2 0 k) := fun k => piece _ _ _ _ _ _ _ _ (from_zero 0) (from_zero k)
  have g1 : ∀ k, View.ld G r0_16 (ix2 0 k) = G (ix2 1 k) := fun k => piece _ _ _ _ _ _ _ _ rfl (from_zero k)
  have b0 : ∀ k, View.ld B r0_2 (ix2 0 k) = B (ix2 0 k) := fun k => piece _ _ _ _ _ _ _ _ (from_zero 0) (from_zero k)
  have b1 : ∀ k, View.ld B r0_16 (ix2 0 k) = B (ix2 1 k) := fun k => piece _ _ _ _ _ _ _ _ rfl (from_zero k)
  refine (body_row P0 P1 P2 _ _ _ _ _ _ _ _ _ _ _ _ _ _ BD _ _ (fun k f => WU (ix2 k f))
    (fun f => BU (ix2 0 f)) (fun f k => WD (ix2 f k))
    (fun k f => piece _ _ _ _ _ _ _ _ (from_zero k) (quarter_val 0 f _ rfl))
    (fun k f => piece _ _ _ _ _ _ _ _ (from_zero k) (quarter_val 1 f _ rfl))
    (fun k f => piece _ _ _ _ _ _ _ _ (from_zero k) (quarter_val 2 f _ rfl))
    (fun k f => piece _ _ _ _ _ _ _ _ (from_zero k) (quarter_val 3 f _ rfl))
    (fun f => piece _ _ _ _ _ _ _ _ (from_zero 0) (quarter_val 0 f _ rfl))
    (fun f => piece _ _ _ _ _ _ _ _ (from_zero 0) (quarter_val 1 f _ rfl))
    (fun f => piece _ _ _ _ _ _ _ _ (from_zero 0) (quarter_val 2 f _ rfl))
    (fun f => piece _ _ _ _ _ _ _ _ (from_zero 0) (quarter_val 3 f _ rfl))
    (fun f k => piece _ _ _ _ _ _ _ _ (quarter_val 0 f _ rfl) (from_zero k))
    (fun f k => piece _ _ _ _ _ _ _ _ (quarter_val 1 f _ rfl) (from_zero k))
    (fun f k => piece _ _ _ _ _ _ _ _ (quarter_val 2 f _ rfl) (from_zero k))
    (fun f k => piece _ _ _ _ _ _ _ _ (quarter_val 3 f _ rfl) (from_zero k)) r j).trans ?_
  simp only [g0, g1, b0, b1]

/-- The result array is the reference's, over the kernel's arguments. -/
theorem final (c : Dev nD) : (dats m 0 c).arrAt 9 (cfgs 0).N
    = Cert.Reference2Ideal.Read.val_main_v82 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t _ y => ?_
  idx_vars y
  have ht : t.val < 64 := t.isLt
  have hy := y0.isLt
  blk_simp
  rw [after0_9]
  unfold_out out0_9
  frame_out
  -- the row's sequence and its place in it
  have e : ((View.whole main_v16).slice (win0_9.rect t)).emb (ix2 y0 y1) = ix2 (⟨t.val * 256 + y0.val, by omega⟩ : Fin 16384) y1 := by
    refine funext fun a => Fin.ext ?_
    refine (win0_9.rect_emb_val t (ix2 y0 y1) a).trans ?_
    rw [(idx t).2.2.2.2.2.2.2.2.2]
    match a with
    | 0 => rfl
    | 1 => exact (congrArg (· + y1.val) (Nat.zero_mul _)).trans (Nat.zero_add _)
  rw [e]
  obtain ⟨b, hb⟩ : ∃ b : Fin 2, b.val = t.val / 32 := ⟨⟨t.val / 32, by omega⟩, rfl⟩
  obtain ⟨l, hl⟩ : ∃ l : Fin 8448, l.val = 16 + t.val % 32 * 256 + y0.val := ⟨⟨16 + t.val % 32 * 256 + y0.val, by omega⟩, rfl⟩
  obtain ⟨n, hn⟩ : ∃ n : Fin 16896, n.val = b.val * 8448 + l.val := ⟨⟨b.val * 8448 + l.val, by omega⟩, rfl⟩
  have hn' : n.val = t.val / 32 * 8448 + 16 + t.val % 32 * 256 + y0.val := by
    rw [hn, hb, hl, ← Nat.add_assoc, ← Nat.add_assoc]
  have h1 : ∀ k, iblk m c 1 t (ix2 y0 k) = m ((c : Thread nD τ).loc main_arg1) (ix3 b l k) :=
    fun k => (rows_h m c t y0 k n hn').trans (host_h m c n k b l hn)
  have h0 : ∀ k, iblk m c 0 t (ix2 y0 k) = m ((c : Thread nD τ).loc main_arg0) (ix3 b l k) :=
    fun k => (rows_o m c t y0 k n hn').trans (host_o m c n k b l hn)
  refine (loads_row _ _ _ _ _ _ _ _ _ y0 y1).trans ?_
  refine Eq.trans ?_ (Cert.Reference2Ideal.Rows.result_row _ _ _ _ _ _ _ _ _ _ y1 b l ?_ ?_).symm
  · exact layer_congr h1
      (fun k => Finset.sum_congr rfl fun q _ => congrArg₂ (fun a b : EReal => a * b) (h0 q) ((congrFun (whole2 m c t) _).trans (host_wo m c q k)))
      (fun k => (congrFun (whole3 m c t) _).trans (host_g m c 0 k)) (fun k => (congrFun (whole4 m c t) _).trans (host_b m c 0 k))
      (fun k => (congrFun (whole3 m c t) _).trans (host_g m c 1 k)) (fun k => (congrFun (whole4 m c t) _).trans (host_b m c 1 k))
      (fun k f => (congrFun (whole5 m c t) _).trans (host_wu m c k f)) (fun f => (congrFun (whole6 m c t) _).trans (host_bu m c f))
      (fun f k => (congrFun (whole7 m c t) _).trans (host_wd m c f k)) (fun k => (congrFun (whole8 m c t) _).trans (host_bd m c k)) y1
  · show b.val = (t.val * 256 + y0.val) / 8192
    omega
  · show l.val = 16 + (t.val * 256 + y0.val) % 8192
    omega

end Cert.Kernel2Ideal.Rows

end
-- ==== Proof.Second.lean ====
/- The second call's value claim. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Value2
public import Idealize.ShloMosaic.Lib.Claim

@[expose] public section

set_option maxRecDepth 16384

noncomputable section

open Idealize.ShloMosaic Idealize.ShloMosaic.TcCoe Idealize.SL.Sem

namespace Cert.Second

attribute [local instance] Cert.Kernel2Ideal.Gen.facts Cert.Reference2Ideal.Gen.facts

section
open Cert.Reference2Ideal

/-- The reference's run: its result over the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v82) = Read.val_main_v82
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (Value.run m ρ)
  obtain ⟨h1, h2⟩ := h c
  refine ⟨?_, h2⟩
  rw [h1, Read.val_main_v82_eq]

end

theorem algebraic : Cert.algebraic_Kernel2Ideal_Reference2Ideal := by
  pair_intro
  · run_from Cert.Kernel2Ideal.Value.run_blocks m g
  · refine (θ_run _ _ _).mono (fun r h c => ?_) (ref_run m' g')
    obtain ⟨h1, h2⟩ := h c
    refine ⟨?_, h2⟩
    obtain ⟨a0, a1, a2, a3, a4, a5, a6, a7, a8⟩ := hagree c
    rw [h1, a0, a1, a2, a3, a4, a5, a6, a7, a8]
    exact (Cert.Kernel2Ideal.Rows.final m c).symm

theorem frame : Cert.quiescent_Reference2Ideal := by
  intro m ρ _
  exact (θ_run _ _ _).mono (fun r h => ⟨fun c => (h c).2, sem_eq_zero_of_no_sems rfl _⟩) (ref_run m ρ)

end Cert.Second

end
-- ==== Proof.Operands3.lean ====
/- The operands of the sample batch's first call: what the host code makes of the arguments, and the blocks the body loads. -/
module

public import proofs.«01_k».proof.Proof.Gen.Kernel3Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Rows

open Cert.Kernel3Ideal Cert.Kernel3Ideal.Gen

theorem idx : ∀ t : Fin cfg0.N, win0_0.index t = ![0, 0, 0]
    ∧ win0_1.index t = ![0, 4, 0]
    ∧ win0_2.index t = ![0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0, 0]
    ∧ win0_16.index t = ![0, 0, 0]
    ∧ win0_17.index t = ![0, 0, 0]
    ∧ win0_18.index t = ![0, 0, 0] :=
  (by decide +kernel : ∀ t : Fin grid0.N, _)

variable (m : (ℓ : Loc nD τ sig) → Buf (Elt Ideal) ℓ)

theorem host_pool (c : Dev nD) (g : Fin 4) (a b : Fin 256) :
    V m c main_v1 (ix3 g a b) = m ((c : Thread nD τ).loc main_arg5) (ix4 0 g a b) := by
  entry_read
  pointwise

theorem host_g (c : Dev nD) (a : Fin 2) (k : Fin 1024) :
    V m c main_v3 (ix2 a k) = m ((c : Thread nD τ).loc main_arg3) (ix3 0 a k) := by
  entry_read
  pointwise

theorem host_b (c : Dev nD) (a : Fin 2) (k : Fin 1024) :
    V m c main_v5 (ix2 a k) = m ((c : Thread nD τ).loc main_arg4) (ix3 0 a k) := by
  entry_read
  pointwise

theorem host_wu (c : Dev nD) (k : Fin 1024) (f : Fin 4096) :
    V m c main_v8 (ix2 k f) = m ((c : Thread nD τ).loc main_arg8) (ix3 0 k f) := by
  entry_read
  pointwise

theorem host_bu (c : Dev nD) (f : Fin 4096) :
    V m c main_v9 (ix2 0 f) = m ((c : Thread nD τ).loc main_arg9) (ix2 0 f) := by
  entry_read
  pointwise

theorem host_wd (c : Dev nD) (f : Fin 4096) (k : Fin 1024) :
    V m c main_v12 (ix2 f k) = m ((c : Thread nD τ).loc main_arg10) (ix3 0 f k) := by
  entry_read
  pointwise

theorem host_bd (c : Dev nD) (k : Fin 1024) :
    V m c main_v13 (ix2 0 k) = m ((c : Thread nD τ).loc main_arg11) (ix2 0 k) := by
  entry_read
  pointwise

theorem host_wk (c : Dev nD) (j k : Fin 1024) :
    V m c main_v16 (ix2 j k) = m ((c : Thread nD τ).loc main_arg12) (ix2 k ⟨j.val, by omega⟩) := by
  entry_read
  pointwise

theorem host_wv (c : Dev nD) (j k : Fin 1024) :
    V m c main_v19 (ix2 j k) = m ((c : Thread nD τ).loc main_arg12) (ix2 k ⟨1024 + j.val, by omega⟩) := by
  entry_read
  pointwise

theorem host_wq (c : Dev nD) (k j : Fin 1024) :
    V m c main_v21 (ix2 k j) = m ((c : Thread nD τ).loc main_arg13) (ix3 0 k j) := by
  entry_read
  pointwise

theorem host_b0 (c : Dev nD) (k : Fin 1024) : V m c main_arg6 (ix2 0 k) = m ((c : Thread nD τ).loc main_arg6) (ix2 0 k) := by
  entry_read
  rfl

theorem host_s0 (c : Dev nD) (k : Fin 1024) : V m c main_arg7 (ix2 0 k) = m ((c : Thread nD τ).loc main_arg7) (ix2 0 k) := by
  entry_read
  rfl

/-! The rows before the block and the block's own: one array of rows, position by position. -/

/-- The operations that lay out the rows. -/
abbrev tailOps : List (HloOp τ sig (Elt Ideal)) :=
  [ StableHlo.reshape main_arg1 main_v22 (rfl : (.f32 : EltTy) = .f32) shapeCasts_S1x32x15x1024_S32x15x1024,
    StableHlo.nullary main_cst (constant (F := Ideal) S_ .f32 0x00000000#32),
    StableHlo.unary main_cst main_v23 (broadcastInDim S1x32x1024 ![] bcast_S_S1x32x1024 : (⟨S_, .f32⟩ : BufTy).Contents (Elt Ideal) → (⟨S1x32x1024, .f32⟩ : BufTy).Contents (Elt Ideal)),
    StableHlo.unary main_v22 main_v24 ((transpose S15x32x1024 [1, 0, 2] · transposes_S32x15x1024_S15x32x1024_1_0_2) : (⟨S32x15x1024, .f32⟩ : BufTy).Contents (Elt Ideal) → (⟨S15x32x1024, .f32⟩ : BufTy).Contents (Elt Ideal)),
    StableHlo.unary main_arg0 main_v25 ((transpose S4x32x1024 [1, 0, 2] · transposes_S32x4x1024_S4x32x1024_1_0_2) : (⟨S32x4x1024, .f32⟩ : BufTy).Contents (Elt Ideal) → (⟨S4x32x1024, .f32⟩ : BufTy).Contents (Elt Ideal)),
    StableHlo.nary ![main_v23, main_v24, main_v25] main_v26 (fun u => (concatenate S20x32x1024 0 [⟨S1x32x1024, (u 0 : (⟨S1x32x1024, .f32⟩ : BufTy).Contents (Elt Ideal))⟩, ⟨S15x32x1024, (u 1 : (⟨S15x32x1024, .f32⟩ : BufTy).Contents (Elt Ideal))⟩, ⟨S4x32x1024, (u 2 : (⟨S4x32x1024, .f32⟩ : BufTy).Contents (Elt Ideal))⟩] concatenates_S1x32x1024_S15x32x1024_S4x32x1024_S20x32x1024_d0 : (⟨S20x32x1024, .f32⟩ : BufTy).Contents (Elt Ideal))),
    StableHlo.binary main_v22 main_arg0 main_v27 ((fun a b => concatenate S32x19x1024 1 [⟨S32x15x1024, a⟩, ⟨S32x4x1024, b⟩] concatenates_S32x15x1024_S32x4x1024_S32x19x1024_d1) : (⟨S32x15x1024, .f32⟩ : BufTy).Contents (Elt Ideal) → (⟨S32x4x1024, .f32⟩ : BufTy).Contents (Elt Ideal) → (⟨S32x19x1024, .f32⟩ : BufTy).Contents (Elt Ideal)),
    StableHlo.unary main_v27 main_v28 ((extractStridedSlice S32x15x1024 ![0, 4, 0] · slices_S32x19x1024_S32x15x1024_0_4_0) : (⟨S32x19x1024, .f32⟩ : BufTy).Contents (Elt Ideal) → (⟨S32x15x1024, .f32⟩ : BufTy).Contents (Elt Ideal)),
    StableHlo.unary main_v28 main_v29 (broadcastInDim S1x32x15x1024 ![1, 2, 3] bcast_S32x15x1024_S1x32x15x1024_1_2_3 : (⟨S32x15x1024, .f32⟩ : BufTy).Contents (Elt Ideal) → (⟨S1x32x15x1024, .f32⟩ : BufTy).Contents (Elt Ideal)),
    StableHlo.reshape main_v26 main_v30 (rfl : (.f32 : EltTy) = .f32) shapeCasts_S20x32x1024_S1x640x1024 ]

theorem ops_split : (hostOps0 : List (HloOp τ sig (Elt Ideal))) = hostOps0.take 22 ++ tailOps :=
  (List.take_append_drop 22 _).symm

/-- The rows laid out: none, the context's and the new ones, position by position. -/
abbrev laid (x : Vec Ideal S1x32x15x1024 .f32) (y : Vec Ideal S32x4x1024 .f32) : Vec Ideal S1x640x1024 .f32 :=
  shapeCast S1x640x1024 (concatenate S20x32x1024 0
      [⟨S1x32x1024, broadcastInDim S1x32x1024 ![] bcast_S_S1x32x1024 (constant (F := Ideal) S_ .f32 0x00000000#32)⟩,
       ⟨S15x32x1024, transpose S15x32x1024 [1, 0, 2] (shapeCast S32x15x1024 x shapeCasts_S1x32x15x1024_S32x15x1024) transposes_S32x15x1024_S15x32x1024_1_0_2⟩,
       ⟨S4x32x1024, transpose S4x32x1024 [1, 0, 2] y transposes_S32x4x1024_S4x32x1024_1_0_2⟩]
      concatenates_S1x32x1024_S15x32x1024_S4x32x1024_S20x32x1024_d0) shapeCasts_S20x32x1024_S1x640x1024

theorem tail_v30 (X : Valuation τ sig (Elt Ideal)) : StableHlo.after tailOps X main_v30 = laid (X main_arg1) (X main_arg0) := by
  simp only [StableHlo.after_cons, StableHlo.after_nil]
  rw [StableHlo.reshape_result, StableHlo.unary_result_ne _ _ _ _ _ _ (by decide), StableHlo.unary_result_ne _ _ _ _ _ _ (by decide), StableHlo.binary_result_ne _ _ _ _ _ _ _ _ (by decide), StableHlo.nary_result]
  dsimp only [Matrix.cons_val]
  rw [StableHlo.unary_result_ne _ _ _ _ _ _ (by decide), StableHlo.unary_result_ne _ _ _ _ _ _ (by decide), StableHlo.unary_result, StableHlo.nullary_result]
  rw [StableHlo.unary_result_ne _ _ _ _ _ _ (by decide), StableHlo.unary_result, StableHlo.unary_result_ne _ _ _ _ _ _ (by decide), StableHlo.nullary_result_ne _ _ _ _ (by decide), StableHlo.reshape_result]
  rw [StableHlo.unary_result, StableHlo.unary_result_ne _ _ _ _ _ _ (by decide), StableHlo.unary_result_ne _ _ _ _ _ _ (by decide), StableHlo.nullary_result_ne _ _ _ _ (by decide), StableHlo.reshape_result_ne main_arg1 main_v22 _ _ _ _ _ (by decide)]
  rfl

theorem laid_ctx (x : Vec Ideal S1x32x15x1024 .f32) (y : Vec Ideal S32x4x1024 .f32) (R : Fin 640) (k : Fin 1024) (n : Fin 15) (b : Fin 32)
    (hR : R.val = (n.val + 1) * 32 + b.val) : laid x y (ix3 0 R k) = x (ix4 0 b n k) := by
  have hr := R.isLt
  have hb := b.isLt
  have hn := n.isLt
  pointwise
  rw [dif_neg (by omega), dif_pos (by omega)]
  exact congrArg₂ (fun p q => x (ix4 0 p q k)) (Fin.ext (by show R.val % 32 = b.val; omega)) (Fin.ext (by show R.val / 32 - 1 = n.val; omega))

theorem laid_new (x : Vec Ideal S1x32x15x1024 .f32) (y : Vec Ideal S32x4x1024 .f32) (R : Fin 640) (k : Fin 1024) (n : Fin 4) (b : Fin 32)
    (hR : R.val = (n.val + 16) * 32 + b.val) : laid x y (ix3 0 R k) = y (ix3 b n k) := by
  have hr := R.isLt
  have hb := b.isLt
  have hn := n.isLt
  pointwise
  rw [dif_neg (by omega), dif_neg (by omega)]
  exact congrArg₂ (fun p q => y (ix3 p q k)) (Fin.ext (by show R.val % 32 = b.val; omega)) (Fin.ext (by show R.val / 32 - 1 - 15 = n.val; omega))

theorem host_laid (c : Dev nD) : V m c main_v30 = laid (m ((c : Thread nD τ).loc main_arg1)) (m ((c : Thread nD τ).loc main_arg0)) := by
  have e : V m c main_v30 = StableHlo.after tailOps (StableHlo.after (hostOps0.take 22) fun b => m (c, b)) main_v30 :=
    (congrArg (fun l => StableHlo.after l (fun b => m (c, b)) main_v30) ops_split).trans (by rw [StableHlo.after_append])
  have e1 : (StableHlo.after ((hostOps0 : List (HloOp τ sig (Elt Ideal))).take 22) fun b => m (c, b)) main_arg1 = m ((c : Thread nD τ).loc main_arg1) := by
    entry_read
    rfl
  have e0 : (StableHlo.after ((hostOps0 : List (HloOp τ sig (Elt Ideal))).take 22) fun b => m (c, b)) main_arg0 = m ((c : Thread nD τ).loc main_arg0) := by
    entry_read
    rfl
  rw [e, tail_v30, e1, e0]

theorem prev_block (c : Dev nD) (t : Fin cfg0.N) (q : Fin 512) (k : Fin 1024) :
    X0_0 m c t (ix3 0 q k) = V m c main_v30 (ix3 0 ⟨q.val, by omega⟩ k) := by
  unfold X0_0 Pipeline.Window.fill
  rw [dif_pos (moved0_0 t _)]
  generalize hz : (fun a => ⟨((ix3 0 q k : (cfg0.win 0).block.Idx) a).val, _⟩ : ((cfg0.win 0).xblock (cfg0.grid.coords t)).Idx) = z
  have z0 : (z (0 : Fin 3)).val = 0 := by rw [← hz]; rfl
  have z1 : (z (1 : Fin 3)).val = q.val := by rw [← hz]; rfl
  have z2 : (z (2 : Fin 3)).val = k.val := by rw [← hz]; rfl
  have e0 : ((win0_0.blk t).view.emb z (0 : Fin 3)).val = 0 := by
    refine (win0_0.rect_emb_val t z (0 : Fin 3)).trans ?_
    rw [(idx t).1, z0]; rfl
  have e1 : ((win0_0.blk t).view.emb z (1 : Fin 3)).val = q.val := by
    refine (win0_0.rect_emb_val t z (1 : Fin 3)).trans ?_
    rw [(idx t).1, z1]; exact (congrArg (· + q.val) (Nat.zero_mul _)).trans (Nat.zero_add _)
  have e2 : ((win0_0.blk t).view.emb z (2 : Fin 3)).val = k.val := by
    refine (win0_0.rect_emb_val t z (2 : Fin 3)).trans ?_
    rw [(idx t).1, z2]; exact (congrArg (· + k.val) (Nat.zero_mul _)).trans (Nat.zero_add _)
  have read : ∀ f : Vec Ideal S1x640x1024 .f32, ((cfg0.win 0).blk t).view.read (Elt Ideal) f z = f ((win0_0.blk t).view.emb z) := fun f => rfl
  refine (read (V m c main_v30)).trans ?_
  exact congrArg _ (funext fun a => Fin.ext (by match a with | 0 => exact e0 | 1 => exact e1 | 2 => exact e2))

theorem cur_block (c : Dev nD) (t : Fin cfg0.N) (q : Fin 128) (k : Fin 1024) :
    iblk m c 1 t (ix3 0 q k) = V m c main_v30 (ix3 0 ⟨512 + q.val, by omega⟩ k) := by
  have e0 : ((win0_1.blk t).view.emb (ix3 0 q k) (0 : Fin 3)).val = 0 := by
    refine (win0_1.rect_emb_val t (ix3 0 q k) (0 : Fin 3)).trans ?_
    rw [(idx t).2.1]; rfl
  have e1 : ((win0_1.blk t).view.emb (ix3 0 q k) (1 : Fin 3)).val = 512 + q.val := by
    refine (win0_1.rect_emb_val t (ix3 0 q k) (1 : Fin 3)).trans ?_
    rw [(idx t).2.1]; rfl
  have e2 : ((win0_1.blk t).view.emb (ix3 0 q k) (2 : Fin 3)).val = k.val := by
    refine (win0_1.rect_emb_val t (ix3 0 q k) (2 : Fin 3)).trans ?_
    rw [(idx t).2.1]; exact (congrArg (· + k.val) (Nat.zero_mul _)).trans (Nat.zero_add _)
  have read : ∀ f : Vec Ideal S1x640x1024 .f32, ((cfg0.win 1).blk t).view.read (Elt Ideal) f (ix3 0 q k) = f ((win0_1.blk t).view.emb (ix3 0 q k)) := fun f => rfl
  refine (read (V m c main_v30)).trans ?_
  exact congrArg _ (funext fun a => Fin.ext (by match a with | 0 => exact e0 | 1 => exact e1 | 2 => exact e2))

theorem whole3 (c : Dev nD) (t : Fin cfg0.N) : iblk m c 3 t = V m c main_v1 := by blk_ext! [iblk, idx t]
theorem whole4 (c : Dev nD) (t : Fin cfg0.N) : iblk m c 4 t = V m c main_arg6 := by blk_ext! [iblk, idx t]
theorem whole5 (c : Dev nD) (t : Fin cfg0.N) : iblk m c 5 t = V m c main_arg7 := by blk_ext! [iblk, idx t]
theorem whole6 (c : Dev nD) (t : Fin cfg0.N) : iblk m c 6 t = V m c main_v3 := by blk_ext! [iblk, idx t]
theorem whole7 (c : Dev nD) (t : Fin cfg0.N) : iblk m c 7 t = V m c main_v5 := by blk_ext! [iblk, idx t]
theorem whole8 (c : Dev nD) (t : Fin cfg0.N) : iblk m c 8 t = V m c main_v8 := by blk_ext! [iblk, idx t]
theorem whole9 (c : Dev nD) (t : Fin cfg0.N) : iblk m c 9 t = V m c main_v9 := by blk_ext! [iblk, idx t]
theorem whole10 (c : Dev nD) (t : Fin cfg0.N) : iblk m c 10 t = V m c main_v12 := by blk_ext! [iblk, idx t]
theorem whole11 (c : Dev nD) (t : Fin cfg0.N) : iblk m c 11 t = V m c main_v13 := by blk_ext! [iblk, idx t]
theorem whole12 (c : Dev nD) (t : Fin cfg0.N) : iblk m c 12 t = V m c main_v16 := by blk_ext! [iblk, idx t]
theorem whole13 (c : Dev nD) (t : Fin cfg0.N) : iblk m c 13 t = V m c main_v19 := by blk_ext! [iblk, idx t]
theorem whole14 (c : Dev nD) (t : Fin cfg0.N) : iblk m c 14 t = V m c main_v21 := by blk_ext! [iblk, idx t]

end Cert.Kernel3Ideal.Rows

end
-- ==== Proof.Rows3.lean ====
/- The body of the sample batch's first call, a row at a time: what the body computes from its blocks is the pooling layer's row. -/
module

public import proofs.«01_k».proof.Proof.Gen.Kernel3Ideal.Skeleton
public import proofs.«01_k».proof.Proof.Pool
public import proofs.«01_k».proof.Proof.Rows1
public import Idealize.ShloMosaic.Lib.Pipeline.ValueKit

@[expose] public section

set_option maxRecDepth 16384

noncomputable section

open Idealize.ShloMosaic Idealize.ShloMosaic.TcCoe Idealize.SL.Sem

namespace Cert.Kernel3Ideal.Rows

open Cert.Kernel3Ideal Cert.Kernel3Ideal.Gen Cert.Spec

/-! ## The pooling mixer, a group at a time -/

theorem half_eq : Ideal.ofBits FTy.f32 0x3F000000#32 = (((1 : ℝ) / 2 : ℝ) : EReal) := by
  simp [Ideal.ofBits, Ideal.ieee, -EReal.coe_mul]; norm_num

theorem fourth_eq : Ideal.ofBits FTy.f32 0x3E800000#32 = (((1 : ℝ) / 4 : ℝ) : EReal) := by
  simp [Ideal.ofBits, Ideal.ieee, -EReal.coe_mul]; norm_num

theorem eighth_eq : Ideal.ofBits FTy.f32 0x3E000000#32 = (((1 : ℝ) / 8 : ℝ) : EReal) := by
  simp [Ideal.ofBits, Ideal.ieee, -EReal.coe_mul]; norm_num

theorem sixteenth_eq : Ideal.ofBits FTy.f32 0x3D800000#32 = (((1 : ℝ) / 16 : ℝ) : EReal) := by
  simp [Ideal.ofBits, Ideal.ieee, -EReal.coe_mul]; norm_num

section Groups

variable (u : ℕ → Row 1024) (n : ℕ) (hn : 15 ≤ n) (r : Fin 128)

/-- A full window's mean less the row, from the window's sum as the body adds it and the reciprocal it multiplies by. -/
theorem pooled_of (u : ℕ → Row 1024) (n : ℕ) (hn : 15 ≤ n) (g : Fin 4) (c : Fin 256) (s q : EReal)
    (hs : s = winSum u (width g) n (col g c)) (hq : q = (((1 : ℝ) / (width g : ℕ) : ℝ) : EReal)) :
    s * q - u n (col g c) = pooled u n g c := by
  subst hs hq
  have hw : width g ≤ 16 := by
    unfold width
    calc 2 ^ (g.val + 1) ≤ 2 ^ 4 := Nat.pow_le_pow_right (by norm_num) (by omega)
      _ = 16 := by norm_num
  have hw0 : 0 < width g := by unfold width; positivity
  have hc : Cert.Spec.count (width g) n = (((width g : ℕ) : ℝ) : EReal) := by
    unfold Cert.Spec.count
    rw [Nat.min_eq_right (by omega)]
  unfold pooled
  rw [hc, Ideal.div_coe (Nat.cast_ne_zero.mpr (by omega))]

theorem back_zero (u : ℕ → Row 1024) (n : ℕ) (d : Fin 1024) : back u n 0 d = u n d := by simp [back]

theorem pay3_row (v0 : Vec Ideal S1x128x1024 .f32) (r : Fin 128) (j : Fin 1024) : k0_pay3 v0 (ix2 r j) = v0 (ix3 0 r j) := by
  pointwise [k0_pay3]

include hn

theorem pay6_row (v0 : Vec Ideal S1x128x1024 .f32) (h0 : ∀ j, v0 (ix3 0 r j) = u n j) (v11 : Vec Ideal S128x256 .f32)
    (v18 : Vec Ideal S1x256x256 .bf16) (e1 : ∀ c, v11 (ix2 r c) = back u n 1 (col 0 c)) (c : Fin 256) :
    k0_pay6 v0 v11 v18 (ix2 r c) = mixed u n 0 (fun a b => v18 (ix3 0 a b)) c := by
  pointwise [k0_pay6, k0_pay3]
  refine Finset.sum_congr rfl fun a _ => congrArg (fun z : EReal => z * v18 (ix3 0 a c)) ?_
  rw [h0, e1]
  have hc : (⟨a.val, by omega⟩ : Fin 1024) = col 0 a := Fin.ext (by simp [col])
  rw [hc]
  refine pooled_of u n hn 0 a _ _ ?_ (half_eq.trans (by norm_num [width]))
  simp [winSum, width, Finset.sum_range_succ, back_zero]

theorem pay8_row (v0 : Vec Ideal S1x128x1024 .f32) (h0 : ∀ j, v0 (ix3 0 r j) = u n j) (v22 v24 v26 : Vec Ideal S128x256 .f32)
    (v33 : Vec Ideal S1x256x256 .bf16) (e1 : ∀ c, v22 (ix2 r c) = back u n 1 (col 1 c)) (e2 : ∀ c, v24 (ix2 r c) = back u n 2 (col 1 c)) (e3 : ∀ c, v26 (ix2 r c) = back u n 3 (col 1 c)) (c : Fin 256) :
    k0_pay8 (k0_pay7 v0 v22 v24 v26) v33 (ix2 r c) = mixed u n 1 (fun a b => v33 (ix3 0 a b)) c := by
  pointwise [k0_pay8, k0_pay7, k0_pay3]
  refine Finset.sum_congr rfl fun a _ => congrArg (fun z : EReal => z * v33 (ix3 0 a c)) ?_
  rw [h0, e1, e2, e3]
  refine pooled_of u n hn 1 a _ _ ?_ (fourth_eq.trans (by norm_num [width]))
  simp [winSum, width, Finset.sum_range_succ, back_zero]
  rfl

variable (v1 : FVec Ideal S128x1024 .f32) (h1 : ∀ j, v1 (ix2 r j) = u n j)

include h1

theorem pay9_row (v37 v39 v41 v43 v45 v47 v49 : Vec Ideal S128x256 .f32) (v56 : Vec Ideal S1x256x256 .bf16)
    (e1 : ∀ c, v37 (ix2 r c) = back u n 1 (col 2 c)) (e2 : ∀ c, v39 (ix2 r c) = back u n 2 (col 2 c)) (e3 : ∀ c, v41 (ix2 r c) = back u n 3 (col 2 c)) (e4 : ∀ c, v43 (ix2 r c) = back u n 4 (col 2 c)) (e5 : ∀ c, v45 (ix2 r c) = back u n 5 (col 2 c)) (e6 : ∀ c, v47 (ix2 r c) = back u n 6 (col 2 c)) (e7 : ∀ c, v49 (ix2 r c) = back u n 7 (col 2 c)) (c : Fin 256) :
    k0_pay9 v1 v37 v39 v41 v43 v45 v47 v49 v56 (ix2 r c) = mixed u n 2 (fun a b => v56 (ix3 0 a b)) c := by
  pointwise [k0_pay9]
  refine Finset.sum_congr rfl fun a _ => congrArg (fun z : EReal => z * v56 (ix3 0 a c)) ?_
  rw [h1, e1, e2, e3, e4, e5, e6, e7]
  refine pooled_of u n hn 2 a _ _ ?_ (eighth_eq.trans (by norm_num [width]))
  simp [winSum, width, Finset.sum_range_succ, back_zero]
  rfl

theorem pay11_row (v60 v62 v64 v66 v68 v70 v72 v74 v76 v78 v80 v82 v84 v86 v88 : Vec Ideal S128x256 .f32)
    (e1 : ∀ c, v60 (ix2 r c) = back u n 1 (col 3 c)) (e2 : ∀ c, v62 (ix2 r c) = back u n 2 (col 3 c)) (e3 : ∀ c, v64 (ix2 r c) = back u n 3 (col 3 c)) (e4 : ∀ c, v66 (ix2 r c) = back u n 4 (col 3 c)) (e5 : ∀ c, v68 (ix2 r c) = back u n 5 (col 3 c)) (e6 : ∀ c, v70 (ix2 r c) = back u n 6 (col 3 c)) (e7 : ∀ c, v72 (ix2 r c) = back u n 7 (col 3 c)) (e8 : ∀ c, v74 (ix2 r c) = back u n 8 (col 3 c)) (e9 : ∀ c, v76 (ix2 r c) = back u n 9 (col 3 c)) (e10 : ∀ c, v78 (ix2 r c) = back u n 10 (col 3 c)) (e11 : ∀ c, v80 (ix2 r c) = back u n 11 (col 3 c)) (e12 : ∀ c, v82 (ix2 r c) = back u n 12 (col 3 c)) (e13 : ∀ c, v84 (ix2 r c) = back u n 13 (col 3 c)) (e14 : ∀ c, v86 (ix2 r c) = back u n 14 (col 3 c)) (e15 : ∀ c, v88 (ix2 r c) = back u n 15 (col 3 c)) (c : Fin 256) :
    k0_pay11 v1 (k0_pay10 v1 v60 v62) v64 v66 v68 v70 v72 v74 v76 v78 v80 v82 v84 v86 v88 (ix2 r c) = pooled u n 3 c := by
  pointwise [k0_pay11, k0_pay10]
  rw [h1, e1, e2, e3, e4, e5, e6, e7, e8, e9, e10, e11, e12, e13, e14, e15]
  refine pooled_of u n hn 3 c _ _ ?_ (sixteenth_eq.trans (by norm_num [width]))
  simp [winSum, width, Finset.sum_range_succ, back_zero]
  rfl

end Groups

/-- The mixer's sub-layer: the row the network reads. -/
theorem pay12_row (u : ℕ → Row 1024) (n : ℕ) (w : Fin 4 → Fin 256 → Fin 256 → EReal) (r : Fin 128)
    (v11 : FVec Ideal S128x1024 .f32) (v44 v66 v96 : FVec Ideal S128x256 .f32) (v139 : FVec Ideal S128x256 .bf16)
    (v140 : Vec Ideal S1x256x256 .bf16) (v144 v147 v153 v155 : Vec Ideal S1x1024 .f32)
    (h11 : ∀ j, v11 (ix2 r j) = u n j) (h44 : ∀ x, v44 (ix2 r x) = mixed u n 0 (w 0) x)
    (h66 : ∀ x, v66 (ix2 r x) = mixed u n 1 (w 1) x) (h96 : ∀ x, v96 (ix2 r x) = mixed u n 2 (w 2) x)
    (h139 : ∀ x, v139 (ix2 r x) = pooled u n 3 x) (h140 : ∀ a b, v140 (ix3 0 a b) = w 3 a b) (j : Fin 1024) :
    k0_pay12 v11 v44 v66 v96 v139 v140 v144 v147 v153 v155 (ix2 r j)
      = inner (u n) (mixer u n w (fun k => v144 (ix2 0 k)) (fun k => v147 (ix2 0 k))) (fun k => v153 (ix2 0 k))
          (fun k => v155 (ix2 0 k)) j := by
  have hd : ∀ x, ∑ a, v139 (ix2 r a) * v140 (ix3 0 a x) = mixed u n 3 (w 3) x := fun x =>
    Finset.sum_congr rfl fun a _ => by rw [h139, h140]
  have key := Cert.KernelIdeal.Rows.side_by_side u n w (fun x => v44 (ix2 r x)) (fun x => v66 (ix2 r x)) (fun x => v96 (ix2 r x))
    (fun x => ∑ a, v139 (ix2 r a) * v140 (ix3 0 a x)) h44 h66 h96 hd
  pointwise [k0_pay12]
  simp only [key, h11]
  rfl

/-! ## The network and the second norm -/

/-- The first two quarters of the network. -/
theorem pay15_row (v177 : FVec Ideal S128x1024 .bf16) (v178 : Vec Ideal S1024x1024 .bf16) (v180 : FVec Ideal S128x1024 .f32)
    (v181 : Vec Ideal S1x1024 .f32) (v189 v192 : Vec Ideal S1024x1024 .bf16) (v195 : Vec Ideal S1x1024 .f32)
    (v203 : Vec Ideal S1024x1024 .bf16) (r : Fin 128) (h180 : ∀ f, v180 (ix2 r f) = ∑ k, v177 (ix2 r k) * v178 (ix2 k f))
    (j : Fin 1024) :
    k0_pay15 v177 v180 v181 v189 v192 v195 v203 (ix2 r j)
      = down (fun k => v177 (ix2 r k)) (fun k f => v178 (ix2 k f)) (fun f => v181 (ix2 0 f)) (fun f k => v189 (ix2 f k)) j
        + down (fun k => v177 (ix2 r k)) (fun k f => v192 (ix2 k f)) (fun f => v195 (ix2 0 f)) (fun f k => v203 (ix2 f k)) j := by
  pointwise [k0_pay15]
  simp only [h180]
  rfl

/-- The third quarter's squared hidden row. -/
theorem pay16_row (v177 : FVec Ideal S128x1024 .bf16) (v207 : Vec Ideal S1024x1024 .bf16) (v210 : Vec Ideal S1x1024 .f32)
    (r : Fin 128) (f : Fin 1024) :
    k0_pay16 v177 v207 v210 (ix2 r f)
      = hidden (fun k => v177 (ix2 r k)) (fun k f => v207 (ix2 k f)) (fun f => v210 (ix2 0 f)) f
        * hidden (fun k => v177 (ix2 r k)) (fun k f => v207 (ix2 k f)) (fun f => v210 (ix2 0 f)) f := by
  pointwise [k0_pay16]
  rfl

/-- The second sub-layer's row, its mean taken off. -/
theorem pay19_row (v176 : FVec Ideal S128x1024 .f32) (v177 : FVec Ideal S128x1024 .bf16) (v206 : FVec Ideal S128x1024 .f32)
    (v217 : FVec Ideal S128x1024 .bf16) (v218 v222 : Vec Ideal S1024x1024 .bf16) (v225 : Vec Ideal S1x1024 .f32)
    (v233 : Vec Ideal S1024x1024 .bf16) (v237 : Vec Ideal S1x1024 .f32) (r : Fin 128) (X : Row 1024)
    (hX : ∀ j, X j = alpha * v176 (ix2 r j)
      + (v206 (ix2 r j) + ∑ f, v217 (ix2 r f) * v218 (ix2 f j)
          + down (fun k => v177 (ix2 r k)) (fun k f => v222 (ix2 k f)) (fun f => v225 (ix2 0 f)) (fun f k => v233 (ix2 f k)) j
          + v237 (ix2 0 j)))
    (j : Fin 1024) :
    k0_pay19 v176 v177 v206 v217 v218 v222 v225 v233 v237 (ix2 r j) = X j - mean X := by
  obtain rfl : X = fun j => _ := funext hX
  pointwise [k0_pay19]
  rfl

/-- The row sums of squares. -/
def squares (V : FVec Ideal S128x1024 .f32) : FVec Ideal S128x1 .f32 :=
  shapeCast S128x1 (multiReduction .add [1] S128 (mulf V V) 0x00000000#32 reduces_S128x1024_S128 (.inl rfl) rfl)
    shapeCasts_S128_S128x1

/-- The layer's row, from the mixer's sub-layer's: the network's matrices and offsets come in quarters. -/
theorem body_row (v176 : FVec Ideal S128x1024 .f32) (v177 : FVec Ideal S128x1024 .bf16) (v180 : FVec Ideal S128x1024 .f32)
    (P5 : Vec Ideal S1024x1024 .bf16) (P6 : Vec Ideal S1x1024 .f32)
    (P7 P8 : Vec Ideal S1024x1024 .bf16) (P9 : Vec Ideal S1x1024 .f32) (P10 P11 : Vec Ideal S1024x1024 .bf16)
    (P12 : Vec Ideal S1x1024 .f32) (P13 P14 : Vec Ideal S1024x1024 .bf16) (P15 : Vec Ideal S1x1024 .f32)
    (P16 : Vec Ideal S1024x1024 .bf16) (P17 P18 P19 : Vec Ideal S1x1024 .f32) (r : Fin 128) (H : Row 1024)
    (wu : Fin 1024 → Row 4096) (bu : Row 4096) (wd : Fin 4096 → Row 1024)
    (h176 : ∀ k, v176 (ix2 r k) = H k) (h177 : ∀ k, v177 (ix2 r k) = v176 (ix2 r k))
    (h180 : ∀ f, v180 (ix2 r f) = ∑ k, v177 (ix2 r k) * P5 (ix2 k f))
    (h5 : ∀ k f, P5 (ix2 k f) = wu k (quarter 0 f)) (h8 : ∀ k f, P8 (ix2 k f) = wu k (quarter 1 f))
    (h11 : ∀ k f, P11 (ix2 k f) = wu k (quarter 2 f)) (h14 : ∀ k f, P14 (ix2 k f) = wu k (quarter 3 f))
    (h6 : ∀ f, P6 (ix2 0 f) = bu (quarter 0 f)) (h9 : ∀ f, P9 (ix2 0 f) = bu (quarter 1 f))
    (h12 : ∀ f, P12 (ix2 0 f) = bu (quarter 2 f)) (h15 : ∀ f, P15 (ix2 0 f) = bu (quarter 3 f))
    (h7 : ∀ f k, P7 (ix2 f k) = wd (quarter 0 f) k) (h10 : ∀ f k, P10 (ix2 f k) = wd (quarter 1 f) k)
    (h13 : ∀ f k, P13 (ix2 f k) = wd (quarter 2 f) k) (h16 : ∀ f k, P16 (ix2 f k) = wd (quarter 3 f) k)
    (j : Fin 1024) :
    k0_pay22 (k0_pay17 P18) (k0_pay18 P19)
        (k0_pay19 v176 v177 (k0_pay15 v177 v180 P6 P7 P8 P9 P10) (k0_pay16 v177 P11 P12) P13 P14 P15 P16 P17)
        (k0_pay20 v176 v177 (k0_pay15 v177 v180 P6 P7 P8 P9 P10) (k0_pay16 v177 P11 P12) P13 P14 P15 P16 P17)
        (k0_pay21 (F := Ideal)) (ix2 r j)
      = inner H (fun k => down H wu bu wd k + P17 (ix2 0 k)) (fun k => P18 (ix2 0 k)) (fun k => P19 (ix2 0 k)) j := by
  have h22 := pay19_row v176 v177 (k0_pay15 v177 v180 P6 P7 P8 P9 P10) (k0_pay16 v177 P11 P12) P13 P14 P15 P16 P17 r
    (fun k => alpha * H k + (down H wu bu wd k + P17 (ix2 0 k)))
    (fun j => by
      simp only [pay15_row _ _ _ _ _ _ _ _ r h180, pay16_row, h177, h176, h5, h6, h7, h8, h9, h10, h11, h12, h13, h14, h15, h16]
      rw [down_quarters]
      rfl)
  have h23 : k0_pay20 v176 v177 (k0_pay15 v177 v180 P6 P7 P8 P9 P10) (k0_pay16 v177 P11 P12) P13 P14 P15 P16 P17
      = squares (k0_pay19 v176 v177 (k0_pay15 v177 v180 P6 P7 P8 P9 P10) (k0_pay16 v177 P11 P12) P13 P14 P15 P16 P17) := rfl
  rw [h23]
  generalize k0_pay19 v176 v177 (k0_pay15 v177 v180 P6 P7 P8 P9 P10) (k0_pay16 v177 P11 P12) P13 P14 P15 P16 P17 = V at h22 ⊢
  pointwise [k0_pay22, k0_pay17, k0_pay18, k0_pay21, squares]
  simp only [h22]
  rfl

/-! ## The results' rows -/

section Results

variable (a b : FVec Ideal S1x1024 .f32) (d : FVec Ideal S128x1024 .f32) (e f : FVec Ideal S128x1 .f32)

theorem pay23_row (r : Fin 128) (j : Fin 1024) : k0_pay23 a b d e f (ix3 0 r j) = k0_pay22 a b d e f (ix2 r j) := by
  pointwise [k0_pay23]

theorem pay26_row (w : Vec Ideal S1024x1024 .bf16) (j : Fin 1024) (r : Fin 128) :
    k0_pay26 a b d e f w (ix3 0 j r) = ∑ k, w (ix2 j k) * k0_pay22 a b d e f (ix2 r k) := by
  pointwise [k0_pay26, k0_pay25, k0_pay24]

theorem pay29_row (w : Vec Ideal S1024x1024 .bf16) (j : Fin 1024) (r : Fin 128) :
    k0_pay29 a b d e f w (ix3 0 j r) = ∑ k, w (ix2 j k) * k0_pay22 a b d e f (ix2 r k) := by
  pointwise [k0_pay29, k0_pay28, k0_pay24]

theorem pay2_row (w : Vec Ideal S1024x1024 .bf16) (r : Fin 128) (j : Fin 1024) :
    k0_pay2 (k0_pay24 a b d e f) w (ix3 0 r j)
      = (∑ k, k0_pay22 a b d e f (ix2 r k) * w (ix2 k j)) * Ideal.ofBits FTy.f32 1040187392#32 := by
  pointwise [k0_pay2, k0_pay24]

end Results

end Cert.Kernel3Ideal.Rows

end
-- ==== Proof.Block3.lean ====
/- The blocks of the sample batch's first call: what the body leaves in each result's block, from the blocks it loads. -/
module

public import proofs.«01_k».proof.Proof.Gen.Kernel3Ideal.Value
public import proofs.«01_k».proof.Proof.Rows3
public import proofs.«01_k».proof.Proof.Loads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Rows

open Cert.Kernel3Ideal Cert.Kernel3Ideal.Gen Cert.Spec

/-! ## The scratch, as the body reads it -/

/-- 512 rows with 128 rows below them. -/
def tall (a : Vec Ideal S512x1024 .f32) (b : Vec Ideal S128x1024 .f32) : Vec Ideal S640x1024 .f32 := fun y =>
  if h : (y 0).val < 512 then a (ix2 ⟨(y 0).val, h⟩ (y 1)) else b (ix2 ⟨(y 0).val - 512, by have : (y 0).val < 640 := (y 0).isLt; omega⟩ (y 1))

theorem canon_tall (a : Vec Ideal S512x1024 .f32) (b : Vec Ideal S128x1024 .f32) :
    View.canon (Val := Elt Ideal) (e := .f32) [⟨Rect.unit ![512, 0] ![128, 1024] inb_S640x1024_S128x1024_512_0, b⟩,
      ⟨Rect.unit ![0, 0] ![512, 1024] inb_S640x1024_S512x1024_0_0, a⟩] = tall a b := by
  funext y
  have hy : (y 0).val < 640 := (y 0).isLt
  unfold tall
  split
  · rename_i h
    have e : y = (Rect.unit (s := S640x1024) ![0, 0] ![512, 1024] inb_S640x1024_S512x1024_0_0).emb (ix2 ⟨(y 0).val, h⟩ (y 1)) := by
      refine funext fun k => Fin.ext ?_
      match k with
      | 0 => simp
      | 1 => simp
    rw [View.canon_cons_of_not_mem]
    · conv_lhs => rw [e]
      exact View.canon_cons_emb _ _ _ _
    · intro hm
      have := ((Rect.mem_set_unit (inb := inb_S640x1024_S128x1024_512_0)).mp hm (0 : Fin 2)).1
      simp at this
      omega
  · rename_i h
    have e : y = (Rect.unit (s := S640x1024) ![512, 0] ![128, 1024] inb_S640x1024_S128x1024_512_0).emb (ix2 ⟨(y 0).val - 512, by omega⟩ (y 1)) := by
      refine funext fun k => Fin.ext ?_
      match k with
      | 0 => simp; try omega
      | 1 => simp
    conv_lhs => rw [e]
    exact View.canon_cons_emb _ _ _ _

theorem scratch_read (a : Vec Ideal S512x1024 .f32) (b : Vec Ideal S128x1024 .f32) (r : Rect S640x1024) :
    (View.whole cc0_scratch0).readCov (Val := Elt Ideal) [⟨Rect.unit ![512, 0] ![128, 1024] inb_S640x1024_S128x1024_512_0, b⟩,
      ⟨Rect.unit ![0, 0] ![512, 1024] inb_S640x1024_S512x1024_0_0, a⟩] r.toLoadRect = View.ld (tall a b) r := by
  rw [View.readCov_eq_canon']
  rw [← canon_tall]
  rfl

/-- A load above the block's own rows finds the rows before it. -/
theorem scratch_low (a : Vec Ideal S512x1024 .f32) (b : Vec Ideal S128x1024 .f32) (r : Rect S640x1024)
    (h : LoadRect.disj (Rect.unit ![512, 0] ![128, 1024] inb_S640x1024_S128x1024_512_0) r.toLoadRect = true) :
    (View.whole cc0_scratch0).readCov (Val := Elt Ideal) [⟨Rect.unit ![0, 0] ![512, 1024] inb_S640x1024_S512x1024_0_0, a⟩] r.toLoadRect
      = View.ld (tall a b) r := by
  rw [← scratch_read a b r, View.readCov_skip _ _ _ _ _ h]

/-! ## The body's values, named -/

section Values

variable (A : Vec Ideal S1x512x1024 .f32) (B : Vec Ideal S1x128x1024 .f32)
  (S : Vec Ideal S640x1024 .f32) (U : FVec Ideal S128x1024 .f32) (D : Vec Ideal S4x256x256 .bf16) (E G : Vec Ideal S1x1024 .f32) (H I : Vec Ideal S2x1024 .f32)
  (J : Vec Ideal S1024x4096 .bf16) (K : Vec Ideal S1x4096 .f32) (L : Vec Ideal S4096x1024 .bf16)
  (M : Vec Ideal S1x1024 .f32) (N O Q : Vec Ideal S1024x1024 .bf16)

def V20 : FVec Ideal S128x256 .f32 := k0_pay6 B (View.ld S (Rect.unit ![480, 0] ![128, 256] inb_S640x1024_S128x256_480_0)) (View.ld D (Rect.unit ![0, 0, 0] ![1, 256, 256] inb_S4x256x256_S1x256x256_0_0_0))
def V35 : FVec Ideal S128x256 .f32 := k0_pay8 (k0_pay7 B (View.ld S (Rect.unit ![480, 256] ![128, 256] inb_S640x1024_S128x256_480_256)) (View.ld S (Rect.unit ![448, 256] ![128, 256] inb_S640x1024_S128x256_448_256)) (View.ld S (Rect.unit ![416, 256] ![128, 256] inb_S640x1024_S128x256_416_256))) (View.ld D (Rect.unit ![1, 0, 0] ![1, 256, 256] inb_S4x256x256_S1x256x256_1_0_0))
def V58 : FVec Ideal S128x256 .f32 := k0_pay9 U (View.ld S (Rect.unit ![480, 512] ![128, 256] inb_S640x1024_S128x256_480_512)) (View.ld S (Rect.unit ![448, 512] ![128, 256] inb_S640x1024_S128x256_448_512)) (View.ld S (Rect.unit ![416, 512] ![128, 256] inb_S640x1024_S128x256_416_512)) (View.ld S (Rect.unit ![384, 512] ![128, 256] inb_S640x1024_S128x256_384_512)) (View.ld S (Rect.unit ![352, 512] ![128, 256] inb_S640x1024_S128x256_352_512)) (View.ld S (Rect.unit ![320, 512] ![128, 256] inb_S640x1024_S128x256_320_512)) (View.ld S (Rect.unit ![288, 512] ![128, 256] inb_S640x1024_S128x256_288_512)) (View.ld D (Rect.unit ![2, 0, 0] ![1, 256, 256] inb_S4x256x256_S1x256x256_2_0_0))
def V94 : FVec Ideal S128x256 .bf16 := k0_pay11 U (k0_pay10 U (View.ld S (Rect.unit ![480, 768] ![128, 256] inb_S640x1024_S128x256_480_768)) (View.ld S (Rect.unit ![448, 768] ![128, 256] inb_S640x1024_S128x256_448_768))) (View.ld S (Rect.unit ![416, 768] ![128, 256] inb_S640x1024_S128x256_416_768)) (View.ld S (Rect.unit ![384, 768] ![128, 256] inb_S640x1024_S128x256_384_768)) (View.ld S (Rect.unit ![352, 768] ![128, 256] inb_S640x1024_S128x256_352_768)) (View.ld S (Rect.unit ![320, 768] ![128, 256] inb_S640x1024_S128x256_320_768)) (View.ld S (Rect.unit ![288, 768] ![128, 256] inb_S640x1024_S128x256_288_768)) (View.ld S (Rect.unit ![256, 768] ![128, 256] inb_S640x1024_S128x256_256_768)) (View.ld S (Rect.unit ![224, 768] ![128, 256] inb_S640x1024_S128x256_224_768)) (View.ld S (Rect.unit ![192, 768] ![128, 256] inb_S640x1024_S128x256_192_768)) (View.ld S (Rect.unit ![160, 768] ![128, 256] inb_S640x1024_S128x256_160_768)) (View.ld S (Rect.unit ![128, 768] ![128, 256] inb_S640x1024_S128x256_128_768)) (View.ld S (Rect.unit ![96, 768] ![128, 256] inb_S640x1024_S128x256_96_768)) (View.ld S (Rect.unit ![64, 768] ![128, 256] inb_S640x1024_S128x256_64_768)) (View.ld S (Rect.unit ![32, 768] ![128, 256] inb_S640x1024_S128x256_32_768))
def V131 : FVec Ideal S128x1024 .f32 := k0_pay12 (k0_pay3 B) (V20 B (tall (k0_pay4 A) (k0_pay5 B)) D) (V35 B (tall (k0_pay4 A) (k0_pay5 B)) D) (V58 (tall (k0_pay4 A) (k0_pay5 B)) (k0_pay3 B) D) (V94 (tall (k0_pay4 A) (k0_pay5 B)) (k0_pay3 B)) (View.ld D (Rect.unit ![3, 0, 0] ![1, 256, 256] inb_S4x256x256_S1x256x256_3_0_0)) E G (View.ld H (Rect.unit ![0, 0] ![1, 1024] inb_S2x1024_S1x1024_0_0)) (View.ld I (Rect.unit ![0, 0] ![1, 1024] inb_S2x1024_S1x1024_0_0))
def V132 : FVec Ideal S128x1024 .bf16 := k0_pay13 (k0_pay3 B) (V20 B (tall (k0_pay4 A) (k0_pay5 B)) D) (V35 B (tall (k0_pay4 A) (k0_pay5 B)) D) (V58 (tall (k0_pay4 A) (k0_pay5 B)) (k0_pay3 B) D) (V94 (tall (k0_pay4 A) (k0_pay5 B)) (k0_pay3 B)) (View.ld D (Rect.unit ![3, 0, 0] ![1, 256, 256] inb_S4x256x256_S1x256x256_3_0_0)) E G (View.ld H (Rect.unit ![0, 0] ![1, 1024] inb_S2x1024_S1x1024_0_0)) (View.ld I (Rect.unit ![0, 0] ![1, 1024] inb_S2x1024_S1x1024_0_0))
def V135 : FVec Ideal S128x1024 .f32 := k0_pay14 (k0_pay3 B) (V20 B (tall (k0_pay4 A) (k0_pay5 B)) D) (V35 B (tall (k0_pay4 A) (k0_pay5 B)) D) (V58 (tall (k0_pay4 A) (k0_pay5 B)) (k0_pay3 B) D) (V94 (tall (k0_pay4 A) (k0_pay5 B)) (k0_pay3 B)) (View.ld D (Rect.unit ![3, 0, 0] ![1, 256, 256] inb_S4x256x256_S1x256x256_3_0_0)) E G (View.ld H (Rect.unit ![0, 0] ![1, 1024] inb_S2x1024_S1x1024_0_0)) (View.ld I (Rect.unit ![0, 0] ![1, 1024] inb_S2x1024_S1x1024_0_0)) (View.ld J (Rect.unit ![0, 0] ![1024, 1024] inb_S1024x4096_S1024x1024_0_0))

def V208 : FVec Ideal S128x1024 .f32 := k0_pay19 (V131 A B D E G H I) (V132 A B D E G H I) (k0_pay15 (V132 A B D E G H I) (V135 A B D E G H I J) (View.ld K (Rect.unit ![0, 0] ![1, 1024] inb_S1x4096_S1x1024_0_0)) (View.ld L (Rect.unit ![0, 0] ![1024, 1024] inb_S4096x1024_S1024x1024_0_0)) (View.ld J (Rect.unit ![0, 1024] ![1024, 1024] inb_S1024x4096_S1024x1024_0_1024)) (View.ld K (Rect.unit ![0, 1024] ![1, 1024] inb_S1x4096_S1x1024_0_1024)) (View.ld L (Rect.unit ![1024, 0] ![1024, 1024] inb_S4096x1024_S1024x1024_1024_0))) (k0_pay16 (V132 A B D E G H I) (View.ld J (Rect.unit ![0, 2048] ![1024, 1024] inb_S1024x4096_S1024x1024_0_2048)) (View.ld K (Rect.unit ![0, 2048] ![1, 1024] inb_S1x4096_S1x1024_0_2048))) (View.ld L (Rect.unit ![2048, 0] ![1024, 1024] inb_S4096x1024_S1024x1024_2048_0)) (View.ld J (Rect.unit ![0, 3072] ![1024, 1024] inb_S1024x4096_S1024x1024_0_3072)) (View.ld K (Rect.unit ![0, 3072] ![1, 1024] inb_S1x4096_S1x1024_0_3072)) (View.ld L (Rect.unit ![3072, 0] ![1024, 1024] inb_S4096x1024_S1024x1024_3072_0)) M
def V211 : FVec Ideal S128x1 .f32 := k0_pay20 (V131 A B D E G H I) (V132 A B D E G H I) (k0_pay15 (V132 A B D E G H I) (V135 A B D E G H I J) (View.ld K (Rect.unit ![0, 0] ![1, 1024] inb_S1x4096_S1x1024_0_0)) (View.ld L (Rect.unit ![0, 0] ![1024, 1024] inb_S4096x1024_S1024x1024_0_0)) (View.ld J (Rect.unit ![0, 1024] ![1024, 1024] inb_S1024x4096_S1024x1024_0_1024)) (View.ld K (Rect.unit ![0, 1024] ![1, 1024] inb_S1x4096_S1x1024_0_1024)) (View.ld L (Rect.unit ![1024, 0] ![1024, 1024] inb_S4096x1024_S1024x1024_1024_0))) (k0_pay16 (V132 A B D E G H I) (View.ld J (Rect.unit ![0, 2048] ![1024, 1024] inb_S1024x4096_S1024x1024_0_2048)) (View.ld K (Rect.unit ![0, 2048] ![1, 1024] inb_S1x4096_S1x1024_0_2048))) (View.ld L (Rect.unit ![2048, 0] ![1024, 1024] inb_S4096x1024_S1024x1024_2048_0)) (View.ld J (Rect.unit ![0, 3072] ![1024, 1024] inb_S1024x4096_S1024x1024_0_3072)) (View.ld K (Rect.unit ![0, 3072] ![1, 1024] inb_S1x4096_S1x1024_0_3072)) (View.ld L (Rect.unit ![3072, 0] ![1024, 1024] inb_S4096x1024_S1024x1024_3072_0)) M

/-- The layer's rows of a block. -/
def block : FVec Ideal S128x1024 .f32 :=
  k0_pay22 (k0_pay17 (View.ld H (Rect.unit ![1, 0] ![1, 1024] inb_S2x1024_S1x1024_1_0))) (k0_pay18 (View.ld I (Rect.unit ![1, 0] ![1, 1024] inb_S2x1024_S1x1024_1_0))) (V208 A B D E G H I J K L M) (V211 A B D E G H I J K L M) (k0_pay21 (F := Ideal))

end Values

/-! ## What the body leaves in the results' blocks -/

variable (m : (ℓ : Loc nD τ sig) → Buf (Elt Ideal) ℓ)

/-- The layer's rows. -/
def rowsAt (c : Dev nD) (t : Fin cfg0.N) : FVec Ideal S128x1024 .f32 :=
  block (X0_0 m c t) (iblk m c 1 t) (iblk m c 3 t) (iblk m c 4 t) (iblk m c 5 t) (iblk m c 6 t) (iblk m c 7 t) (iblk m c 8 t) (iblk m c 9 t) (iblk m c 10 t) (iblk m c 11 t)

theorem after15 (c : Dev nD) (t : Fin cfg0.N) (r : Fin 128) (j : Fin 1024) :
    (dats m 0 c).after 15 t (ix3 0 r j) = rowsAt m c t (ix2 r j) := by
  rw [after0_15]
  simp only [outsAt0]
  frame_open
  simp (disch := decide) only [↓ View.readCov_skip, ↓ View.readCov_cons_toLoadRect, ↓ View.readCov_fill]
  frame_out
  repeat rw [scratch_read]
  unfold rowsAt block V208 V211 V131 V132 V135 V20 V35 V58 V94
  generalize X0_0 m c t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  simp (disch := decide) only [scratch_low (k0_pay4 A) (k0_pay5 B)]
  generalize tall (k0_pay4 A) (k0_pay5 B) = S
  generalize k0_pay3 B = U
  exact pay23_row _ _ _ _ _ r j

theorem after16 (c : Dev nD) (t : Fin cfg0.N) (r : Fin 128) (j : Fin 1024) :
    (dats m 0 c).after 16 t (ix3 0 j r) = ∑ k, @HMul.hMul EReal EReal EReal _ (iblk m c 12 t (ix2 j k)) (rowsAt m c t (ix2 r k)) := by
  rw [after0_16]
  simp only [outsAt0]
  frame_open
  simp (disch := decide) only [↓ View.readCov_skip, ↓ View.readCov_cons_toLoadRect, ↓ View.readCov_fill]
  frame_out
  repeat rw [scratch_read]
  unfold rowsAt block V208 V211 V131 V132 V135 V20 V35 V58 V94
  generalize X0_0 m c t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  simp (disch := decide) only [scratch_low (k0_pay4 A) (k0_pay5 B)]
  generalize tall (k0_pay4 A) (k0_pay5 B) = S
  generalize k0_pay3 B = U
  exact pay26_row _ _ _ _ _ _ j r

theorem after17 (c : Dev nD) (t : Fin cfg0.N) (r : Fin 128) (j : Fin 1024) :
    (dats m 0 c).after 17 t (ix3 0 j r) = ∑ k, @HMul.hMul EReal EReal EReal _ (iblk m c 13 t (ix2 j k)) (rowsAt m c t (ix2 r k)) := by
  rw [after0_17]
  simp only [outsAt0]
  frame_open
  simp (disch := decide) only [↓ View.readCov_skip, ↓ View.readCov_cons_toLoadRect, ↓ View.readCov_fill]
  frame_out
  repeat rw [scratch_read]
  unfold rowsAt block V208 V211 V131 V132 V135 V20 V35 V58 V94
  generalize X0_0 m c t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  simp (disch := decide) only [scratch_low (k0_pay4 A) (k0_pay5 B)]
  generalize tall (k0_pay4 A) (k0_pay5 B) = S
  generalize k0_pay3 B = U
  exact pay29_row _ _ _ _ _ _ j r

theorem after18 (c : Dev nD) (t : Fin cfg0.N) (r : Fin 128) (j : Fin 1024) :
    (dats m 0 c).after 18 t (ix3 0 r j) = (∑ k, rowsAt m c t (ix2 r k) * iblk m c 14 t (ix2 k j)) * Ideal.ofBits FTy.f32 1040187392#32 := by
  rw [after0_18]
  simp only [outsAt0]
  frame_open
  simp (disch := decide) only [↓ View.readCov_skip, ↓ View.readCov_cons_toLoadRect, ↓ View.readCov_fill]
  frame_out
  repeat rw [scratch_read]
  unfold rowsAt block V208 V211 V131 V132 V135 V20 V35 V58 V94
  generalize X0_0 m c t = A, iblk m c 1 t = B, iblk m c 2 t = C, iblk m c 3 t = D, iblk m c 4 t = E, iblk m c 5 t = G, iblk m c 6 t = H, iblk m c 7 t = I, iblk m c 8 t = J, iblk m c 9 t = K, iblk m c 10 t = L, iblk m c 11 t = M, iblk m c 12 t = N, iblk m c 13 t = O, iblk m c 14 t = Q, grid0.coords t = i
  simp (disch := decide) only [scratch_low (k0_pay4 A) (k0_pay5 B)]
  generalize tall (k0_pay4 A) (k0_pay5 B) = S
  generalize k0_pay3 B = U
  exact pay2_row _ _ _ _ _ _ r j

/-! ## A block's row is the pooling layer's row -/

section Row

variable (A : Vec Ideal S1x512x1024 .f32) (B : Vec Ideal S1x128x1024 .f32)
  (S : Vec Ideal S640x1024 .f32) (U : FVec Ideal S128x1024 .f32) (D : Vec Ideal S4x256x256 .bf16) (E G : Vec Ideal S1x1024 .f32) (H I : Vec Ideal S2x1024 .f32)
  (J : Vec Ideal S1024x4096 .bf16) (K : Vec Ideal S1x4096 .f32) (L : Vec Ideal S4096x1024 .bf16)
  (M : Vec Ideal S1x1024 .f32) (N O Q : Vec Ideal S1024x1024 .bf16)
variable (u : ℕ → Row 1024) (n : ℕ) (hn : 15 ≤ n) (r : Fin 128)

theorem colv (g : Fin 4) (c : Fin 256) (a : ℕ) (h : a = g.val * 256) : (col g c).val = a + c.val := by
  subst h; rfl

variable (hB : ∀ j, B (ix3 0 r j) = u n j) (hU : ∀ j, U (ix2 r j) = u n j)
  (hS : ∀ k : ℕ, 1 ≤ k → k < 16 → ∀ p : Fin 640, p.val + 32 * k = 512 + r.val → ∀ d, S (ix2 p d) = back u n k d)

include hn hS

section

include hB

theorem V20_row (c : Fin 256) : V20 B S D (ix2 r c) = mixed u n 0 (fun a b => D (ix3 0 a b)) c := by
  unfold V20
  refine (pay6_row u n hn r B hB _ _ (fun c => (piece S _ _ _ r c ⟨480 + r.val, by omega⟩ (col 0 c) rfl (colv 0 c _ rfl)).trans (hS 1 (by norm_num) (by norm_num) ⟨480 + r.val, by omega⟩ (by show 480 + r.val + 32 = 512 + r.val; omega) _)) c).trans ?_
  exact congrArg (fun w => mixed u n 0 w c) (funext fun a => funext fun b => slab D _ _ a b 0 rfl)

theorem V35_row (c : Fin 256) : V35 B S D (ix2 r c) = mixed u n 1 (fun a b => D (ix3 1 a b)) c := by
  unfold V35
  refine (pay8_row u n hn r B hB _ _ _ _ (fun c => (piece S _ _ _ r c ⟨480 + r.val, by omega⟩ (col 1 c) rfl (colv 1 c _ rfl)).trans (hS 1 (by norm_num) (by norm_num) ⟨480 + r.val, by omega⟩ (by show 480 + r.val + 32 = 512 + r.val; omega) _)) (fun c => (piece S _ _ _ r c ⟨448 + r.val, by omega⟩ (col 1 c) rfl (colv 1 c _ rfl)).trans (hS 2 (by norm_num) (by norm_num) ⟨448 + r.val, by omega⟩ (by show 448 + r.val + 64 = 512 + r.val; omega) _)) (fun c => (piece S _ _ _ r c ⟨416 + r.val, by omega⟩ (col 1 c) rfl (colv 1 c _ rfl)).trans (hS 3 (by norm_num) (by norm_num) ⟨416 + r.val, by omega⟩ (by show 416 + r.val + 96 = 512 + r.val; omega) _)) c).trans ?_
  exact congrArg (fun w => mixed u n 1 w c) (funext fun a => funext fun b => slab D _ _ a b 1 rfl)

end

section

include hU

theorem V58_row (c : Fin 256) : V58 S U D (ix2 r c) = mixed u n 2 (fun a b => D (ix3 2 a b)) c := by
  unfold V58
  refine (pay9_row u n hn r _ hU _ _ _ _ _ _ _ _ (fun c => (piece S _ _ _ r c ⟨480 + r.val, by omega⟩ (col 2 c) rfl (colv 2 c _ rfl)).trans (hS 1 (by norm_num) (by norm_num) ⟨480 + r.val, by omega⟩ (by show 480 + r.val + 32 = 512 + r.val; omega) _)) (fun c => (piece S _ _ _ r c ⟨448 + r.val, by omega⟩ (col 2 c) rfl (colv 2 c _ rfl)).trans (hS 2 (by norm_num) (by norm_num) ⟨448 + r.val, by omega⟩ (by show 448 + r.val + 64 = 512 + r.val; omega) _)) (fun c => (piece S _ _ _ r c ⟨416 + r.val, by omega⟩ (col 2 c) rfl (colv 2 c _ rfl)).trans (hS 3 (by norm_num) (by norm_num) ⟨416 + r.val, by omega⟩ (by show 416 + r.val + 96 = 512 + r.val; omega) _)) (fun c => (piece S _ _ _ r c ⟨384 + r.val, by omega⟩ (col 2 c) rfl (colv 2 c _ rfl)).trans (hS 4 (by norm_num) (by norm_num) ⟨384 + r.val, by omega⟩ (by show 384 + r.val + 128 = 512 + r.val; omega) _)) (fun c => (piece S _ _ _ r c ⟨352 + r.val, by omega⟩ (col 2 c) rfl (colv 2 c _ rfl)).trans (hS 5 (by norm_num) (by norm_num) ⟨352 + r.val, by omega⟩ (by show 352 + r.val + 160 = 512 + r.val; omega) _)) (fun c => (piece S _ _ _ r c ⟨320 + r.val, by omega⟩ (col 2 c) rfl (colv 2 c _ rfl)).trans (hS 6 (by norm_num) (by norm_num) ⟨320 + r.val, by omega⟩ (by show 320 + r.val + 192 = 512 + r.val; omega) _)) (fun c => (piece S _ _ _ r c ⟨288 + r.val, by omega⟩ (col 2 c) rfl (colv 2 c _ rfl)).trans (hS 7 (by norm_num) (by norm_num) ⟨288 + r.val, by omega⟩ (by show 288 + r.val + 224 = 512 + r.val; omega) _)) c).trans ?_
  exact congrArg (fun w => mixed u n 2 w c) (funext fun a => funext fun b => slab D _ _ a b 2 rfl)

theorem V94_row (c : Fin 256) : V94 S U (ix2 r c) = pooled u n 3 c := by
  unfold V94
  exact pay11_row u n hn r _ hU _ _ _ _ _ _ _ _ _ _ _ _ _ _ _ (fun c => (piece S _ _ _ r c ⟨480 + r.val, by omega⟩ (col 3 c) rfl (colv 3 c _ rfl)).trans (hS 1 (by norm_num) (by norm_num) ⟨480 + r.val, by omega⟩ (by show 480 + r.val + 32 = 512 + r.val; omega) _)) (fun c => (piece S _ _ _ r c ⟨448 + r.val, by omega⟩ (col 3 c) rfl (colv 3 c _ rfl)).trans (hS 2 (by norm_num) (by norm_num) ⟨448 + r.val, by omega⟩ (by show 448 + r.val + 64 = 512 + r.val; omega) _)) (fun c => (piece S _ _ _ r c ⟨416 + r.val, by omega⟩ (col 3 c) rfl (colv 3 c _ rfl)).trans (hS 3 (by norm_num) (by norm_num) ⟨416 + r.val, by omega⟩ (by show 416 + r.val + 96 = 512 + r.val; omega) _)) (fun c => (piece S _ _ _ r c ⟨384 + r.val, by omega⟩ (col 3 c) rfl (colv 3 c _ rfl)).trans (hS 4 (by norm_num) (by norm_num) ⟨384 + r.val, by omega⟩ (by show 384 + r.val + 128 = 512 + r.val; omega) _)) (fun c => (piece S _ _ _ r c ⟨352 + r.val, by omega⟩ (col 3 c) rfl (colv 3 c _ rfl)).trans (hS 5 (by norm_num) (by norm_num) ⟨352 + r.val, by omega⟩ (by show 352 + r.val + 160 = 512 + r.val; omega) _)) (fun c => (piece S _ _ _ r c ⟨320 + r.val, by omega⟩ (col 3 c) rfl (colv 3 c _ rfl)).trans (hS 6 (by norm_num) (by norm_num) ⟨320 + r.val, by omega⟩ (by show 320 + r.val + 192 = 512 + r.val; omega) _)) (fun c => (piece S _ _ _ r c ⟨288 + r.val, by omega⟩ (col 3 c) rfl (colv 3 c _ rfl)).trans (hS 7 (by norm_num) (by norm_num) ⟨288 + r.val, by omega⟩ (by show 288 + r.val + 224 = 512 + r.val; omega) _)) (fun c => (piece S _ _ _ r c ⟨256 + r.val, by omega⟩ (col 3 c) rfl (colv 3 c _ rfl)).trans (hS 8 (by norm_num) (by norm_num) ⟨256 + r.val, by omega⟩ (by show 256 + r.val + 256 = 512 + r.val; omega) _)) (fun c => (piece S _ _ _ r c ⟨224 + r.val, by omega⟩ (col 3 c) rfl (colv 3 c _ rfl)).trans (hS 9 (by norm_num) (by norm_num) ⟨224 + r.val, by omega⟩ (by show 224 + r.val + 288 = 512 + r.val; omega) _)) (fun c => (piece S _ _ _ r c ⟨192 + r.val, by omega⟩ (col 3 c) rfl (colv 3 c _ rfl)).trans (hS 10 (by norm_num) (by norm_num) ⟨192 + r.val, by omega⟩ (by show 192 + r.val + 320 = 512 + r.val; omega) _)) (fun c => (piece S _ _ _ r c ⟨160 + r.val, by omega⟩ (col 3 c) rfl (colv 3 c _ rfl)).trans (hS 11 (by norm_num) (by norm_num) ⟨160 + r.val, by omega⟩ (by show 160 + r.val + 352 = 512 + r.val; omega) _)) (fun c => (piece S _ _ _ r c ⟨128 + r.val, by omega⟩ (col 3 c) rfl (colv 3 c _ rfl)).trans (hS 12 (by norm_num) (by norm_num) ⟨128 + r.val, by omega⟩ (by show 128 + r.val + 384 = 512 + r.val; omega) _)) (fun c => (piece S _ _ _ r c ⟨96 + r.val, by omega⟩ (col 3 c) rfl (colv 3 c _ rfl)).trans (hS 13 (by norm_num) (by norm_num) ⟨96 + r.val, by omega⟩ (by show 96 + r.val + 416 = 512 + r.val; omega) _)) (fun c => (piece S _ _ _ r c ⟨64 + r.val, by omega⟩ (col 3 c) rfl (colv 3 c _ rfl)).trans (hS 14 (by norm_num) (by norm_num) ⟨64 + r.val, by omega⟩ (by show 64 + r.val + 448 = 512 + r.val; omega) _)) (fun c => (piece S _ _ _ r c ⟨32 + r.val, by omega⟩ (col 3 c) rfl (colv 3 c _ rfl)).trans (hS 15 (by norm_num) (by norm_num) ⟨32 + r.val, by omega⟩ (by show 32 + r.val + 480 = 512 + r.val; omega) _)) c

end

omit hS
include hB

/-- The mixer's sub-layer. -/
theorem V131_row (hS : ∀ k : ℕ, 1 ≤ k → k < 16 → ∀ p : Fin 640, p.val + 32 * k = 512 + r.val → ∀ d, (tall (k0_pay4 A) (k0_pay5 B)) (ix2 p d) = back u n k d) (j : Fin 1024) :
    V131 A B D E G H I (ix2 r j)
      = inner (u n) (mixer u n (fun g a b => D (ix3 g a b)) (fun k => E (ix2 0 k)) (fun k => G (ix2 0 k)))
          (fun k => H (ix2 0 k)) (fun k => I (ix2 0 k)) j := by
  unfold V131
  have g0 : ∀ k, (View.ld H (Rect.unit ![0, 0] ![1, 1024] inb_S2x1024_S1x1024_0_0)) (ix2 0 k) = H (ix2 0 k) := fun k => piece _ _ _ _ _ _ _ _ (from_zero 0) (from_zero k)
  have i0 : ∀ k, (View.ld I (Rect.unit ![0, 0] ![1, 1024] inb_S2x1024_S1x1024_0_0)) (ix2 0 k) = I (ix2 0 k) := fun k => piece _ _ _ _ _ _ _ _ (from_zero 0) (from_zero k)
  have hU : ∀ j, k0_pay3 B (ix2 r j) = u n j := fun j => (pay3_row B r j).trans (hB j)
  refine (pay12_row u n (fun g a b => D (ix3 g a b)) r _ _ _ _ _ _ _ _ _ _ hU
    (V20_row B _ D u n hn r hB hS) (V35_row B _ D u n hn r hB hS) (V58_row _ _ D u n hn r hU hS)
    (V94_row _ _ u n hn r hU hS) (fun a b => slab D _ _ a b 3 rfl) j).trans ?_
  simp only [g0, i0]

/-- The layer's row. -/
theorem block_row (hS : ∀ k : ℕ, 1 ≤ k → k < 16 → ∀ p : Fin 640, p.val + 32 * k = 512 + r.val → ∀ d, (tall (k0_pay4 A) (k0_pay5 B)) (ix2 p d) = back u n k d) (j : Fin 1024) :
    block A B D E G H I J K L M (ix2 r j)
      = layer (u n) (mixer u n (fun g a b => D (ix3 g a b)) (fun k => E (ix2 0 k)) (fun k => G (ix2 0 k)))
          (fun k => H (ix2 0 k)) (fun k => I (ix2 0 k)) (fun k => H (ix2 1 k)) (fun k => I (ix2 1 k))
          (fun k f => J (ix2 k f)) (fun f => K (ix2 0 f)) (fun f k => L (ix2 f k)) (fun k => M (ix2 0 k)) j := by
  unfold block V208 V211
  have g1 : ∀ k, (View.ld H (Rect.unit ![1, 0] ![1, 1024] inb_S2x1024_S1x1024_1_0)) (ix2 0 k) = H (ix2 1 k) := fun k => piece _ _ _ _ _ _ _ _ rfl (from_zero k)
  have i1 : ∀ k, (View.ld I (Rect.unit ![1, 0] ![1, 1024] inb_S2x1024_S1x1024_1_0)) (ix2 0 k) = I (ix2 1 k) := fun k => piece _ _ _ _ _ _ _ _ rfl (from_zero k)
  have h131 := V131_row A B D E G H I u n hn r hB hS
  have h132 : ∀ k, V132 A B D E G H I (ix2 r k) = V131 A B D E G H I (ix2 r k) := fun k => by
    unfold V132 V131
    pointwise [k0_pay13]
  have h135 : ∀ f, V135 A B D E G H I J (ix2 r f) = ∑ k, V132 A B D E G H I (ix2 r k) * (View.ld J (Rect.unit ![0, 0] ![1024, 1024] inb_S1024x4096_S1024x1024_0_0)) (ix2 k f) := fun f => by
    unfold V135 V132
    pointwise [k0_pay14]
  refine (body_row _ _ _ _ _ _ _ _ _ _ _ _ _ _ _ M _ _ r _ (fun k f => J (ix2 k f))
    (fun f => K (ix2 0 f)) (fun f k => L (ix2 f k)) h131 h132 h135
    (fun k f => piece J _ _ _ _ _ _ _ (from_zero k) (quarter_val 0 f _ rfl)) (fun k f => piece J _ _ _ _ _ _ _ (from_zero k) (quarter_val 1 f _ rfl)) (fun k f => piece J _ _ _ _ _ _ _ (from_zero k) (quarter_val 2 f _ rfl)) (fun k f => piece J _ _ _ _ _ _ _ (from_zero k) (quarter_val 3 f _ rfl))
    (fun f => piece K _ _ _ _ _ _ _ (from_zero 0) (quarter_val 0 f _ rfl)) (fun f => piece K _ _ _ _ _ _ _ (from_zero 0) (quarter_val 1 f _ rfl)) (fun f => piece K _ _ _ _ _ _ _ (from_zero 0) (quarter_val 2 f _ rfl)) (fun f => piece K _ _ _ _ _ _ _ (from_zero 0) (quarter_val 3 f _ rfl))
    (fun f k => piece L _ _ _ _ _ _ _ (quarter_val 0 f _ rfl) (from_zero k)) (fun f k => piece L _ _ _ _ _ _ _ (quarter_val 1 f _ rfl) (from_zero k)) (fun f k => piece L _ _ _ _ _ _ _ (quarter_val 2 f _ rfl) (from_zero k)) (fun f k => piece L _ _ _ _ _ _ _ (quarter_val 3 f _ rfl) (from_zero k)) j).trans ?_
  simp only [g1, i1]
  rfl

end Row

end Cert.Kernel3Ideal.Rows

end
-- ==== Proof.Cumsum3.lean ====
/- The sample's reference: its running sum along the sequence and its rows taken at computed places. -/
module

public import proofs.«01_k».proof.Proof.Gen.Reference3Ideal.Read
public import proofs.«01_k».proof.Proof.Cumsum
public import Idealize.ShloMosaic.Lib.Pipeline.ValueKit

@[expose] public section

set_option maxRecDepth 16384

noncomputable section

open Idealize.ShloMosaic Idealize.ShloMosaic.TcCoe Idealize.SL.Sem

namespace Cert.Reference3Ideal.Rows

open Cert.Reference3Ideal Cert.Reference3Ideal.Gen

/-- The rows taken: at `(b, l, c)`, row `n` and column `o + c`, where the two index words hold `n` and `o`. -/
theorem taken (x : (⟨S32x20x1024, .f32⟩ : BufTy).Contents (Elt Ideal)) (idx : (⟨S4x2, .i32⟩ : BufTy).Contents (Elt Ideal))
    (b : Fin 32) (l : Fin 4) (c : Fin 256) (n : Fin 20) (j : Fin 1024) (o : ℕ) (ho : j.val = o + c.val) (hle : o ≤ 768)
    (h0 : (idx : IVec S4x2 32) (ix2 l 0) = BitVec.ofNat 32 n.val) (h1 : (idx : IVec S4x2 32) (ix2 l 1) = BitVec.ofNat 32 o) :
    Host.gather gather_S32x20x1024_S4x2_S32x4x256_02_1_n_n_12_1_321256 x idx (ix3 b l c) = x (ix3 b n j) := by
  have hn := n.isLt
  have hj := j.isLt
  have hc := c.isLt
  have word : ∀ m : ℕ, m < 10000 → (BitVec.ofNat 32 m).toInt.toNat = m := fun m hm => by
    rw [BitVec.toInt_eq_toNat_of_lt] <;> simp only [BitVec.toNat_ofNat] <;> omega
  unfold Host.gather
  refine congrArg x (funext fun a => Fin.ext ?_)
  match a with
  | 0 =>
    show 0 + 0 + b.val = b.val
    omega
  | 1 =>
    refine (congrArg (fun z : BitVec 32 => min z.toInt.toNat 19 + 0 + 0) ((congrArg idx (funext fun q => Fin.ext ?_)).trans h0)).trans ?_
    · match q with
      | 0 => rfl
      | 1 => rfl
    · show min (BitVec.ofNat 32 n.val).toInt.toNat 19 + 0 + 0 = n.val
      rw [word _ (by omega)]
      omega
  | 2 =>
    refine (congrArg (fun z : BitVec 32 => min z.toInt.toNat 768 + 0 + c.val) ((congrArg idx (funext fun q => Fin.ext ?_)).trans h1)).trans ?_
    · match q with
      | 0 => rfl
      | 1 => rfl
    · show min (BitVec.ofNat 32 o).toInt.toNat 768 + 0 + c.val = j.val
      rw [word _ (by omega)]
      omega

/-- The running sum along the sequence, as it prints: a window of the whole length, padded low by one less. -/
theorem running (x : (⟨S32x19x1024, .f32⟩ : BufTy).Contents (Elt Ideal)) (init : (⟨S_, .f32⟩ : BufTy).Contents (Elt Ideal))
    (h0 : ∀ i, init i = (0 : EReal)) (b : Fin 32) (l : Fin 19) (d : Fin 1024) (f : ℕ → EReal)
    (hf : ∀ k : Fin 19, x (ix3 b k d) = f k.val) :
    (Host.reduceWindowAdd (F := Ideal) (φ := .f32) ![1, 19, 1] ![1, 1, 1] ![0, 18, 0] ![0, 0, 0] x init
      reduceWindows_S32x19x1024_S32x19x1024_w1s1p0_0_w19s1p18_0_w1s1p0_0 h_S_ (ix3 b l d) : EReal)
      = ∑ k ∈ Finset.range (l.val + 1), f k := by
  have hl := l.isLt
  rw [← ReferenceIdeal.Rows.window_sum f 19 l.val hl, ← Fin.sum_univ_eq_sum_range (fun w => if 19 - 1 ≤ l.val + w then f (l.val + w - (19 - 1)) else 0) 19]
  unfold Host.reduceWindowAdd
  rw [Ideal.hostReduceWindowAdd_def, h0]
  unfold Ideal.hostReduceWindowAdd Host.reduceWindow
  have hN : (⟨3, ![1, 19, 1]⟩ : Shape).numel = 19 := by
    show ∏ a : Fin 3, (![1, 19, 1] : Fin 3 → Nat) a = 19
    rw [Fin.prod_univ_three]
    rfl
  have place : ∀ n : Fin (⟨3, ![1, 19, 1]⟩ : Shape).numel, (⟨3, ![1, 19, 1]⟩ : Shape).rowMajor.symm n = ix3 0 (n.cast hN) 0 :=
    fun n => ((⟨3, ![1, 19, 1]⟩ : Shape).rowMajor.symm_apply_eq).2 (Fin.ext (by
      rw [Shape.rowMajor_val_three]
      show n.val = (0 * 19 + n.val) * 1 + 0
      omega))
  refine (ReferenceIdeal.Rows.fold_sum _).trans ?_
  refine Fintype.sum_equiv (finCongr hN) _ _ fun n => ?_
  have hn : n.val < 19 := (n.cast hN).isLt
  have hb := b.isLt
  have hd := d.isLt
  refine Eq.trans ?_ (show (if 18 ≤ l.val + n.val then f (l.val + n.val - 18) else 0) = _ from rfl)
  dsimp only
  have p0 : ((⟨3, ![1, 19, 1]⟩ : Shape).rowMajor.symm n 0).val = 0 := by rw [place]; rfl
  have p1 : ((⟨3, ![1, 19, 1]⟩ : Shape).rowMajor.symm n 1).val = n.val := by rw [place]; rfl
  have p2 : ((⟨3, ![1, 19, 1]⟩ : Shape).rowMajor.symm n 2).val = 0 := by rw [place]; rfl
  split
  · next hin =>
    have h1 : 18 ≤ l.val * 1 + ((⟨3, ![1, 19, 1]⟩ : Shape).rowMajor.symm n 1).val := (hin 1).1
    rw [p1] at h1
    rw [if_pos (by omega)]
    refine (congrArg x (funext fun a => Fin.ext ?_)).trans (hf ⟨l.val + n.val - 18, by omega⟩)
    match a with
    | 0 =>
      show b.val * 1 + ((⟨3, ![1, 19, 1]⟩ : Shape).rowMajor.symm n 0).val - 0 = b.val
      rw [p0]; omega
    | 1 =>
      show l.val * 1 + ((⟨3, ![1, 19, 1]⟩ : Shape).rowMajor.symm n 1).val - 18 = l.val + n.val - 18
      rw [p1]; omega
    | 2 =>
      show d.val * 1 + ((⟨3, ![1, 19, 1]⟩ : Shape).rowMajor.symm n 2).val - 0 = d.val
      rw [p2]; omega
  · next hin =>
    rw [if_neg fun hle => hin fun a => by
      match a with
      | 0 =>
        show 0 ≤ b.val * 1 + ((⟨3, ![1, 19, 1]⟩ : Shape).rowMajor.symm n 0).val
          ∧ b.val * 1 + ((⟨3, ![1, 19, 1]⟩ : Shape).rowMajor.symm n 0).val - 0 < 32
        rw [p0]; omega
      | 1 =>
        show 18 ≤ l.val * 1 + ((⟨3, ![1, 19, 1]⟩ : Shape).rowMajor.symm n 1).val
          ∧ l.val * 1 + ((⟨3, ![1, 19, 1]⟩ : Shape).rowMajor.symm n 1).val - 18 < 19
        rw [p1]; omega
      | 2 =>
        show 0 ≤ d.val * 1 + ((⟨3, ![1, 19, 1]⟩ : Shape).rowMajor.symm n 2).val
          ∧ d.val * 1 + ((⟨3, ![1, 19, 1]⟩ : Shape).rowMajor.symm n 2).val - 0 < 1024
        rw [p2]; omega]

end Cert.Reference3Ideal.Rows

end
-- ==== Proof.RefPool3.lean ====
/- The sample's reference: the stream's rows, and the pooling mixer's, a row at a time. -/
module

public import proofs.«01_k».proof.Proof.Cumsum3
public import proofs.«01_k».proof.Proof.RefPool
public import proofs.«01_k».proof.Proof.Prefix

@[expose] public section

set_option maxRecDepth 16384

noncomputable section

open Idealize.ShloMosaic Idealize.ShloMosaic.TcCoe Idealize.SL.Sem

namespace Cert.Reference3Ideal.Rows

open Cert.Reference3Ideal Cert.Reference3Ideal.Gen Cert.Reference3Ideal.Read Cert.Spec
open Cert.ReferenceIdeal.Rows (unwrapped first_place size_word end_place)

/-! ## The stream and its running sum -/

variable (x0 : (⟨S32x4x1024, .f32⟩ : BufTy).Contents (Elt Ideal)) (x1 : (⟨S1x32x15x1024, .f32⟩ : BufTy).Contents (Elt Ideal))

/-- A sequence's rows: its context's, then its own. -/
def rows (b : Fin 32) : ℕ → Row 1024 := fun n d =>
  if h : n < 15 then x1 (ix4 0 b ⟨n, h⟩ d) else if h' : n < 19 then x0 (ix3 b ⟨n - 15, by omega⟩ d) else 0

theorem rows_context (b : Fin 32) (n : Fin 15) (d : Fin 1024) : rows x0 x1 b n.val d = x1 (ix4 0 b n d) := by
  unfold rows
  rw [dif_pos n.isLt]

theorem rows_own (b : Fin 32) (l : Fin 4) (d : Fin 1024) : rows x0 x1 b (15 + l.val) d = x0 (ix3 b l d) := by
  unfold rows
  rw [dif_neg (by omega), dif_pos (by omega)]
  exact congrArg (fun i => x0 (ix3 b i d)) (Fin.ext (by show 15 + l.val - 15 = l.val; omega))

theorem context_row (b : Fin 32) (l : Fin 15) (d : Fin 1024) : val_main_v0 x1 (ix3 b l d) = x1 (ix4 0 b l d) := by
  rw [val_main_v0_apply]
  refine congrArg _ (funext fun a => Fin.ext ?_)
  have := b.isLt; have := l.isLt; have := d.isLt
  match a with
  | 0 => simp; try omega
  | 1 => simp; try omega
  | 2 => simp; try omega
  | 3 => simp; try omega

theorem stream_row (b : Fin 32) (l : Fin 19) (d : Fin 1024) : val_main_v1 x0 x1 (ix3 b l d) = rows x0 x1 b l.val d := by
  have hl := l.isLt
  unfold rows
  pointwise [val_main_v1]
  by_cases h : l.val < 15
  · rw [dif_pos h, dif_pos h]
    exact context_row x1 b ⟨l.val, h⟩ d
  · rw [dif_neg h, dif_neg h]

theorem before_row (b : Fin 32) (n : Fin 20) (d : Fin 1024) : val_main_v7 x0 x1 (ix3 b n d) = before (rows x0 x1 b) n.val d := by
  pointwise [val_main_v7, val_main_v5, val_main_cst]
  by_cases h : n.val < 1
  · rw [dif_pos h]
    have h0 : n.val = 0 := by omega
    rw [h0]
    simp [before]
  · rw [dif_neg h]
    unfold val_main_v6
    refine (running _ _ (fun i => ?_) b ⟨n.val - 1, by omega⟩ d (fun k => rows x0 x1 b k d) (fun k => stream_row x0 x1 b k d)).trans ?_
    · pointwise [val_main_call0_call0_v0, val_main_call0_call0_cst]
    · unfold before
      rw [show n.val - 1 + 1 = n.val by omega]

/-! ## The four groups -/

variable (hx : ∀ b, Spec.Real (rows x0 x1 b))

theorem end_word (l : Fin 4) : (val_main_v12 (F := Ideal) : IVec S4 32) (ix1 l) = BitVec.ofNat 32 (15 + l.val + 1) := by
  pointwise [val_main_v8, val_main_v9, val_main_v10, val_main_v11, val_main_v12, val_main_c, val_main_c_0]
  match l with
  | 0 => rfl
  | 1 => rfl
  | 2 => rfl
  | 3 => rfl

/-! Group 0: windows of 2 rows. -/

theorem first_word0 (l : Fin 4) : (val_main_v16 (F := Ideal) : IVec S4 32) (ix1 l) = BitVec.ofNat 32 (15 + l.val + 1 - 2) := by
  have h := end_word l
  pointwise [val_main_v13, val_main_v14, val_main_v15, val_main_v16, val_main_c_1, val_main_c_2]
  rw [h]
  exact first_place (w := 2) (by omega) (by norm_num)

theorem end_pair0 (l : Fin 4) : (val_main_v24 (F := Ideal) : IVec S4x2 32) (ix2 l 0) = BitVec.ofNat 32 (15 + l.val + 1)
    ∧ (val_main_v24 (F := Ideal) : IVec S4x2 32) (ix2 l 1) = BitVec.ofNat 32 0 := by
  have h := end_word l
  constructor
  · pointwise [val_main_v17, val_main_v18, val_main_v19, val_main_v20, val_main_v21, val_main_v22, val_main_v23, val_main_v24, val_main_c_3, val_main_c_4, val_main_c_5]
    rw [h]
    exact unwrapped (by omega) _
  · pointwise [val_main_v17, val_main_v18, val_main_v19, val_main_v20, val_main_v21, val_main_v22, val_main_v23, val_main_v24, val_main_c_3, val_main_c_4, val_main_c_5]

theorem first_pair0 (l : Fin 4) : (val_main_v33 (F := Ideal) : IVec S4x2 32) (ix2 l 0) = BitVec.ofNat 32 (15 + l.val + 1 - 2)
    ∧ (val_main_v33 (F := Ideal) : IVec S4x2 32) (ix2 l 1) = BitVec.ofNat 32 0 := by
  have h := first_word0 l
  constructor
  · pointwise [val_main_v26, val_main_v27, val_main_v28, val_main_v29, val_main_v30, val_main_v31, val_main_v32, val_main_v33, val_main_c_6, val_main_c_7, val_main_c_8]
    rw [h]
    exact unwrapped (by omega) _
  · pointwise [val_main_v26, val_main_v27, val_main_v28, val_main_v29, val_main_v30, val_main_v31, val_main_v32, val_main_v33, val_main_c_6, val_main_c_7, val_main_c_8]

include hx in
theorem group0 (b : Fin 32) (l : Fin 4) (q : Fin 256) : val_main_v42 x0 x1 (ix3 b l q) = pooled (rows x0 x1 b) (15 + l.val) 0 q := by
  have hl := l.isLt
  have e1 : val_main_v25 x0 x1 (ix3 b l q) = before (rows x0 x1 b) (15 + l.val + 1) (col 0 q) :=
    (taken _ _ b l q ⟨15 + l.val + 1, by omega⟩ (col 0 q) 0 rfl (by norm_num) (end_pair0 l).1 (end_pair0 l).2).trans
      (before_row x0 x1 b _ _)
  have e2 : val_main_v34 x0 x1 (ix3 b l q) = before (rows x0 x1 b) (15 + l.val + 1 - 2) (col 0 q) :=
    (taken _ _ b l q ⟨15 + l.val + 1 - 2, by omega⟩ (col 0 q) 0 rfl (by norm_num) (first_pair0 l).1 (first_pair0 l).2).trans
      (before_row x0 x1 b _ _)
  have e3 := end_word l
  have e4 := first_word0 l
  have e5 : ∀ p : Fin 1024, p.val = 0 + q.val → val_main_v1 x0 x1 (ix3 b ⟨15 + l.val, by omega⟩ p) = rows x0 x1 b (15 + l.val) (col 0 q) := fun p hp => by
    rw [show p = col 0 q from Fin.ext hp]; exact stream_row x0 x1 b ⟨15 + l.val, by omega⟩ _
  have e5' := e5 ⟨0 + q.val, by omega⟩ rfl
  pointwise [val_main_v35, val_main_v36, val_main_v37, val_main_v38, val_main_v39, val_main_v40, val_main_v41, val_main_v42]
  have hz : (⟨q.val, by omega⟩ : Fin 1024) = ⟨0 + q.val, by omega⟩ := Fin.ext (Nat.zero_add _).symm
  rw [hz]
  rw [e1, e2, e3, e4, e5', before_sub (hx b), size_word (w := 2) (by omega)]
  rfl

/-! Group 1: windows of 4 rows. -/

theorem first_word1 (l : Fin 4) : (val_main_v46 (F := Ideal) : IVec S4 32) (ix1 l) = BitVec.ofNat 32 (15 + l.val + 1 - 4) := by
  have h := end_word l
  pointwise [val_main_v43, val_main_v44, val_main_v45, val_main_v46, val_main_c_9, val_main_c_10]
  rw [h]
  exact first_place (w := 4) (by omega) (by norm_num)

theorem end_pair1 (l : Fin 4) : (val_main_v54 (F := Ideal) : IVec S4x2 32) (ix2 l 0) = BitVec.ofNat 32 (15 + l.val + 1)
    ∧ (val_main_v54 (F := Ideal) : IVec S4x2 32) (ix2 l 1) = BitVec.ofNat 32 256 := by
  have h := end_word l
  constructor
  · pointwise [val_main_v47, val_main_v48, val_main_v49, val_main_v50, val_main_v51, val_main_v52, val_main_v53, val_main_v54, val_main_c_11, val_main_c_12, val_main_c_13]
    rw [h]
    exact unwrapped (by omega) _
  · pointwise [val_main_v47, val_main_v48, val_main_v49, val_main_v50, val_main_v51, val_main_v52, val_main_v53, val_main_v54, val_main_c_11, val_main_c_12, val_main_c_13]

theorem first_pair1 (l : Fin 4) : (val_main_v63 (F := Ideal) : IVec S4x2 32) (ix2 l 0) = BitVec.ofNat 32 (15 + l.val + 1 - 4)
    ∧ (val_main_v63 (F := Ideal) : IVec S4x2 32) (ix2 l 1) = BitVec.ofNat 32 256 := by
  have h := first_word1 l
  constructor
  · pointwise [val_main_v56, val_main_v57, val_main_v58, val_main_v59, val_main_v60, val_main_v61, val_main_v62, val_main_v63, val_main_c_14, val_main_c_15, val_main_c_16]
    rw [h]
    exact unwrapped (by omega) _
  · pointwise [val_main_v56, val_main_v57, val_main_v58, val_main_v59, val_main_v60, val_main_v61, val_main_v62, val_main_v63, val_main_c_14, val_main_c_15, val_main_c_16]

include hx in
theorem group1 (b : Fin 32) (l : Fin 4) (q : Fin 256) : val_main_v72 x0 x1 (ix3 b l q) = pooled (rows x0 x1 b) (15 + l.val) 1 q := by
  have hl := l.isLt
  have e1 : val_main_v55 x0 x1 (ix3 b l q) = before (rows x0 x1 b) (15 + l.val + 1) (col 1 q) :=
    (taken _ _ b l q ⟨15 + l.val + 1, by omega⟩ (col 1 q) 256 rfl (by norm_num) (end_pair1 l).1 (end_pair1 l).2).trans
      (before_row x0 x1 b _ _)
  have e2 : val_main_v64 x0 x1 (ix3 b l q) = before (rows x0 x1 b) (15 + l.val + 1 - 4) (col 1 q) :=
    (taken _ _ b l q ⟨15 + l.val + 1 - 4, by omega⟩ (col 1 q) 256 rfl (by norm_num) (first_pair1 l).1 (first_pair1 l).2).trans
      (before_row x0 x1 b _ _)
  have e3 := end_word l
  have e4 := first_word1 l
  have e5 : ∀ p : Fin 1024, p.val = 256 + q.val → val_main_v1 x0 x1 (ix3 b ⟨15 + l.val, by omega⟩ p) = rows x0 x1 b (15 + l.val) (col 1 q) := fun p hp => by
    rw [show p = col 1 q from Fin.ext hp]; exact stream_row x0 x1 b ⟨15 + l.val, by omega⟩ _
  have e5' := e5 ⟨256 + q.val, by omega⟩ rfl
  pointwise [val_main_v65, val_main_v66, val_main_v67, val_main_v68, val_main_v69, val_main_v70, val_main_v71, val_main_v72]
  skip
  skip
  rw [e1, e2, e3, e4, e5', before_sub (hx b), size_word (w := 4) (by omega)]
  rfl

/-! Group 2: windows of 8 rows. -/

theorem first_word2 (l : Fin 4) : (val_main_v76 (F := Ideal) : IVec S4 32) (ix1 l) = BitVec.ofNat 32 (15 + l.val + 1 - 8) := by
  have h := end_word l
  pointwise [val_main_v73, val_main_v74, val_main_v75, val_main_v76, val_main_c_17, val_main_c_18]
  rw [h]
  exact first_place (w := 8) (by omega) (by norm_num)

theorem end_pair2 (l : Fin 4) : (val_main_v84 (F := Ideal) : IVec S4x2 32) (ix2 l 0) = BitVec.ofNat 32 (15 + l.val + 1)
    ∧ (val_main_v84 (F := Ideal) : IVec S4x2 32) (ix2 l 1) = BitVec.ofNat 32 512 := by
  have h := end_word l
  constructor
  · pointwise [val_main_v77, val_main_v78, val_main_v79, val_main_v80, val_main_v81, val_main_v82, val_main_v83, val_main_v84, val_main_c_19, val_main_c_20, val_main_c_21]
    rw [h]
    exact unwrapped (by omega) _
  · pointwise [val_main_v77, val_main_v78, val_main_v79, val_main_v80, val_main_v81, val_main_v82, val_main_v83, val_main_v84, val_main_c_19, val_main_c_20, val_main_c_21]

theorem first_pair2 (l : Fin 4) : (val_main_v93 (F := Ideal) : IVec S4x2 32) (ix2 l 0) = BitVec.ofNat 32 (15 + l.val + 1 - 8)
    ∧ (val_main_v93 (F := Ideal) : IVec S4x2 32) (ix2 l 1) = BitVec.ofNat 32 512 := by
  have h := first_word2 l
  constructor
  · pointwise [val_main_v86, val_main_v87, val_main_v88, val_main_v89, val_main_v90, val_main_v91, val_main_v92, val_main_v93, val_main_c_22, val_main_c_23, val_main_c_24]
    rw [h]
    exact unwrapped (by omega) _
  · pointwise [val_main_v86, val_main_v87, val_main_v88, val_main_v89, val_main_v90, val_main_v91, val_main_v92, val_main_v93, val_main_c_22, val_main_c_23, val_main_c_24]

include hx in
theorem group2 (b : Fin 32) (l : Fin 4) (q : Fin 256) : val_main_v102 x0 x1 (ix3 b l q) = pooled (rows x0 x1 b) (15 + l.val) 2 q := by
  have hl := l.isLt
  have e1 : val_main_v85 x0 x1 (ix3 b l q) = before (rows x0 x1 b) (15 + l.val + 1) (col 2 q) :=
    (taken _ _ b l q ⟨15 + l.val + 1, by omega⟩ (col 2 q) 512 rfl (by norm_num) (end_pair2 l).1 (end_pair2 l).2).trans
      (before_row x0 x1 b _ _)
  have e2 : val_main_v94 x0 x1 (ix3 b l q) = before (rows x0 x1 b) (15 + l.val + 1 - 8) (col 2 q) :=
    (taken _ _ b l q ⟨15 + l.val + 1 - 8, by omega⟩ (col 2 q) 512 rfl (by norm_num) (first_pair2 l).1 (first_pair2 l).2).trans
      (before_row x0 x1 b _ _)
  have e3 := end_word l
  have e4 := first_word2 l
  have e5 : ∀ p : Fin 1024, p.val = 512 + q.val → val_main_v1 x0 x1 (ix3 b ⟨15 + l.val, by omega⟩ p) = rows x0 x1 b (15 + l.val) (col 2 q) := fun p hp => by
    rw [show p = col 2 q from Fin.ext hp]; exact stream_row x0 x1 b ⟨15 + l.val, by omega⟩ _
  have e5' := e5 ⟨512 + q.val, by omega⟩ rfl
  pointwise [val_main_v95, val_main_v96, val_main_v97, val_main_v98, val_main_v99, val_main_v100, val_main_v101, val_main_v102]
  skip
  skip
  rw [e1, e2, e3, e4, e5', before_sub (hx b), size_word (w := 8) (by omega)]
  rfl

/-! Group 3: windows of 16 rows. -/

theorem first_word3 (l : Fin 4) : (val_main_v106 (F := Ideal) : IVec S4 32) (ix1 l) = BitVec.ofNat 32 (15 + l.val + 1 - 16) := by
  have h := end_word l
  pointwise [val_main_v103, val_main_v104, val_main_v105, val_main_v106, val_main_c_25, val_main_c_26]
  rw [h]
  exact first_place (w := 16) (by omega) (by norm_num)

theorem end_pair3 (l : Fin 4) : (val_main_v114 (F := Ideal) : IVec S4x2 32) (ix2 l 0) = BitVec.ofNat 32 (15 + l.val + 1)
    ∧ (val_main_v114 (F := Ideal) : IVec S4x2 32) (ix2 l 1) = BitVec.ofNat 32 768 := by
  have h := end_word l
  constructor
  · pointwise [val_main_v107, val_main_v108, val_main_v109, val_main_v110, val_main_v111, val_main_v112, val_main_v113, val_main_v114, val_main_c_27, val_main_c_28, val_main_c_29]
    rw [h]
    exact unwrapped (by omega) _
  · pointwise [val_main_v107, val_main_v108, val_main_v109, val_main_v110, val_main_v111, val_main_v112, val_main_v113, val_main_v114, val_main_c_27, val_main_c_28, val_main_c_29]

theorem first_pair3 (l : Fin 4) : (val_main_v123 (F := Ideal) : IVec S4x2 32) (ix2 l 0) = BitVec.ofNat 32 (15 + l.val + 1 - 16)
    ∧ (val_main_v123 (F := Ideal) : IVec S4x2 32) (ix2 l 1) = BitVec.ofNat 32 768 := by
  have h := first_word3 l
  constructor
  · pointwise [val_main_v116, val_main_v117, val_main_v118, val_main_v119, val_main_v120, val_main_v121, val_main_v122, val_main_v123, val_main_c_30, val_main_c_31, val_main_c_32]
    rw [h]
    exact unwrapped (by omega) _
  · pointwise [val_main_v116, val_main_v117, val_main_v118, val_main_v119, val_main_v120, val_main_v121, val_main_v122, val_main_v123, val_main_c_30, val_main_c_31, val_main_c_32]

include hx in
theorem group3 (b : Fin 32) (l : Fin 4) (q : Fin 256) : val_main_v132 x0 x1 (ix3 b l q) = pooled (rows x0 x1 b) (15 + l.val) 3 q := by
  have hl := l.isLt
  have e1 : val_main_v115 x0 x1 (ix3 b l q) = before (rows x0 x1 b) (15 + l.val + 1) (col 3 q) :=
    (taken _ _ b l q ⟨15 + l.val + 1, by omega⟩ (col 3 q) 768 rfl (by norm_num) (end_pair3 l).1 (end_pair3 l).2).trans
      (before_row x0 x1 b _ _)
  have e2 : val_main_v124 x0 x1 (ix3 b l q) = before (rows x0 x1 b) (15 + l.val + 1 - 16) (col 3 q) :=
    (taken _ _ b l q ⟨15 + l.val + 1 - 16, by omega⟩ (col 3 q) 768 rfl (by norm_num) (first_pair3 l).1 (first_pair3 l).2).trans
      (before_row x0 x1 b _ _)
  have e3 := end_word l
  have e4 := first_word3 l
  have e5 : ∀ p : Fin 1024, p.val = 768 + q.val → val_main_v1 x0 x1 (ix3 b ⟨15 + l.val, by omega⟩ p) = rows x0 x1 b (15 + l.val) (col 3 q) := fun p hp => by
    rw [show p = col 3 q from Fin.ext hp]; exact stream_row x0 x1 b ⟨15 + l.val, by omega⟩ _
  have e5' := e5 ⟨768 + q.val, by omega⟩ rfl
  pointwise [val_main_v125, val_main_v126, val_main_v127, val_main_v128, val_main_v129, val_main_v130, val_main_v131, val_main_v132]
  skip
  skip
  rw [e1, e2, e3, e4, e5', before_sub (hx b), size_word (w := 16) (by omega)]
  rfl

end Cert.Reference3Ideal.Rows

end
-- ==== Proof.Ref3.lean ====
/- The sample's reference, a row at a time. -/
module

public import proofs.«01_k».proof.Proof.RefPool3

@[expose] public section

set_option maxRecDepth 16384

noncomputable section

open Idealize.ShloMosaic Idealize.ShloMosaic.TcCoe Idealize.SL.Sem

namespace Cert.Reference3Ideal.Rows

open Cert.Reference3Ideal Cert.Reference3Ideal.Gen Cert.Reference3Ideal.Read Cert.Spec

variable (x0 : (⟨S32x4x1024, .f32⟩ : BufTy).Contents (Elt Ideal)) (x1 : (⟨S1x32x15x1024, .f32⟩ : BufTy).Contents (Elt Ideal))
  (x3 x4 : (⟨S2x2x1024, .f32⟩ : BufTy).Contents (Elt Ideal)) (x5 : (⟨S1x4x256x256, .f32⟩ : BufTy).Contents (Elt Ideal))
  (x6 x7 : (⟨S1x1024, .f32⟩ : BufTy).Contents (Elt Ideal)) (x8 : (⟨S2x1024x4096, .f32⟩ : BufTy).Contents (Elt Ideal))
  (x9 : (⟨S2x4096, .f32⟩ : BufTy).Contents (Elt Ideal)) (x10 : (⟨S2x4096x1024, .f32⟩ : BufTy).Contents (Elt Ideal))
  (x11 : (⟨S2x1024, .f32⟩ : BufTy).Contents (Elt Ideal)) (x12 : (⟨S1024x2048, .f32⟩ : BufTy).Contents (Elt Ideal))
  (x13 : (⟨S1x1024x1024, .f32⟩ : BufTy).Contents (Elt Ideal))

variable (hx : ∀ b, Spec.Real (rows x0 x1 b))

/-- The mixer's parameters, for the rows of the specification. -/
abbrev mixed_row (b : Fin 32) (l : ℕ) : Row 1024 :=
  mixer (rows x0 x1 b) l (fun g x c => x5 (ix4 0 g x c)) (fun k => x6 (ix2 0 k)) (fun k => x7 (ix2 0 k))

include hx

theorem stack_row (b : Fin 32) (l : Fin 4) (g : Fin 4) (c : Fin 256) :
    val_main_v137 x0 x1 (ix4 b l g c) = pooled (rows x0 x1 b) (15 + l.val) g c := by
  have e0 := group0 x0 x1 hx b l c
  have e1 := group1 x0 x1 hx b l c
  have e2 := group2 x0 x1 hx b l c
  have e3 := group3 x0 x1 hx b l c
  fin_cases g
  · pointwise [val_main_v133, val_main_v134, val_main_v135, val_main_v136, val_main_v137]
    exact e0
  · pointwise [val_main_v133, val_main_v134, val_main_v135, val_main_v136, val_main_v137]
    exact e1
  · pointwise [val_main_v133, val_main_v134, val_main_v135, val_main_v136, val_main_v137]
    exact e2
  · pointwise [val_main_v133, val_main_v134, val_main_v135, val_main_v136, val_main_v137]
    exact e3

theorem product_row (b : Fin 32) (l : Fin 4) (g : Fin 4) (d : Fin 256) :
    val_main_v139 x0 x1 x5 (ix4 b l g d) = mixed (rows x0 x1 b) (15 + l.val) g (fun x c => x5 (ix4 0 g x c)) d := by
  pointwise [val_main_v2, val_main_v138, val_main_v139]
  simp only [stack_row x0 x1 hx]
  exact Finset.sum_congr rfl fun x _ => mul_comm (G := EReal) _ _

theorem mix_row (b : Fin 32) (l : Fin 4) (j : Fin 1024) :
    val_main_v146 x0 x1 x5 x6 x7 (ix3 b l j) = mixed_row x0 x1 x5 x6 x7 b (15 + l.val) j := by
  have e : val_main_v140 x0 x1 x5 (ix3 b l j)
      = val_main_v139 x0 x1 x5 (ix4 b l ⟨j.val / 256, by omega⟩ ⟨j.val % 256, by omega⟩) := by
    rw [val_main_v140_apply]
    refine congrArg _ (funext fun a => Fin.ext ?_)
    have := b.isLt; have := l.isLt; have := j.isLt
    match a with
    | 0 => simp; omega
    | 1 => simp; omega
    | 2 => simp; omega
    | 3 => simp; try omega
  have e' := e.trans (product_row x0 x1 x5 hx b l _ _)
  pointwise [val_main_v3, val_main_v4, val_main_v141, val_main_v142, val_main_v143, val_main_v144, val_main_v145, val_main_v146]
  rw [e']
  rfl

/-- The first sub-layer's row. -/
theorem first_row (b : Fin 32) (l : Fin 4) (j : Fin 1024) :
    val_main_v175 x0 x1 x3 x4 x5 x6 x7 (ix3 b l j)
      = inner (rows x0 x1 b (15 + l.val)) (mixed_row x0 x1 x5 x6 x7 b (15 + l.val)) (fun k => x3 (ix3 0 0 k)) (fun k => x4 (ix3 0 0 k)) j := by
  pointwise [val_main_cst_33, val_main_v147, val_main_v148, val_main_v149, val_main_v150, val_main_v151, val_main_v152, val_main_v153, val_main_cst_34, val_main_v154, val_main_v155, val_main_cst_35, val_main_v156, val_main_v157, val_main_v158, val_main_v159, val_main_v160, val_main_cst_36, val_main_v161, val_main_v162, val_main_cst_37, val_main_v163, val_main_v164, val_main_cst_38, val_main_v165, val_main_v166, val_main_v167, val_main_v168, val_main_v169, val_main_v170, val_main_v171, val_main_v172, val_main_v173, val_main_v174, val_main_v175]
  simp only [mix_row x0 x1 x5 x6 x7 hx, ← rows_own x0 x1]
  rfl

/-- The layer's row. -/
abbrev layered (b : Fin 32) (l : ℕ) : Row 1024 :=
  layer (rows x0 x1 b l) (mixed_row x0 x1 x5 x6 x7 b l) (fun k => x3 (ix3 0 0 k)) (fun k => x4 (ix3 0 0 k))
    (fun k => x3 (ix3 0 1 k)) (fun k => x4 (ix3 0 1 k)) (fun k f => x8 (ix3 0 k f)) (fun f => x9 (ix2 0 f))
    (fun f k => x10 (ix3 0 f k)) (fun k => x11 (ix2 0 k))

theorem layer_row (b : Fin 32) (l : Fin 4) (j : Fin 1024) :
    val_main_v222 x0 x1 x3 x4 x5 x6 x7 x8 x9 x10 x11 (ix3 b l j) = layered x0 x1 x3 x4 x5 x6 x7 x8 x9 x10 x11 b (15 + l.val) j := by
  pointwise [val_main_cst_39, val_main_v176, val_main_v177, val_main_v178, val_main_v179, val_main_v180, val_main_v181, val_main_v182, val_main_v183, val_main_v184, val_main_v185, val_main_v186, val_main_v187, val_main_v188, val_main_v189, val_main_call1_cst, val_main_call1_v0, val_main_v190, val_main_v191, val_main_v192, val_main_v193, val_main_v194, val_main_v195, val_main_v196, val_main_v197, val_main_v198, val_main_v199, val_main_v200, val_main_cst_40, val_main_v201, val_main_v202, val_main_cst_41, val_main_v203, val_main_v204, val_main_v205, val_main_v206, val_main_v207, val_main_cst_42, val_main_v208, val_main_v209, val_main_cst_43, val_main_v210, val_main_v211, val_main_cst_44, val_main_v212, val_main_v213, val_main_v214, val_main_v215, val_main_v216, val_main_v217, val_main_v218, val_main_v219, val_main_v220, val_main_v221, val_main_v222]
  simp only [first_row x0 x1 x3 x4 x5 x6 x7 hx]
  rfl

/-! The results, as the call lays them out: row `r` is sample `r % 32`'s new row `r / 32`. -/

theorem keys_row (j : Fin 1024) (r : Fin 128) :
    val_main_v233 x0 x1 x3 x4 x5 x6 x7 x8 x9 x10 x11 x12 (ix3 0 j r)
      = ∑ k : Fin 1024, layered x0 x1 x3 x4 x5 x6 x7 x8 x9 x10 x11 ⟨r.val % 32, by omega⟩ (15 + r.val / 32) k * x12 (ix2 k ⟨j.val, by omega⟩) := by
  have e := fun k => layer_row x0 x1 x3 x4 x5 x6 x7 x8 x9 x10 x11 hx ⟨r.val % 32, by omega⟩ ⟨r.val / 32, by omega⟩ k
  pointwise [val_main_v223, val_main_v224, val_main_v230, val_main_v231, val_main_v232, val_main_v233]
  simp only [e]

theorem values_row (j : Fin 1024) (r : Fin 128) :
    val_main_v237 x0 x1 x3 x4 x5 x6 x7 x8 x9 x10 x11 x12 (ix3 0 j r)
      = ∑ k : Fin 1024, layered x0 x1 x3 x4 x5 x6 x7 x8 x9 x10 x11 ⟨r.val % 32, by omega⟩ (15 + r.val / 32) k * x12 (ix2 k ⟨1024 + j.val, by omega⟩) := by
  have e := fun k => layer_row x0 x1 x3 x4 x5 x6 x7 x8 x9 x10 x11 hx ⟨r.val % 32, by omega⟩ ⟨r.val / 32, by omega⟩ k
  pointwise [val_main_v223, val_main_v225, val_main_v234, val_main_v235, val_main_v236, val_main_v237]
  simp only [e]

theorem hidden_row (r : Fin 128) (j : Fin 1024) :
    val_main_v240 x0 x1 x3 x4 x5 x6 x7 x8 x9 x10 x11 (ix3 0 r j)
      = layered x0 x1 x3 x4 x5 x6 x7 x8 x9 x10 x11 ⟨r.val % 32, by omega⟩ (15 + r.val / 32) j := by
  have e := fun k => layer_row x0 x1 x3 x4 x5 x6 x7 x8 x9 x10 x11 hx ⟨r.val % 32, by omega⟩ ⟨r.val / 32, by omega⟩ k
  pointwise [val_main_v238, val_main_v239, val_main_v240]
  exact e j

theorem queries_row (r : Fin 128) (j : Fin 1024) :
    val_main_v244 x0 x1 x3 x4 x5 x6 x7 x8 x9 x10 x11 x13 (ix3 0 r j)
      = (∑ k : Fin 1024, layered x0 x1 x3 x4 x5 x6 x7 x8 x9 x10 x11 ⟨r.val % 32, by omega⟩ (15 + r.val / 32) k * x13 (ix3 0 k j))
          * Ideal.ofBits FTy.f32 1040187392#32 := by
  have e := fun k => layer_row x0 x1 x3 x4 x5 x6 x7 x8 x9 x10 x11 hx ⟨r.val % 32, by omega⟩ ⟨r.val / 32, by omega⟩ k
  pointwise [val_main_v226, val_main_v227, val_main_cst_45, val_main_v228, val_main_v229, val_main_v241, val_main_v242, val_main_v243, val_main_v244]
  simp only [e]

end Cert.Reference3Ideal.Rows

end
-- ==== Proof.Value3.lean ====
/- The results of the sample batch's first call. -/
module

public import proofs.«01_k».proof.Proof.Operands3
public import proofs.«01_k».proof.Proof.Block3
public import proofs.«01_k».proof.Proof.Ref3

@[expose] public section

set_option maxRecDepth 16384

noncomputable section

open Idealize.ShloMosaic Idealize.ShloMosaic.TcCoe Idealize.SL.Sem
open Idealize.ShloMosaic.Pipeline (Dat)

namespace Cert.Kernel3Ideal.Rows

open Cert.Kernel3Ideal Cert.Kernel3Ideal.Gen Cert.Spec
open Cert.Reference3Ideal.Rows (rows rows_context rows_own)

/-- A row of the array that lays the samples out is a sample's row: position `n` of sample `b` is row `(n + 1) * 32 + b`. -/
theorem laid_row (x : Vec Ideal S1x32x15x1024 .f32) (y : Vec Ideal S32x4x1024 .f32) (R : Fin 640) (d : Fin 1024) (n : ℕ) (hn : n < 19)
    (b : Fin 32) (hR : R.val = (n + 1) * 32 + b.val) : laid x y (ix3 0 R d) = rows y x b n d := by
  generalize hf : laid x y = f
  by_cases h : n < 15
  · have e := laid_ctx x y R d ⟨n, h⟩ b hR
    rw [hf] at e
    rw [e]
    exact (rows_context y x b ⟨n, h⟩ d).symm
  · have e2 := rows_own y x b ⟨n - 15, by omega⟩ d
    have e := laid_new x y R d ⟨n - 15, by omega⟩ b (hR.trans (by show (n + 1) * 32 + b.val = (n - 15 + 16) * 32 + b.val; omega))
    rw [hf] at e
    rw [e, ← e2]
    exact congrArg (fun k => rows y x b k d) (show 15 + (n - 15) = n by omega)

/-- The scratch's rows are the rows laid out. -/
theorem scratch_row (A : Vec Ideal S1x512x1024 .f32) (B : Vec Ideal S1x128x1024 .f32) (f : Vec Ideal S1x640x1024 .f32)
    (hA : ∀ (q : Fin 512) (d : Fin 1024), A (ix3 0 q d) = f (ix3 0 ⟨q.val, by omega⟩ d))
    (hB : ∀ (q : Fin 128) (d : Fin 1024), B (ix3 0 q d) = f (ix3 0 ⟨512 + q.val, by omega⟩ d)) (p : Fin 640) (d : Fin 1024) :
    tall (k0_pay4 A) (k0_pay5 B) (ix2 p d) = f (ix3 0 p d) := by
  have hp := p.isLt
  unfold tall
  dsimp only
  by_cases h : p.val < 512
  · refine (dif_pos h).trans ?_
    have e : k0_pay4 A (ix2 ⟨p.val, h⟩ d) = A (ix3 0 ⟨p.val, h⟩ d) := by pointwise [k0_pay4]
    exact e.trans (hA _ d)
  · refine (dif_neg h).trans ?_
    have e : k0_pay5 B (ix2 ⟨p.val - 512, by omega⟩ d) = B (ix3 0 ⟨p.val - 512, by omega⟩ d) := by pointwise [k0_pay5, k0_pay3]
    refine e.trans ((hB _ d).trans ?_)
    exact congrArg (fun q => f (ix3 0 q d)) (Fin.ext (by show 512 + (p.val - 512) = p.val; omega))

variable (m : (ℓ : Loc nD τ sig) → Buf (Elt Ideal) ℓ)

/-- The layer's rows over the call's arguments. -/
abbrev layeredAt (c : Dev nD) (b : Fin 32) (l : ℕ) : Row 1024 := Cert.Reference3Ideal.Rows.layered (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b l

/-- The body's rows: row `r` is sample `r % 32`'s new row `r / 32`. -/
theorem rowsAt_row (c : Dev nD) (t : Fin cfg0.N) (r : Fin 128) (j : Fin 1024) :
    rowsAt m c t (ix2 r j) = layeredAt m c ⟨r.val % 32, by omega⟩ (15 + r.val / 32) j := by
  have hr := r.isLt
  obtain ⟨b, hb⟩ : ∃ b : Fin 32, b = ⟨r.val % 32, by omega⟩ := ⟨_, rfl⟩
  have hb' : b.val = r.val % 32 := by rw [hb]
  rw [← hb]
  obtain ⟨n, hn⟩ : ∃ n : ℕ, n = 15 + r.val / 32 := ⟨_, rfl⟩
  rw [← hn]
  have hA : ∀ (q : Fin 512) (d : Fin 1024), X0_0 m c t (ix3 0 q d) = laid (m ((c : Thread nD τ).loc main_arg1)) (m ((c : Thread nD τ).loc main_arg0)) (ix3 0 ⟨q.val, by omega⟩ d) := fun q d =>
    (prev_block m c t q d).trans (congrFun (host_laid m c) _)
  have hB : ∀ (q : Fin 128) (d : Fin 1024), iblk m c 1 t (ix3 0 q d) = laid (m ((c : Thread nD τ).loc main_arg1)) (m ((c : Thread nD τ).loc main_arg0)) (ix3 0 ⟨512 + q.val, by omega⟩ d) := fun q d =>
    (cur_block m c t q d).trans (congrFun (host_laid m c) _)
  unfold rowsAt
  refine (block_row _ _ _ _ _ _ _ _ _ _ _ (rows (m ((c : Thread nD τ).loc main_arg0)) (m ((c : Thread nD τ).loc main_arg1)) b) n (by omega) r
    (fun d => (hB r d).trans (laid_row _ _ _ d n (by omega) b (by show 512 + r.val = (n + 1) * 32 + b.val; omega)))
    (fun k h1 h2 p hp d => (scratch_row _ _ _ hA hB p d).trans (by
      unfold back
      rw [if_pos (by omega)]
      exact laid_row _ _ _ d (n - k) (by omega) b (by omega))) j).trans ?_
  have hmix : ∀ k, mixer (rows (m ((c : Thread nD τ).loc main_arg0)) (m ((c : Thread nD τ).loc main_arg1)) b) n
        (fun g a d => iblk m c 3 t (ix3 g a d)) (fun k => iblk m c 4 t (ix2 0 k)) (fun k => iblk m c 5 t (ix2 0 k)) k
      = Cert.Reference3Ideal.Rows.mixed_row (m ((c : Thread nD τ).loc main_arg0)) (m ((c : Thread nD τ).loc main_arg1)) (m ((c : Thread nD τ).loc main_arg5)) (m ((c : Thread nD τ).loc main_arg6)) (m ((c : Thread nD τ).loc main_arg7)) b n k := fun k => by
    have e3 : (fun g a d => iblk m c 3 t (ix3 g a d) : Fin 4 → Fin 256 → Fin 256 → EReal) = fun g a d => m ((c : Thread nD τ).loc main_arg5) (ix4 0 g a d) :=
      funext fun g => funext fun a => funext fun d => (congrFun (whole3 m c t) _).trans (host_pool m c g a d)
    have e4 : (fun k => iblk m c 4 t (ix2 0 k) : Row 1024) = fun k => m ((c : Thread nD τ).loc main_arg6) (ix2 0 k) :=
      funext fun k => (congrFun (whole4 m c t) _).trans (host_b0 m c k)
    have e5 : (fun k => iblk m c 5 t (ix2 0 k) : Row 1024) = fun k => m ((c : Thread nD τ).loc main_arg7) (ix2 0 k) :=
      funext fun k => (congrFun (whole5 m c t) _).trans (host_s0 m c k)
    exact congrFun (congrArg₂ (fun w (z : Row 1024 × Row 1024) => mixer _ n w z.1 z.2) e3 (congrArg₂ Prod.mk e4 e5)) k
  exact layer_congr (fun _ => rfl) hmix
    (fun k => (congrFun (whole6 m c t) _).trans (host_g m c 0 k)) (fun k => (congrFun (whole7 m c t) _).trans (host_b m c 0 k))
    (fun k => (congrFun (whole6 m c t) _).trans (host_g m c 1 k)) (fun k => (congrFun (whole7 m c t) _).trans (host_b m c 1 k))
    (fun k f => (congrFun (whole8 m c t) _).trans (host_wu m c k f)) (fun f => (congrFun (whole9 m c t) _).trans (host_bu m c f))
    (fun f k => (congrFun (whole10 m c t) _).trans (host_wd m c f k)) (fun k => (congrFun (whole11 m c t) _).trans (host_bd m c k)) j

/-- The layer's rows, as the call lays them out. -/
def hiddenOf (c : Dev nD) : Vec Ideal S1x128x1024 .f32 := fun i =>
  layeredAt m c ⟨(i 1).val % 32, by omega⟩ (15 + (i 1).val / 32) (i 2)

/-- The queries. -/
def queriesOf (c : Dev nD) : Vec Ideal S1x128x1024 .bf16 := fun i =>
  (∑ k : Fin 1024, layeredAt m c ⟨(i 1).val % 32, by omega⟩ (15 + (i 1).val / 32) k * m ((c : Thread nD τ).loc main_arg13) (ix3 0 k (i 2)))
    * Ideal.ofBits FTy.f32 1040187392#32

/-- The keys. -/
def keysOf (c : Dev nD) : Vec Ideal S1x1024x128 .f32 := fun i =>
  ∑ k : Fin 1024, layeredAt m c ⟨(i 2).val % 32, by omega⟩ (15 + (i 2).val / 32) k
    * m ((c : Thread nD τ).loc main_arg12) (ix2 k ⟨(i 1).val, by have : (i 1).val < 1024 := (i 1).isLt; omega⟩)

/-- The values. -/
def valuesOf (c : Dev nD) : Vec Ideal S1x1024x128 .f32 := fun i =>
  ∑ k : Fin 1024, layeredAt m c ⟨(i 2).val % 32, by omega⟩ (15 + (i 2).val / 32) k
    * m ((c : Thread nD τ).loc main_arg12) (ix2 k ⟨1024 + (i 1).val, by have : (i 1).val < 1024 := (i 1).isLt; omega⟩)

theorem final_hidden (c : Dev nD) : (dats m 0 c).arrAt 15 (cfgs 0).N = hiddenOf m c := by
  refine (dats m 0 c).arrAt_eq_of_covers 15 _ (by decide +kernel) fun t _ y => ?_
  idx_vars y
  have h0 := y0.isLt
  have h1 := y1.isLt
  have h2 := y2.isLt
  blk_simp
  have e : (win0_15.blk t).view.emb (ix3 y0 y1 y2) = ix3 (0 : Fin 1) (⟨y1.val, h1⟩ : Fin 128) (⟨y2.val, h2⟩ : Fin 1024) := by
    refine funext fun a => Fin.ext ?_
    refine (win0_15.rect_emb_val t (ix3 y0 y1 y2) a).trans ?_
    rw [(idx t).2.2.2.2.2.2.2.2.2.2.2.2.2.2.2.1]
    match a with
    | 0 => show 0 * 1 + y0.val = 0; omega
    | 1 => exact (congrArg (· + y1.val) (Nat.zero_mul _)).trans (Nat.zero_add _)
    | 2 => exact (congrArg (· + y2.val) (Nat.zero_mul _)).trans (Nat.zero_add _)
  rw [e]
  obtain rfl : y0 = 0 := Subsingleton.elim _ _
  refine (after15 m c t y1 y2).trans ?_
  exact rowsAt_row m c t y1 y2

theorem final_queries (c : Dev nD) : (dats m 0 c).arrAt 18 (cfgs 0).N = queriesOf m c := by
  refine (dats m 0 c).arrAt_eq_of_covers 18 _ (by decide +kernel) fun t _ y => ?_
  idx_vars y
  have h0 := y0.isLt
  have h1 := y1.isLt
  have h2 := y2.isLt
  blk_simp
  have e : (win0_18.blk t).view.emb (ix3 y0 y1 y2) = ix3 (0 : Fin 1) (⟨y1.val, h1⟩ : Fin 128) (⟨y2.val, h2⟩ : Fin 1024) := by
    refine funext fun a => Fin.ext ?_
    refine (win0_18.rect_emb_val t (ix3 y0 y1 y2) a).trans ?_
    rw [(idx t).2.2.2.2.2.2.2.2.2.2.2.2.2.2.2.2.2.2]
    match a with
    | 0 => show 0 * 1 + y0.val = 0; omega
    | 1 => exact (congrArg (· + y1.val) (Nat.zero_mul _)).trans (Nat.zero_add _)
    | 2 => exact (congrArg (· + y2.val) (Nat.zero_mul _)).trans (Nat.zero_add _)
  rw [e]
  obtain rfl : y0 = 0 := Subsingleton.elim _ _
  refine (after18 m c t y1 y2).trans ?_
  exact congrArg (fun z : EReal => z * Ideal.ofBits FTy.f32 1040187392#32) (Finset.sum_congr rfl fun k _ =>
    congrArg₂ (fun a b : EReal => a * b) (rowsAt_row m c t y1 k) ((congrFun (whole14 m c t) _).trans (host_wq m c k y2)))

theorem final_keys (c : Dev nD) : (dats m 0 c).arrAt 16 (cfgs 0).N = keysOf m c := by
  refine (dats m 0 c).arrAt_eq_of_covers 16 _ (by decide +kernel) fun t _ y => ?_
  idx_vars y
  have h0 := y0.isLt
  have h1 := y1.isLt
  have h2 := y2.isLt
  blk_simp
  have e : (win0_16.blk t).view.emb (ix3 y0 y1 y2) = ix3 (0 : Fin 1) (⟨y1.val, h1⟩ : Fin 1024) (⟨y2.val, h2⟩ : Fin 128) := by
    refine funext fun a => Fin.ext ?_
    refine (win0_16.rect_emb_val t (ix3 y0 y1 y2) a).trans ?_
    rw [(idx t).2.2.2.2.2.2.2.2.2.2.2.2.2.2.2.2.1]
    match a with
    | 0 => show 0 * 1 + y0.val = 0; omega
    | 1 => exact (congrArg (· + y1.val) (Nat.zero_mul _)).trans (Nat.zero_add _)
    | 2 => exact (congrArg (· + y2.val) (Nat.zero_mul _)).trans (Nat.zero_add _)
  rw [e]
  obtain rfl : y0 = 0 := Subsingleton.elim _ _
  refine (after16 m c t y2 y1).trans ?_
  refine Finset.sum_congr (M := EReal) rfl fun k _ => (congrArg₂ (fun a b : EReal => a * b)
    ((congrFun (whole12 m c t) _).trans (host_wk m c y1 k)) (rowsAt_row m c t y2 k)).trans (mul_comm (G := EReal) _ _)

theorem final_values (c : Dev nD) : (dats m 0 c).arrAt 17 (cfgs 0).N = valuesOf m c := by
  refine (dats m 0 c).arrAt_eq_of_covers 17 _ (by decide +kernel) fun t _ y => ?_
  idx_vars y
  have h0 := y0.isLt
  have h1 := y1.isLt
  have h2 := y2.isLt
  blk_simp
  have e : (win0_17.blk t).view.emb (ix3 y0 y1 y2) = ix3 (0 : Fin 1) (⟨y1.val, h1⟩ : Fin 1024) (⟨y2.val, h2⟩ : Fin 128) := by
    refine funext fun a => Fin.ext ?_
    refine (win0_17.rect_emb_val t (ix3 y0 y1 y2) a).trans ?_
    rw [(idx t).2.2.2.2.2.2.2.2.2.2.2.2.2.2.2.2.2.1]
    match a with
    | 0 => show 0 * 1 + y0.val = 0; omega
    | 1 => exact (congrArg (· + y1.val) (Nat.zero_mul _)).trans (Nat.zero_add _)
    | 2 => exact (congrArg (· + y2.val) (Nat.zero_mul _)).trans (Nat.zero_add _)
  rw [e]
  obtain rfl : y0 = 0 := Subsingleton.elim _ _
  refine (after17 m c t y2 y1).trans ?_
  refine Finset.sum_congr (M := EReal) rfl fun k _ => (congrArg₂ (fun a b : EReal => a * b)
    ((congrFun (whole13 m c t) _).trans (host_wv m c y1 k)) (rowsAt_row m c t y2 k)).trans (mul_comm (G := EReal) _ _)

/-! The pool's rows, a host value. -/

theorem tail_v29 (X : Valuation τ sig (Elt Ideal)) : StableHlo.after tailOps X main_v29
    = Cert.Reference3Ideal.Read.val_main_v246 (X main_arg0) (X main_arg1) := by
  simp only [StableHlo.after_cons, StableHlo.after_nil]
  rw [StableHlo.reshape_result_ne main_v26 main_v30 _ _ _ _ _ (by decide), StableHlo.unary_result, StableHlo.unary_result, StableHlo.binary_result]
  rw [StableHlo.nary_result_ne _ _ _ _ _ _ (by decide), StableHlo.nary_result_ne _ _ _ _ _ _ (by decide)]
  rw [StableHlo.unary_result_ne _ _ _ _ _ _ (by decide), StableHlo.unary_result_ne _ _ _ _ _ _ (by decide), StableHlo.unary_result_ne _ _ _ _ _ _ (by decide), StableHlo.nullary_result_ne _ _ _ _ (by decide), StableHlo.reshape_result]
  rw [StableHlo.unary_result_ne _ _ _ _ _ _ (by decide), StableHlo.unary_result_ne _ _ _ _ _ _ (by decide), StableHlo.unary_result_ne _ _ _ _ _ _ (by decide), StableHlo.nullary_result_ne _ _ _ _ (by decide), StableHlo.reshape_result_ne main_arg1 main_v22 _ _ _ _ _ (by decide)]
  rfl

theorem host_last (c : Dev nD) : V m c main_v29
    = Cert.Reference3Ideal.Read.val_main_v246 (m ((c : Thread nD τ).loc main_arg0)) (m ((c : Thread nD τ).loc main_arg1)) := by
  have e : V m c main_v29 = StableHlo.after tailOps (StableHlo.after (hostOps0.take 22) fun b => m (c, b)) main_v29 :=
    (congrArg (fun l => StableHlo.after l (fun b => m (c, b)) main_v29) ops_split).trans (by rw [StableHlo.after_append])
  have e1 : (StableHlo.after ((hostOps0 : List (HloOp τ sig (Elt Ideal))).take 22) fun b => m (c, b)) main_arg1 = m ((c : Thread nD τ).loc main_arg1) := by
    entry_read
    rfl
  have e0 : (StableHlo.after ((hostOps0 : List (HloOp τ sig (Elt Ideal))).take 22) fun b => m (c, b)) main_arg0 = m ((c : Thread nD τ).loc main_arg0) := by
    entry_read
    rfl
  rw [e, tail_v29, e1, e0]

end Cert.Kernel3Ideal.Rows

end
-- ==== Proof.Third.lean ====
/- The value claim of the sample batch's first call. -/
module

public import proofs.«01_k».proof.Defs
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Pre_finite_context
public import proofs.«01_k».proof.Proof.Conditions
public import proofs.«01_k».proof.Proof.Value3
public import Idealize.ShloMosaic.Lib.Claim

@[expose] public section

set_option maxRecDepth 16384

noncomputable section

open Idealize.ShloMosaic Idealize.ShloMosaic.TcCoe Idealize.SL.Sem

namespace Cert.Third

attribute [local instance] Cert.Kernel3Ideal.Gen.facts Cert.Reference3Ideal.Gen.facts Cert.Pre_finite_context.Gen.facts

section
open Cert.Reference3Ideal

/-- The reference's run: its results over the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v233) = Read.val_main_v233
        (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v237) = Read.val_main_v237
        (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v240) = Read.val_main_v240
        (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v244) = Read.val_main_v244
        (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13))
      ∧ r.2.mem ((c.tc : Thread nD τ).loc main_v246) = Read.val_main_v246
        (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run _ _ _).mono (fun r h c => ?_) (Value.run m ρ)
  obtain ⟨h1, h2, h3, h4, h5, h6⟩ := h c
  refine ⟨?_, ?_, ?_, ?_, ?_, h6⟩
  · rw [h1, Read.val_main_v233_eq]
  · rw [h2, Read.val_main_v237_eq]
  · rw [h3, Read.val_main_v240_eq]
  · rw [h4, Read.val_main_v244_eq]
  · rw [h5, Read.val_main_v246_eq]

end

section
open Cert.Kernel3Ideal Cert.Kernel3Ideal.Gen Cert.Kernel3Ideal.Rows

variable (m : (ℓ : Loc nD τ sig) → Buf (Elt Ideal) ℓ)

/-- The pool's last rows. -/
abbrev lastOf (c : Dev nD) : Vec Ideal S1x32x15x1024 .f32 := Cert.Reference3Ideal.Read.val_main_v246
  (m ((c : Thread nD τ).loc main_arg0)) (m ((c : Thread nD τ).loc main_arg1))

/-- The call's run: its results over the arguments, the arguments unchanged. -/
theorem call_run (ρ : Dev nD → PrngReg) :
    θ_run (defs (F := Ideal)) (onTc (τ := τ) (main (F := Ideal))) ⟨m, fun _ => 0, ρ⟩ fun r => ∀ c : Dev nD,
      r.2.mem ((c : Thread nD τ).loc main_v31_1) = keysOf m c
      ∧ r.2.mem ((c : Thread nD τ).loc main_v31_2) = valuesOf m c
      ∧ r.2.mem ((c : Thread nD τ).loc main_v31_0) = hiddenOf m c
      ∧ r.2.mem ((c : Thread nD τ).loc main_v31_3) = queriesOf m c
      ∧ r.2.mem ((c : Thread nD τ).loc main_v29) = lastOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) := by
  refine (θ_run _ _ _).mono (fun r h c => ?_) (Cert.Kernel3Ideal.Gen.run_main m ρ)
  exact ⟨(Cert.Kernel3Ideal.Value.post16 m r h c).trans (final_keys m c),
    (Cert.Kernel3Ideal.Value.post17 m r h c).trans (final_values m c),
    (Cert.Kernel3Ideal.Value.post15 m r h c).trans (final_hidden m c),
    (Cert.Kernel3Ideal.Value.post18 m r h c).trans (final_queries m c),
    ((h c).2 main_v29 (Pipeline.mem_restRefs_of main_v29 (by decide) (by decide))).trans (host_last m c),
    Cert.Kernel3Ideal.Value.kept_main_arg0 m r h c,
    Cert.Kernel3Ideal.Value.kept_main_arg1 m r h c,
    Cert.Kernel3Ideal.Value.kept_main_arg2 m r h c,
    Cert.Kernel3Ideal.Value.kept_main_arg3 m r h c,
    Cert.Kernel3Ideal.Value.kept_main_arg4 m r h c,
    Cert.Kernel3Ideal.Value.kept_main_arg5 m r h c,
    Cert.Kernel3Ideal.Value.kept_main_arg6 m r h c,
    Cert.Kernel3Ideal.Value.kept_main_arg7 m r h c,
    Cert.Kernel3Ideal.Value.kept_main_arg8 m r h c,
    Cert.Kernel3Ideal.Value.kept_main_arg9 m r h c,
    Cert.Kernel3Ideal.Value.kept_main_arg10 m r h c,
    Cert.Kernel3Ideal.Value.kept_main_arg11 m r h c,
    Cert.Kernel3Ideal.Value.kept_main_arg12 m r h c,
    Cert.Kernel3Ideal.Value.kept_main_arg13 m r h c⟩

theorem rows_real (h : Cert.Pre_Kernel3Ideal_finite_context m) (c : Dev nD) (b : Fin 32) :
    Spec.Real (Cert.Reference3Ideal.Rows.rows (m ((c.tc : Thread nD τ).loc main_arg0)) (m ((c.tc : Thread nD τ).loc main_arg1)) b) := by
  obtain ⟨h0, h1⟩ := h c
  intro n d
  unfold Cert.Reference3Ideal.Rows.rows
  split
  · next hn => exact First.real_of_below _ (congrFun h1 (ix4 0 b ⟨n, hn⟩ d))
  · split
    · next hn => exact First.real_of_below _ (congrFun h0 (ix3 b ⟨n - 15, by omega⟩ d))
    · exact ⟨0, rfl⟩

variable (h : Cert.Pre_Kernel3Ideal_finite_context m) (c : Dev nD)
include h

theorem keys : Cert.Reference3Ideal.Read.val_main_v233
    (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = keysOf m c := by
  funext i
  obtain ⟨z, j, r, rfl⟩ : ∃ (z : Fin 1) (j : Fin 1024) (r : Fin 128), i = ix3 z j r :=
    ⟨i 0, i 1, i 2, funext fun a => by match a with | 0 => rfl | 1 => rfl | 2 => rfl⟩
  obtain rfl : z = 0 := Subsingleton.elim _ _
  exact Cert.Reference3Ideal.Rows.keys_row _ _ _ _ _ _ _ _ _ _ _ _ (rows_real m h c) j r

theorem values : Cert.Reference3Ideal.Read.val_main_v237
    (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = valuesOf m c := by
  funext i
  obtain ⟨z, j, r, rfl⟩ : ∃ (z : Fin 1) (j : Fin 1024) (r : Fin 128), i = ix3 z j r :=
    ⟨i 0, i 1, i 2, funext fun a => by match a with | 0 => rfl | 1 => rfl | 2 => rfl⟩
  obtain rfl : z = 0 := Subsingleton.elim _ _
  exact Cert.Reference3Ideal.Rows.values_row _ _ _ _ _ _ _ _ _ _ _ _ (rows_real m h c) j r

theorem hidden : Cert.Reference3Ideal.Read.val_main_v240
    (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = hiddenOf m c := by
  funext i
  obtain ⟨z, r, j, rfl⟩ : ∃ (z : Fin 1) (r : Fin 128) (j : Fin 1024), i = ix3 z r j :=
    ⟨i 0, i 1, i 2, funext fun a => by match a with | 0 => rfl | 1 => rfl | 2 => rfl⟩
  obtain rfl : z = 0 := Subsingleton.elim _ _
  exact Cert.Reference3Ideal.Rows.hidden_row _ _ _ _ _ _ _ _ _ _ _ (rows_real m h c) r j

theorem queries : Cert.Reference3Ideal.Read.val_main_v244
    (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) = queriesOf m c := by
  funext i
  obtain ⟨z, r, j, rfl⟩ : ∃ (z : Fin 1) (r : Fin 128) (j : Fin 1024), i = ix3 z r j :=
    ⟨i 0, i 1, i 2, funext fun a => by match a with | 0 => rfl | 1 => rfl | 2 => rfl⟩
  obtain rfl : z = 0 := Subsingleton.elim _ _
  exact Cert.Reference3Ideal.Rows.queries_row _ _ _ _ _ _ _ _ _ _ _ _ (rows_real m h c) r j

end

theorem algebraic : Cert.algebraic_Kernel3Ideal_Reference3Ideal_pre_finite_context := by
  intro m g m' g' hpre hagree
  refine ⟨fun c => Cert.Kernel3Ideal.Rows.keysOf m c, fun c => Cert.Kernel3Ideal.Rows.valuesOf m c,
    fun c => Cert.Kernel3Ideal.Rows.hiddenOf m c, fun c => Cert.Kernel3Ideal.Rows.queriesOf m c, fun c => lastOf m c, ?_, ?_⟩
  · exact (θ_run _ _ _).mono (fun r h c => h c) (call_run m g)
  · refine (θ_run _ _ _).mono (fun r h c => ?_) (ref_run m' g')
    obtain ⟨h1, h2, h3, h4, h5, h6⟩ := h c
    obtain ⟨a0, a1, a2, a3, a4, a5, a6, a7, a8, a9, a10, a11, a12, a13⟩ := hagree c
    rw [a0, a1, a3, a4, a5, a6, a7, a8, a9, a10, a11, a12] at h1 h2
    rw [a0, a1, a3, a4, a5, a6, a7, a8, a9, a10, a11] at h3
    rw [a0, a1, a3, a4, a5, a6, a7, a8, a9, a10, a11, a13] at h4
    rw [a0, a1] at h5
    exact ⟨h1.trans (keys m hpre c), h2.trans (values m hpre c), h3.trans (hidden m hpre c), h4.trans (queries m hpre c), h5, h6⟩

theorem frame : Cert.quiescent_Reference3Ideal := by
  intro m ρ _
  exact (θ_run _ _ _).mono (fun r h => ⟨fun c => (h c).2.2.2.2.2, sem_eq_zero_of_no_sems rfl _⟩)
    (Cert.Reference3Ideal.Value.run m ρ)

end Cert.Third

end
-- ==== Proof.Ref4.lean ====
/- The reference of the sample batch's last call, a row at a time. -/
module

public import proofs.«01_k».proof.Proof.Gen.Reference4Ideal.Read
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.Reference4Ideal.Rows

open Cert.Reference4Ideal Cert.Reference4Ideal.Gen Cert.Reference4Ideal.Read Cert.Spec

variable (x0 : (⟨S32x4x1024, .bf16⟩ : BufTy).Contents (Elt Ideal)) (x1 : (⟨S1x128x1024, .f32⟩ : BufTy).Contents (Elt Ideal))
  (x2 x3 : (⟨S2x2x1024, .f32⟩ : BufTy).Contents (Elt Ideal)) (x4 : (⟨S2x1024x4096, .f32⟩ : BufTy).Contents (Elt Ideal))
  (x5 : (⟨S2x4096, .f32⟩ : BufTy).Contents (Elt Ideal)) (x6 : (⟨S2x4096x1024, .f32⟩ : BufTy).Contents (Elt Ideal))
  (x7 : (⟨S2x1024, .f32⟩ : BufTy).Contents (Elt Ideal)) (x8 : (⟨S1x1024x1024, .f32⟩ : BufTy).Contents (Elt Ideal))

/-- The stream, position by position, as a batch. -/
theorem stream (b : Fin 32) (p : Fin 4) (k : Fin 1024) (n : Fin 128) (hn : n.val = p.val * 32 + b.val) :
    val_main_v2 x1 (ix3 b p k) = x1 (ix3 0 n k) := by
  rw [val_main_v2_apply, val_main_v1_apply]
  refine congrArg _ (funext fun a => Fin.ext ?_)
  have := b.isLt; have := p.isLt; have := k.isLt
  match a with
  | 0 => simp; try omega
  | 1 => simp; omega
  | 2 => simp; try omega

/-- The first sub-layer's row. -/
theorem first_row (b : Fin 32) (p : Fin 4) (j : Fin 1024) :
    val_main_v33 x0 x1 x2 x3 x8 (ix3 b p j)
      = inner (fun k => x1 (ix3 0 ⟨p.val * 32 + b.val, by omega⟩ k)) (fun k => ∑ q, x0 (ix3 b p q) * x8 (ix3 0 q k))
          (fun k => x2 (ix3 1 0 k)) (fun k => x3 (ix3 1 0 k)) j := by
  pointwise [val_main_v0, val_main_v3, val_main_v4, val_main_cst, val_main_v5, val_main_v6,
    val_main_v7, val_main_v8, val_main_v9, val_main_v10, val_main_v11, val_main_cst_0, val_main_v12, val_main_v13,
    val_main_cst_1, val_main_v14, val_main_v15, val_main_v16, val_main_v17, val_main_v18, val_main_cst_2,
    val_main_v19, val_main_v20, val_main_cst_3, val_main_v21, val_main_v22, val_main_cst_4, val_main_v23,
    val_main_v24, val_main_v25, val_main_v26, val_main_v27, val_main_v28, val_main_v29, val_main_v30, val_main_v31,
    val_main_v32, val_main_v33]
  simp only [fun k => stream x1 b p k ⟨p.val * 32 + b.val, by omega⟩ rfl]
  rfl

/-- The layer's row. -/
theorem layer_row (b : Fin 32) (p : Fin 4) (j : Fin 1024) :
    val_main_v80 x0 x1 x2 x3 x4 x5 x6 x7 x8 (ix3 b p j)
      = layer (fun k => x1 (ix3 0 ⟨p.val * 32 + b.val, by omega⟩ k)) (fun k => ∑ q, x0 (ix3 b p q) * x8 (ix3 0 q k))
          (fun k => x2 (ix3 1 0 k)) (fun k => x3 (ix3 1 0 k)) (fun k => x2 (ix3 1 1 k)) (fun k => x3 (ix3 1 1 k))
          (fun k f => x4 (ix3 1 k f)) (fun f => x5 (ix2 1 f)) (fun f k => x6 (ix3 1 f k)) (fun k => x7 (ix2 1 k)) j := by
  pointwise [val_main_cst_5, val_main_v34, val_main_v35, val_main_v36, val_main_v37, val_main_v38, val_main_v39,
    val_main_v40, val_main_v41, val_main_v42, val_main_v43, val_main_v44, val_main_v45, val_main_v46, val_main_v47,
    val_main_call0_cst, val_main_call0_v0, val_main_v48, val_main_v49, val_main_v50, val_main_v51, val_main_v52,
    val_main_v53, val_main_v54, val_main_v55, val_main_v56, val_main_v57, val_main_v58, val_main_cst_6,
    val_main_v59, val_main_v60, val_main_cst_7, val_main_v61, val_main_v62, val_main_v63, val_main_v64,
    val_main_v65, val_main_cst_8, val_main_v66, val_main_v67, val_main_cst_9, val_main_v68, val_main_v69,
    val_main_cst_10, val_main_v70, val_main_v71, val_main_v72, val_main_v73, val_main_v74, val_main_v75,
    val_main_v76, val_main_v77, val_main_v78, val_main_v79, val_main_v80]
  simp only [first_row]
  rfl

theorem result_row (n : Fin 128) (j : Fin 1024) (b : Fin 32) (p : Fin 4) (hn : n.val = p.val * 32 + b.val) :
    val_main_v82 x0 x1 x2 x3 x4 x5 x6 x7 x8 (ix2 n j)
      = layer (fun k => x1 (ix3 0 n k)) (fun k => ∑ q, x0 (ix3 b p q) * x8 (ix3 0 q k))
          (fun k => x2 (ix3 1 0 k)) (fun k => x3 (ix3 1 0 k)) (fun k => x2 (ix3 1 1 k)) (fun k => x3 (ix3 1 1 k))
          (fun k f => x4 (ix3 1 k f)) (fun f => x5 (ix2 1 f)) (fun f k => x6 (ix3 1 f k)) (fun k => x7 (ix2 1 k)) j := by
  have e : val_main_v82 x0 x1 x2 x3 x4 x5 x6 x7 x8 (ix2 n j)
      = val_main_v80 x0 x1 x2 x3 x4 x5 x6 x7 x8 (ix3 b p j) := by
    rw [val_main_v82_apply, val_main_v81_apply]
    refine congrArg _ (funext fun a => Fin.ext ?_)
    have := n.isLt; have := j.isLt; have := b.isLt; have := p.isLt
    match a with
    | 0 => simp; omega
    | 1 => simp; omega
    | 2 => simp; try omega
  have en : n = ⟨p.val * 32 + b.val, by have := b.isLt; have := p.isLt; omega⟩ := Fin.ext hn
  rw [en] at e ⊢
  exact e.trans (layer_row x0 x1 x2 x3 x4 x5 x6 x7 x8 b p j)

end Cert.Reference4Ideal.Rows

end
-- ==== Proof.Rows4.lean ====
/- The sample batch's last call's body, a row at a time: what the body computes from its blocks is the layer's row. -/
module

public import proofs.«01_k».proof.Proof.Gen.Kernel4Ideal.Skeleton
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.Kernel4Ideal.Rows

open Cert.Kernel4Ideal Cert.Kernel4Ideal.Gen Cert.Spec

/-- The first sub-layer's row. -/
theorem pay2_row (v0 : Vec Ideal S128x1024 .f32) (v2 : Vec Ideal S128x1024 .bf16) (v4 : Vec Ideal S1024x1024 .bf16)
    (v10 v12 : Vec Ideal S1x1024 .f32) (r : Fin 128) (j : Fin 1024) :
    k0_pay2 v0 v2 v4 v10 v12 (ix2 r j)
      = inner (fun k => v0 (ix2 r k)) (fun k => ∑ l, v2 (ix2 r l) * v4 (ix2 l k))
          (fun k => v10 (ix2 0 k)) (fun k => v12 (ix2 0 k)) j := by
  pointwise [k0_pay2]
  rfl

/-- The first two quarters of the network. -/
theorem pay5_row (v34 : FVec Ideal S128x1024 .bf16) (v35 : Vec Ideal S1024x1024 .bf16) (v38 : Vec Ideal S1x1024 .f32)
    (v46 v49 : Vec Ideal S1024x1024 .bf16) (v52 : Vec Ideal S1x1024 .f32) (v60 : Vec Ideal S1024x1024 .bf16)
    (v37 : FVec Ideal S128x1024 .f32) (h37 : ∀ r f, v37 (ix2 r f) = ∑ k, v34 (ix2 r k) * v35 (ix2 k f))
    (r : Fin 128) (j : Fin 1024) :
    k0_pay5 v34 v37 v38 v46 v49 v52 v60 (ix2 r j)
      = down (fun k => v34 (ix2 r k)) (fun k f => v35 (ix2 k f)) (fun f => v38 (ix2 0 f)) (fun f k => v46 (ix2 f k)) j
        + down (fun k => v34 (ix2 r k)) (fun k f => v49 (ix2 k f)) (fun f => v52 (ix2 0 f)) (fun f k => v60 (ix2 f k)) j := by
  pointwise [k0_pay5]
  simp only [h37]
  rfl

/-- The third quarter's squared hidden row. -/
theorem pay6_row (v34 : FVec Ideal S128x1024 .bf16) (v64 : Vec Ideal S1024x1024 .bf16) (v67 : Vec Ideal S1x1024 .f32)
    (r : Fin 128) (f : Fin 1024) :
    k0_pay6 v34 v64 v67 (ix2 r f)
      = hidden (fun k => v34 (ix2 r k)) (fun k f => v64 (ix2 k f)) (fun f => v67 (ix2 0 f)) f
        * hidden (fun k => v34 (ix2 r k)) (fun k f => v64 (ix2 k f)) (fun f => v67 (ix2 0 f)) f := by
  pointwise [k0_pay6]
  rfl

/-- The second sub-layer's row, its mean taken off. -/
theorem pay9_row (v33 : FVec Ideal S128x1024 .f32) (v34 : FVec Ideal S128x1024 .bf16) (v63 : FVec Ideal S128x1024 .f32)
    (v74 : FVec Ideal S128x1024 .bf16) (v75 v79 : Vec Ideal S1024x1024 .bf16) (v82 : Vec Ideal S1x1024 .f32)
    (v90 : Vec Ideal S1024x1024 .bf16) (v94 : Vec Ideal S1x1024 .f32) (X : Fin 128 → Row 1024)
    (hX : ∀ r j, X r j = alpha * v33 (ix2 r j)
      + (v63 (ix2 r j) + ∑ f, v74 (ix2 r f) * v75 (ix2 f j)
          + down (fun k => v34 (ix2 r k)) (fun k f => v79 (ix2 k f)) (fun f => v82 (ix2 0 f)) (fun f k => v90 (ix2 f k)) j
          + v94 (ix2 0 j)))
    (r : Fin 128) (j : Fin 1024) :
    k0_pay9 v33 v34 v63 v74 v75 v79 v82 v90 v94 (ix2 r j) = X r j - mean (X r) := by
  have hX' : ∀ r, X r = fun j => _ := fun r => funext (hX r)
  rw [hX']
  pointwise [k0_pay9]
  rfl

/-- The row sums of squares. -/
def squares (V : FVec Ideal S128x1024 .f32) : FVec Ideal S128x1 .f32 :=
  shapeCast S128x1 (multiReduction .add [1] S128 (mulf V V) 0x00000000#32 reduces_S128x1024_S128 (.inl rfl) rfl)
    shapeCasts_S128_S128x1

/-- The body's row, from its loads: the network's matrices and offsets come in quarters. -/
theorem body_row (P0 : Vec Ideal S128x1024 .f32) (P1 : Vec Ideal S128x1024 .bf16) (P2 : Vec Ideal S1024x1024 .bf16)
    (P3 P4 : Vec Ideal S1x1024 .f32) (P5 : Vec Ideal S1024x1024 .bf16) (P6 : Vec Ideal S1x1024 .f32)
    (P7 P8 : Vec Ideal S1024x1024 .bf16) (P9 : Vec Ideal S1x1024 .f32) (P10 P11 : Vec Ideal S1024x1024 .bf16)
    (P12 : Vec Ideal S1x1024 .f32) (P13 P14 : Vec Ideal S1024x1024 .bf16) (P15 : Vec Ideal S1x1024 .f32)
    (P16 : Vec Ideal S1024x1024 .bf16) (P17 P18 P19 : Vec Ideal S1x1024 .f32)
    (wu : Fin 1024 → Row 4096) (bu : Row 4096) (wd : Fin 4096 → Row 1024)
    (h5 : ∀ k f, P5 (ix2 k f) = wu k (quarter 0 f)) (h8 : ∀ k f, P8 (ix2 k f) = wu k (quarter 1 f))
    (h11 : ∀ k f, P11 (ix2 k f) = wu k (quarter 2 f)) (h14 : ∀ k f, P14 (ix2 k f) = wu k (quarter 3 f))
    (h6 : ∀ f, P6 (ix2 0 f) = bu (quarter 0 f)) (h9 : ∀ f, P9 (ix2 0 f) = bu (quarter 1 f))
    (h12 : ∀ f, P12 (ix2 0 f) = bu (quarter 2 f)) (h15 : ∀ f, P15 (ix2 0 f) = bu (quarter 3 f))
    (h7 : ∀ f k, P7 (ix2 f k) = wd (quarter 0 f) k) (h10 : ∀ f k, P10 (ix2 f k) = wd (quarter 1 f) k)
    (h13 : ∀ f k, P13 (ix2 f k) = wd (quarter 2 f) k) (h16 : ∀ f k, P16 (ix2 f k) = wd (quarter 3 f) k)
    (r : Fin 128) (j : Fin 1024) :
    k0_pay1 (k0_pay7 P18) (k0_pay8 P19)
        (k0_pay9 (k0_pay2 P0 P1 P2 P3 P4) (k0_pay3 P0 P1 P2 P3 P4)
          (k0_pay5 (k0_pay3 P0 P1 P2 P3 P4) (k0_pay4 P0 P1 P2 P3 P4 P5) P6 P7 P8 P9 P10)
          (k0_pay6 (k0_pay3 P0 P1 P2 P3 P4) P11 P12) P13 P14 P15 P16 P17)
        (k0_pay10 (k0_pay2 P0 P1 P2 P3 P4) (k0_pay3 P0 P1 P2 P3 P4)
          (k0_pay5 (k0_pay3 P0 P1 P2 P3 P4) (k0_pay4 P0 P1 P2 P3 P4 P5) P6 P7 P8 P9 P10)
          (k0_pay6 (k0_pay3 P0 P1 P2 P3 P4) P11 P12) P13 P14 P15 P16 P17)
        (k0_pay11 (F := Ideal)) (ix2 r j)
      = layer (fun k => P0 (ix2 r k)) (fun k => ∑ l, P1 (ix2 r l) * P2 (ix2 l k)) (fun k => P3 (ix2 0 k))
          (fun k => P4 (ix2 0 k)) (fun k => P18 (ix2 0 k)) (fun k => P19 (ix2 0 k)) wu bu wd (fun k => P17 (ix2 0 k)) j := by
  -- the first sub-layer's row, as the network reads it
  have h3 : ∀ r k, k0_pay3 P0 P1 P2 P3 P4 (ix2 r k) = k0_pay2 P0 P1 P2 P3 P4 (ix2 r k) := fun r k => by
    pointwise [k0_pay3]
  have h4 : ∀ r f, k0_pay4 P0 P1 P2 P3 P4 P5 (ix2 r f) = ∑ k, k0_pay3 P0 P1 P2 P3 P4 (ix2 r k) * P5 (ix2 k f) :=
    fun r f => by pointwise [k0_pay4]
  have h9' := pay9_row (k0_pay2 P0 P1 P2 P3 P4) (k0_pay3 P0 P1 P2 P3 P4)
    (k0_pay5 (k0_pay3 P0 P1 P2 P3 P4) (k0_pay4 P0 P1 P2 P3 P4 P5) P6 P7 P8 P9 P10)
    (k0_pay6 (k0_pay3 P0 P1 P2 P3 P4) P11 P12) P13 P14 P15 P16 P17
    (fun r k => alpha * inner (fun k => P0 (ix2 r k)) (fun k => ∑ l, P1 (ix2 r l) * P2 (ix2 l k))
        (fun k => P3 (ix2 0 k)) (fun k => P4 (ix2 0 k)) k
      + (down (inner (fun k => P0 (ix2 r k)) (fun k => ∑ l, P1 (ix2 r l) * P2 (ix2 l k))
        (fun k => P3 (ix2 0 k)) (fun k => P4 (ix2 0 k))) wu bu wd k + P17 (ix2 0 k)))
    (fun r j => by
      simp only [pay5_row _ _ _ _ _ _ _ _ h4, pay6_row, h3, pay2_row, h5, h6, h7, h8, h9, h10, h11, h12, h13, h14, h15, h16]
      rw [down_quarters]
      rfl)
  have h10' : k0_pay10 (k0_pay2 P0 P1 P2 P3 P4) (k0_pay3 P0 P1 P2 P3 P4)
      (k0_pay5 (k0_pay3 P0 P1 P2 P3 P4) (k0_pay4 P0 P1 P2 P3 P4 P5) P6 P7 P8 P9 P10)
      (k0_pay6 (k0_pay3 P0 P1 P2 P3 P4) P11 P12) P13 P14 P15 P16 P17 = squares (k0_pay9 (k0_pay2 P0 P1 P2 P3 P4) (k0_pay3 P0 P1 P2 P3 P4)
      (k0_pay5 (k0_pay3 P0 P1 P2 P3 P4) (k0_pay4 P0 P1 P2 P3 P4 P5) P6 P7 P8 P9 P10)
      (k0_pay6 (k0_pay3 P0 P1 P2 P3 P4) P11 P12) P13 P14 P15 P16 P17) := rfl
  rw [h10']
  generalize k0_pay9 (k0_pay2 P0 P1 P2 P3 P4) (k0_pay3 P0 P1 P2 P3 P4)
    (k0_pay5 (k0_pay3 P0 P1 P2 P3 P4) (k0_pay4 P0 P1 P2 P3 P4 P5) P6 P7 P8 P9 P10)
    (k0_pay6 (k0_pay3 P0 P1 P2 P3 P4) P11 P12) P13 P14 P15 P16 P17 = V at h9' ⊢
  pointwise [k0_pay1, k0_pay7, k0_pay8, k0_pay11, squares]
  simp only [h9']
  rfl

end Cert.Kernel4Ideal.Rows

end
-- ==== Proof.Value4.lean ====
/- The result of the sample batch's last call. -/
module

public import proofs.«01_k».proof.Proof.Gen.Kernel4Ideal.Value
public import proofs.«01_k».proof.Proof.Ref4
public import proofs.«01_k».proof.Proof.Rows4
public import proofs.«01_k».proof.Proof.Loads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Rows

open Cert.Kernel4Ideal Cert.Kernel4Ideal.Gen Cert.Spec

theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ)

/-! What the host code makes of the arguments, at an index. -/

theorem host_o (c : Dev nD) (n : Fin 128) (k : Fin 1024) (b : Fin 32) (p : Fin 4) (hn : n.val = p.val * 32 + b.val) :
    V m c main_v16 (ix2 n k) = m ((c : Thread nD τ).loc main_arg0) (ix3 b p k) := by
  entry_read
  pointwise
  blk_ext

theorem host_h (c : Dev nD) (n : Fin 128) (k : Fin 1024) :
    V m c main_v14 (ix2 n k) = m ((c : Thread nD τ).loc main_arg1) (ix3 0 n k) := by
  entry_read
  pointwise

theorem host_wo (c : Dev nD) (l k : Fin 1024) :
    V m c main_v1 (ix2 l k) = m ((c : Thread nD τ).loc main_arg8) (ix3 0 l k) := by
  entry_read
  pointwise

theorem host_g (c : Dev nD) (a : Fin 2) (k : Fin 1024) :
    V m c main_v3 (ix2 a k) = m ((c : Thread nD τ).loc main_arg2) (ix3 1 a k) := by
  entry_read
  pointwise

theorem host_b (c : Dev nD) (a : Fin 2) (k : Fin 1024) :
    V m c main_v5 (ix2 a k) = m ((c : Thread nD τ).loc main_arg3) (ix3 1 a k) := by
  entry_read
  pointwise

theorem host_wu (c : Dev nD) (k : Fin 1024) (f : Fin 4096) :
    V m c main_v8 (ix2 k f) = m ((c : Thread nD τ).loc main_arg4) (ix3 1 k f) := by
  entry_read
  pointwise

theorem host_bu (c : Dev nD) (f : Fin 4096) :
    V m c main_v9 (ix2 0 f) = m ((c : Thread nD τ).loc main_arg5) (ix2 1 f) := by
  entry_read
  pointwise

theorem host_wd (c : Dev nD) (f : Fin 4096) (k : Fin 1024) :
    V m c main_v12 (ix2 f k) = m ((c : Thread nD τ).loc main_arg6) (ix3 1 f k) := by
  entry_read
  pointwise

theorem host_bd (c : Dev nD) (k : Fin 1024) :
    V m c main_v13 (ix2 0 k) = m ((c : Thread nD τ).loc main_arg7) (ix2 1 k) := by
  entry_read
  pointwise

/-! The blocks the body loads: every window is a whole array. -/

theorem whole0 (c : Dev nD) (t : Fin cfg0.N) : iblk m c 0 t = V m c main_v16 := by blk_ext! [iblk, idx t]
theorem whole1 (c : Dev nD) (t : Fin cfg0.N) : iblk m c 1 t = V m c main_v14 := by blk_ext! [iblk, idx t]
theorem whole2 (c : Dev nD) (t : Fin cfg0.N) : iblk m c 2 t = V m c main_v1 := by blk_ext! [iblk, idx t]
theorem whole3 (c : Dev nD) (t : Fin cfg0.N) : iblk m c 3 t = V m c main_v3 := by blk_ext! [iblk, idx t]
theorem whole4 (c : Dev nD) (t : Fin cfg0.N) : iblk m c 4 t = V m c main_v5 := by blk_ext! [iblk, idx t]
theorem whole5 (c : Dev nD) (t : Fin cfg0.N) : iblk m c 5 t = V m c main_v8 := by blk_ext! [iblk, idx t]
theorem whole6 (c : Dev nD) (t : Fin cfg0.N) : iblk m c 6 t = V m c main_v9 := by blk_ext! [iblk, idx t]
theorem whole7 (c : Dev nD) (t : Fin cfg0.N) : iblk m c 7 t = V m c main_v12 := by blk_ext! [iblk, idx t]
theorem whole8 (c : Dev nD) (t : Fin cfg0.N) : iblk m c 8 t = V m c main_v13 := by blk_ext! [iblk, idx t]

/-- The body's row over whole matrices: the loads are the quarters and the two norms' rows. -/
theorem loads_row (P0 : Vec Ideal S128x1024 .f32) (P1 : Vec Ideal S128x1024 .bf16) (P2 : Vec Ideal S1024x1024 .bf16)
    (G B : Vec Ideal S2x1024 .f32) (WU : Vec Ideal S1024x4096 .bf16) (BU : Vec Ideal S1x4096 .f32)
    (WD : Vec Ideal S4096x1024 .bf16) (BD : Vec Ideal S1x1024 .f32) (r : Fin 128) (j : Fin 1024) :
    k0_pay1 (k0_pay7 (View.ld G r0_16)) (k0_pay8 (View.ld B r0_16))
        (k0_pay9 (k0_pay2 P0 P1 P2 (View.ld G r0_2) (View.ld B r0_2)) (k0_pay3 P0 P1 P2 (View.ld G r0_2) (View.ld B r0_2))
          (k0_pay5 (k0_pay3 P0 P1 P2 (View.ld G r0_2) (View.ld B r0_2))
            (k0_pay4 P0 P1 P2 (View.ld G r0_2) (View.ld B r0_2) (View.ld WU r0_3))
            (View.ld BU r0_4) (View.ld WD r0_5) (View.ld WU r0_6) (View.ld BU r0_7) (View.ld WD r0_8))
          (k0_pay6 (k0_pay3 P0 P1 P2 (View.ld G r0_2) (View.ld B r0_2)) (View.ld WU r0_9) (View.ld BU r0_10))
          (View.ld WD r0_11) (View.ld WU r0_12) (View.ld BU r0_13) (View.ld WD r0_14) BD)
        (k0_pay10 (k0_pay2 P0 P1 P2 (View.ld G r0_2) (View.ld B r0_2)) (k0_pay3 P0 P1 P2 (View.ld G r0_2) (View.ld B r0_2))
          (k0_pay5 (k0_pay3 P0 P1 P2 (View.ld G r0_2) (View.ld B r0_2))
            (k0_pay4 P0 P1 P2 (View.ld G r0_2) (View.ld B r0_2) (View.ld WU r0_3))
            (View.ld BU r0_4) (View.ld WD r0_5) (View.ld WU r0_6) (View.ld BU r0_7) (View.ld WD r0_8))
          (k0_pay6 (k0_pay3 P0 P1 P2 (View.ld G r0_2) (View.ld B r0_2)) (View.ld WU r0_9) (View.ld BU r0_10))
          (View.ld WD r0_11) (View.ld WU r0_12) (View.ld BU r0_13) (View.ld WD r0_14) BD)
        (k0_pay11 (F := Ideal)) (ix2 r j)
      = layer (fun k => P0 (ix2 r k)) (fun k => ∑ l, P1 (ix2 r l) * P2 (ix2 l k)) (fun k => G (ix2 0 k))
          (fun k => B (ix2 0 k)) (fun k => G (ix2 1 k)) (fun k => B (ix2 1 k)) (fun k f => WU (ix2 k f))
          (fun f => BU (ix2 0 f)) (fun f k => WD (ix2 f k)) (fun k => BD (ix2 0 k)) j := by
  have g0 : ∀ k, View.ld G r0_2 (ix2 0 k) = G (ix2 0 k) := fun k => piece _ _ _ _ _ _ _ _ (from_zero 0) (from_zero k)
  have g1 : ∀ k, View.ld G r0_16 (ix2 0 k) = G (ix2 1 k) := fun k => piece _ _ _ _ _ _ _ _ rfl (from_zero k)
  have b0 : ∀ k, View.ld B r0_2 (ix2 0 k) = B (ix2 0 k) := fun k => piece _ _ _ _ _ _ _ _ (from_zero 0) (from_zero k)
  have b1 : ∀ k, View.ld B r0_16 (ix2 0 k) = B (ix2 1 k) := fun k => piece _ _ _ _ _ _ _ _ rfl (from_zero k)
  refine (body_row P0 P1 P2 _ _ _ _ _ _ _ _ _ _ _ _ _ _ BD _ _ (fun k f => WU (ix2 k f))
    (fun f => BU (ix2 0 f)) (fun f k => WD (ix2 f k))
    (fun k f => piece _ _ _ _ _ _ _ _ (from_zero k) (quarter_val 0 f _ rfl))
    (fun k f => piece _ _ _ _ _ _ _ _ (from_zero k) (quarter_val 1 f _ rfl))
    (fun k f => piece _ _ _ _ _ _ _ _ (from_zero k) (quarter_val 2 f _ rfl))
    (fun k f => piece _ _ _ _ _ _ _ _ (from_zero k) (quarter_val 3 f _ rfl))
    (fun f => piece _ _ _ _ _ _ _ _ (from_zero 0) (quarter_val 0 f _ rfl))
    (fun f => piece _ _ _ _ _ _ _ _ (from_zero 0) (quarter_val 1 f _ rfl))
    (fun f => piece _ _ _ _ _ _ _ _ (from_zero 0) (quarter_val 2 f _ rfl))
    (fun f => piece _ _ _ _ _ _ _ _ (from_zero 0) (quarter_val 3 f _ rfl))
    (fun f k => piece _ _ _ _ _ _ _ _ (quarter_val 0 f _ rfl) (from_zero k))
    (fun f k => piece _ _ _ _ _ _ _ _ (quarter_val 1 f _ rfl) (from_zero k))
    (fun f k => piece _ _ _ _ _ _ _ _ (quarter_val 2 f _ rfl) (from_zero k))
    (fun f k => piece _ _ _ _ _ _ _ _ (quarter_val 3 f _ rfl) (from_zero k)) r j).trans ?_
  simp only [g0, g1, b0, b1]

/-- The result array is the reference's, over the kernel's arguments. -/
theorem final (c : Dev nD) : (dats m 0 c).arrAt 9 (cfgs 0).N
    = Cert.Reference4Ideal.Read.val_main_v82 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t _ y => ?_
  idx_vars y
  have hy := y0.isLt
  blk_simp
  rw [after0_9]
  unfold_out out0_9
  frame_out
  have e : ((View.whole main_v17).slice (win0_9.rect t)).emb (ix2 y0 y1) = ix2 (⟨y0.val, hy⟩ : Fin 128) y1 := by
    refine funext fun a => Fin.ext ?_
    refine (win0_9.rect_emb_val t (ix2 y0 y1) a).trans ?_
    rw [(idx t).2.2.2.2.2.2.2.2.2]
    match a with
    | 0 => exact (congrArg (· + y0.val) (Nat.zero_mul _)).trans (Nat.zero_add _)
    | 1 => exact (congrArg (· + y1.val) (Nat.zero_mul _)).trans (Nat.zero_add _)
  rw [e]
  -- the row's sequence and its place in it
  obtain ⟨b, hb⟩ : ∃ b : Fin 32, b.val = y0.val % 32 := ⟨⟨y0.val % 32, by omega⟩, rfl⟩
  obtain ⟨p, hp⟩ : ∃ p : Fin 4, p.val = y0.val / 32 := ⟨⟨y0.val / 32, by omega⟩, rfl⟩
  have hn : y0.val = p.val * 32 + b.val := by omega
  have h1 : ∀ k, iblk m c 1 t (ix2 y0 k) = m ((c : Thread nD τ).loc main_arg1) (ix3 0 y0 k) :=
    fun k => (congrFun (whole1 m c t) _).trans (host_h m c y0 k)
  have h0 : ∀ k, iblk m c 0 t (ix2 y0 k) = m ((c : Thread nD τ).loc main_arg0) (ix3 b p k) :=
    fun k => (congrFun (whole0 m c t) _).trans (host_o m c y0 k b p hn)
  refine (loads_row _ _ _ _ _ _ _ _ _ y0 y1).trans ?_
  refine Eq.trans ?_ (Cert.Reference4Ideal.Rows.result_row _ _ _ _ _ _ _ _ _ _ y1 b p hn).symm
  exact layer_congr h1
      (fun k => Finset.sum_congr rfl fun q _ => congrArg₂ (fun a b : EReal => a * b) (h0 q) ((congrFun (whole2 m c t) _).trans (host_wo m c q k)))
      (fun k => (congrFun (whole3 m c t) _).trans (host_g m c 0 k)) (fun k => (congrFun (whole4 m c t) _).trans (host_b m c 0 k))
      (fun k => (congrFun (whole3 m c t) _).trans (host_g m c 1 k)) (fun k => (congrFun (whole4 m c t) _).trans (host_b m c 1 k))
      (fun k f => (congrFun (whole5 m c t) _).trans (host_wu m c k f)) (fun f => (congrFun (whole6 m c t) _).trans (host_bu m c f))
      (fun f k => (congrFun (whole7 m c t) _).trans (host_wd m c f k)) (fun k => (congrFun (whole8 m c t) _).trans (host_bd m c k)) y1

end Cert.Kernel4Ideal.Rows

end
-- ==== Proof.Fourth.lean ====
/- The value claim of the sample batch's last call. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Value4
public import Idealize.ShloMosaic.Lib.Claim

@[expose] public section

set_option maxRecDepth 16384

noncomputable section

open Idealize.ShloMosaic Idealize.ShloMosaic.TcCoe Idealize.SL.Sem

namespace Cert.Fourth

attribute [local instance] Cert.Kernel4Ideal.Gen.facts Cert.Reference4Ideal.Gen.facts

section
open Cert.Reference4Ideal

/-- The reference's run: its result over the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v82) = Read.val_main_v82
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (Value.run m ρ)
  obtain ⟨h1, h2⟩ := h c
  refine ⟨?_, h2⟩
  rw [h1, Read.val_main_v82_eq]

end

theorem algebraic : Cert.algebraic_Kernel4Ideal_Reference4Ideal := by
  pair_intro
  · run_from Cert.Kernel4Ideal.Value.run_blocks m g
  · refine (θ_run _ _ _).mono (fun r h c => ?_) (ref_run m' g')
    obtain ⟨h1, h2⟩ := h c
    refine ⟨?_, h2⟩
    obtain ⟨a0, a1, a2, a3, a4, a5, a6, a7, a8⟩ := hagree c
    rw [h1, a0, a1, a2, a3, a4, a5, a6, a7, a8]
    exact (Cert.Kernel4Ideal.Rows.final m c).symm

theorem frame : Cert.quiescent_Reference4Ideal := by
  intro m ρ _
  exact (θ_run _ _ _).mono (fun r h => ⟨fun c => (h c).2, sem_eq_zero_of_no_sems rfl _⟩) (ref_run m ρ)

end Cert.Fourth

end
-- ==== Proof.lean ====
/- The proof of the certificate's claim: the frames, and the value claims of the four calls. -/
module

public import proofs.«01_k».proof.Defs
public import proofs.«01_k».proof.Proof.Gen.Kernel
public import proofs.«01_k».proof.Proof.Gen.Kernel.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_context
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.KernelIdeal
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Pre_finite_rows
public import proofs.«01_k».proof.Proof.Gen.On_real_rows
public import proofs.«01_k».proof.Proof.First
public import proofs.«01_k».proof.Proof.FirstRef
public import proofs.«01_k».proof.Proof.Second
public import proofs.«01_k».proof.Proof.Third
public import proofs.«01_k».proof.Proof.Fourth
public import Idealize.ShloMosaic.Adequacy
public import Idealize.ShloMosaic.Init

@[expose] public section

noncomputable section

namespace Cert.Proof

open Idealize.ShloMosaic Idealize.SL.Sem

theorem claim : Cert.Claim := by
  refine ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Pre_finite_rows.Gen.facts,
    Cert.Pre_finite_context.Gen.facts,
    Cert.On_real_rows.Gen.facts,
    fun m ρ _ => Cert.Kernel.Gen.frame m ρ,
    fun m ρ _ => Cert.KernelIdeal.Gen.frame m ρ,
    fun m ρ _ => Cert.KernelIdeal.Gen.frame m ρ,
    Cert.First.frame,
    fun m ρ _ => Cert.First.frame m ρ trivial,
    fun m ρ _ => Cert.Kernel2.Gen.frame m ρ,
    fun m ρ _ => Cert.Kernel2Ideal.Gen.frame m ρ,
    Cert.Second.frame,
    fun m ρ _ => Cert.Kernel3.Gen.frame m ρ,
    fun m ρ _ => Cert.Kernel3Ideal.Gen.frame m ρ,
    fun m ρ _ => Cert.Kernel3Ideal.Gen.frame m ρ,
    Cert.Third.frame,
    fun m ρ _ => Cert.Third.frame m ρ trivial,
    fun m ρ _ => Cert.Kernel4.Gen.frame m ρ,
    fun m ρ _ => Cert.Kernel4Ideal.Gen.frame m ρ,
    Cert.Fourth.frame,
    fun m ρ _ => Cert.Kernel5.Gen.frame m ρ,
    fun m ρ _ => Cert.Kernel5Ideal.Gen.frame m ρ,
    trivial,
    Cert.First.algebraic,
    trivial,
    Cert.Second.algebraic,
    trivial,
    Cert.Third.algebraic,
    trivial,
    Cert.Fourth.algebraic,
    trivial⟩

end Cert.Proof

end
